-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Rows [hPre_indices_in_rows : Cert.Pre_indices_in_rows.Facts] (m : (ℓ : Loc Cert.Rows.nD Cert.Rows.τ Cert.Rows.sig) → Buf (Elt Bits) ℓ) : Prop :=
  ∀ c : Dev Cert.Rows.nD,
    (Cert.Pre_indices_in_rows.fn (F := Bits) (m ((c.tc : Thread Cert.Rows.nD Cert.Rows.τ).loc Cert.Rows.main_arg0)) (m ((c.tc : Thread Cert.Rows.nD Cert.Rows.τ).loc Cert.Rows.main_arg1)) (m ((c.tc : Thread Cert.Rows.nD Cert.Rows.τ).loc Cert.Rows.main_arg2))) = (fun _ => 1#1)

def Pre_RowsIdeal [hPre_indices_in_rows : Cert.Pre_indices_in_rows.Facts] (m : (ℓ : Loc Cert.RowsIdeal.nD Cert.RowsIdeal.τ Cert.RowsIdeal.sig) → Buf (Elt Ideal) ℓ) : Prop :=
  ∀ c : Dev Cert.RowsIdeal.nD,
    (Cert.Pre_indices_in_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2))) = (fun _ => 1#1)

def Pre_RowsRefIdeal [hPre_indices_in_rows : Cert.Pre_indices_in_rows.Facts] (m : (ℓ : Loc Cert.RowsRefIdeal.nD Cert.RowsRefIdeal.τ Cert.RowsRefIdeal.sig) → Buf (Elt Ideal) ℓ) : Prop :=
  ∀ c : Dev Cert.RowsRefIdeal.nD,
    (Cert.Pre_indices_in_rows.fn (F := Ideal) (m ((c.tc : Thread Cert.RowsRefIdeal.nD Cert.RowsRefIdeal.τ).loc Cert.RowsRefIdeal.main_arg0)) (m ((c.tc : Thread Cert.RowsRefIdeal.nD Cert.RowsRefIdeal.τ).loc Cert.RowsRefIdeal.main_arg1)) (m ((c.tc : Thread Cert.RowsRefIdeal.nD Cert.RowsRefIdeal.τ).loc Cert.RowsRefIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Rows [hRows : Cert.Rows.Facts] [hPre_indices_in_rows : Cert.Pre_indices_in_rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (Cert.Rows.threads (F := Bits)) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2))
      ∧ r.2.sem = fun _ => 0)

def quiescent_RowsIdeal [hRowsIdeal : Cert.RowsIdeal.Facts] [hPre_indices_in_rows : Cert.Pre_indices_in_rows.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (Cert.RowsIdeal.threads (F := Ideal)) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ r.2.sem = fun _ => 0)

def quiescent_RowsRefIdeal [hRowsRefIdeal : Cert.RowsRefIdeal.Facts] [hPre_indices_in_rows : Cert.Pre_indices_in_rows.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v52)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_indices) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Rows_RowsIdeal : Prop :=
  True

def algebraic_RowsIdeal_RowsRefIdeal [hRowsIdeal : Cert.RowsIdeal.Facts] [hRowsRefIdeal : Cert.RowsRefIdeal.Facts] [hPre_indices_in_rows : Cert.Pre_indices_in_rows.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)) →
    ∃ (v0 : (c : Dev Cert.RowsIdeal.nD) → Buf (Elt Ideal) ((c.tc : Thread Cert.RowsIdeal.nD Cert.RowsIdeal.τ).loc Cert.RowsIdeal.main_v14)) (v1 : (c : Dev Cert.RowsIdeal.nD) → Buf (Elt Ideal) ((c.tc : Thread Cert.RowsIdeal.nD Cert.RowsIdeal.τ).loc Cert.RowsIdeal.main_v15)) (v2 : (c : Dev Cert.RowsIdeal.nD) → Buf (Elt Ideal) ((c.tc : Thread Cert.RowsIdeal.nD Cert.RowsIdeal.τ).loc Cert.RowsIdeal.main_v18)),
      θ_run (Cert.RowsIdeal.defs (F := Ideal)) (Cert.RowsIdeal.threads (F := Ideal)) ⟨m, fun _ => 0, g⟩ (fun r => ∀ c : Dev Cert.RowsIdeal.nD,
          r.2.mem ((c.tc : Thread Cert.RowsIdeal.nD Cert.RowsIdeal.τ).loc Cert.RowsIdeal.main_v14) = v0 c
          ∧ r.2.mem ((c.tc : Thread Cert.RowsIdeal.nD Cert.RowsIdeal.τ).loc Cert.RowsIdeal.main_v15) = v1 c
          ∧ r.2.mem ((c.tc : Thread Cert.RowsIdeal.nD Cert.RowsIdeal.τ).loc Cert.RowsIdeal.main_v18) = v2 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v16) = v0 c
          ∧ r.2.mem ((c.tc : Thread Cert.RowsRefIdeal.nD Cert.RowsRefIdeal.τ).loc Cert.RowsRefIdeal.main_v30) = v1 c
          ∧ r.2.mem ((c.tc : Thread Cert.RowsRefIdeal.nD Cert.RowsRefIdeal.τ).loc Cert.RowsRefIdeal.main_v2) = v2 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2))

def Claim : Prop :=
  ∃ (hKernelIdeal : Cert.KernelIdeal.Facts) (hReferenceIdeal : Cert.ReferenceIdeal.Facts) (hRows : Cert.Rows.Facts) (hRowsIdeal : Cert.RowsIdeal.Facts) (hRowsRefIdeal : Cert.RowsRefIdeal.Facts) (hPre_finite : Cert.Pre_finite.Facts) (hPre_indices_in_rows : Cert.Pre_indices_in_rows.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Rows (hRows := hRows) (hPre_indices_in_rows := hPre_indices_in_rows)
    ∧ quiescent_RowsIdeal (hRowsIdeal := hRowsIdeal) (hPre_indices_in_rows := hPre_indices_in_rows)
    ∧ quiescent_RowsRefIdeal (hRowsRefIdeal := hRowsRefIdeal) (hPre_indices_in_rows := hPre_indices_in_rows)
    ∧ algebraic_KernelIdeal_ReferenceIdeal_pre_finite (hKernelIdeal := hKernelIdeal) (hReferenceIdeal := hReferenceIdeal) (hPre_finite := hPre_finite)
    ∧ preserves_Rows_RowsIdeal
    ∧ algebraic_RowsIdeal_RowsRefIdeal (hRowsIdeal := hRowsIdeal) (hRowsRefIdeal := hRowsRefIdeal) (hPre_indices_in_rows := hPre_indices_in_rows)
-- ==== Pre_finite.lean ====
abbrev S4x50000x32 : Shape := ⟨3, ![4, 50000, 32]⟩
abbrev S128x64 : Shape := ⟨2, ![128, 64]⟩
abbrev S_ : Shape := ⟨0, ![]⟩

class Facts : Prop where
  bcast_S_S4x50000x32 : S_.BroadcastsInDim S4x50000x32 (![] : Fin 0 → Fin S4x50000x32.rank)
  reducesTo_S4x50000x32_S_d0_1_2 : S4x50000x32.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S4x50000x32 .f32) (main_arg1 : FVec F S4x50000x32 .f32) (main_arg2 : FVec F S128x64 .f32) : IVec S_ 1 :=
  let main_v0 : FVec F S4x50000x32 .f32 := Host.absf main_arg0
  let main_cst : FVec F S_ .f32 := constant S_ .f32 0x7F800000#32
  let main_v1 : FVec F S4x50000x32 .f32 := broadcastInDim S4x50000x32 ![] bcast_S_S4x50000x32 main_cst
  let main_v2 : IVec S4x50000x32 1 := cmpf .olt main_v0 main_v1
  let main_c : IVec S_ 1 := constantI S_ 1 1#1
  let main_v3 : IVec S_ 1 := (fun x v => Host.reduce IntOp.andi x v reducesTo_S4x50000x32_S_d0_1_2 h_S_) main_v2 main_c
  let main_v4 : FVec F S4x50000x32 .f32 := Host.absf main_arg1
  let main_cst_0 : FVec F S_ .f32 := constant S_ .f32 0x7F800000#32
  let main_v5 : FVec F S4x50000x32 .f32 := broadcastInDim S4x50000x32 ![] bcast_S_S4x50000x32 main_cst_0
  let main_v6 : IVec S4x50000x32 1 := cmpf .olt main_v4 main_v5
  let main_c_1 : IVec S_ 1 := constantI S_ 1 1#1
  let main_v7 : IVec S_ 1 := (fun x v => Host.reduce IntOp.andi x v reducesTo_S4x50000x32_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Pre_indices_in_rows.lean ====
abbrev S4x50000x32 : Shape := ⟨3, ![4, 50000, 32]⟩
abbrev S4x128x32 : Shape := ⟨3, ![4, 128, 32]⟩
abbrev S_ : Shape := ⟨0, ![]⟩

class Facts : Prop where
  bcast_S_S4x128x32 : S_.BroadcastsInDim S4x128x32 (![] : Fin 0 → Fin S4x128x32.rank)

variable [Facts]

def fn {F : FTy → Type} [FloatOps F] (main_arg0 : FVec F S4x50000x32 .f32) (main_arg1 : FVec F S4x50000x32 .f32) (main_arg2 : IVec S4x128x32 32) : IVec S4x128x32 1 :=
  let main_c : IVec S_ 32 := constantI S_ 32 0#32
  let main_v0 : IVec S4x128x32 32 := broadcastInDim S4x128x32 ![] bcast_S_S4x128x32 main_c
  let main_v1 : IVec S4x128x32 1 := cmpi .sge main_arg2 main_v0
  let main_c_0 : IVec S_ 32 := constantI S_ 32 50000#32
  let main_v2 : IVec S4x128x32 32 := broadcastInDim S4x128x32 ![] bcast_S_S4x128x32 main_c_0
  let main_v3 : IVec S4x128x32 1 := cmpi .slt main_arg2 main_v2
  let main_v4 : IVec S4x128x32 1 := andi main_v1 main_v3
  main_v4
-- ==== KernelIdeal.lean ====
abbrev S4x50000x32 : Shape := ⟨3, ![4, 50000, 32]⟩
abbrev S128x64 : Shape := ⟨2, ![128, 64]⟩
abbrev S4x25x128x2048 : Shape := ⟨4, ![4, 25, 128, 2048]⟩
abbrev S4x128x32 : Shape := ⟨3, ![4, 128, 32]⟩
abbrev S1x2048x32 : Shape := ⟨3, ![1, 2048, 32]⟩
abbrev S1x1x128x2048 : Shape := ⟨4, ![1, 1, 128, 2048]⟩
abbrev S1x128x32 : Shape := ⟨3, ![1, 128, 32]⟩
abbrev S32x128x64 : Shape := ⟨3, ![32, 128, 64]⟩
abbrev S2048x32 : Shape := ⟨2, ![2048, 32]⟩
abbrev S2048x64 : Shape := ⟨2, ![2048, 64]⟩
abbrev S128x2048 : Shape := ⟨2, ![128, 2048]⟩
abbrev S128x64x32 : Shape := ⟨3, ![128, 64, 32]⟩
abbrev S1x128x64 : Shape := ⟨3, ![1, 128, 64]⟩
abbrev S128x32 : Shape := ⟨2, ![128, 32]⟩
abbrev S32x128 : Shape := ⟨2, ![32, 128]⟩
abbrev S32x128x1 : Shape := ⟨3, ![32, 128, 1]⟩
abbrev S128x1 : Shape := ⟨2, ![128, 1]⟩
abbrev S1x128x1 : Shape := ⟨3, ![1, 128, 1]⟩
abbrev S4 : Shape := ⟨1, ![4]⟩
abbrev S4x1x1 : Shape := ⟨3, ![4, 1, 1]⟩
abbrev S128 : Shape := ⟨1, ![128]⟩
abbrev S_ : Shape := ⟨0, ![]⟩
abbrev S16384 : Shape := ⟨1, ![16384]⟩
abbrev S819200x32 : Shape := ⟨2, ![819200, 32]⟩
abbrev S819200x128 : Shape := ⟨2, ![819200, 128]⟩
abbrev S16384x128 : Shape := ⟨2, ![16384, 128]⟩
abbrev S512 : Shape := ⟨1, ![512]⟩
abbrev S512x128 : Shape := ⟨2, ![512, 128]⟩
abbrev S16384x32 : Shape := ⟨2, ![16384, 32]⟩
abbrev S4x128x1024 : Shape := ⟨3, ![4, 128, 1024]⟩
abbrev S4x128x32x1 : Shape := ⟨4, ![4, 128, 32, 1]⟩
abbrev S32 : Shape := ⟨1, ![32]⟩
abbrev S1x1x1x32 : Shape := ⟨4, ![1, 1, 1, 32]⟩
abbrev S4x128x32x32 : Shape := ⟨4, ![4, 128, 32, 32]⟩
abbrev S1x128x1024 : Shape := ⟨3, ![1, 128, 1024]⟩
abbrev S128x1024 : Shape := ⟨2, ![128, 1024]⟩
abbrev S200000x32 : Shape := ⟨2, ![200000, 32]⟩
abbrev S200000x128 : Shape := ⟨2, ![200000, 128]⟩
abbrev S256 : Shape := ⟨1, ![256]⟩
abbrev S256x128 : Shape := ⟨2, ![256, 128]⟩

abbrev nBuf : Table → Nat
  | .hbm => 107
  | .local .tc .vmem => 16
  | .local .scVector .vmem => 5
  | _ => 0

abbrev bufTy : (tb : Table) → Fin (nBuf tb) → BufTy
  | .hbm, ⟨0, _⟩ => ⟨S4x50000x32, .f32⟩
  | .hbm, ⟨1, _⟩ => ⟨S4x50000x32, .f32⟩
  | .hbm, ⟨2, _⟩ => ⟨S128x64, .f32⟩
  | .hbm, ⟨3, _⟩ => ⟨S4x25x128x2048, .f32⟩
  | .hbm, ⟨4, _⟩ => ⟨S4x128x32, .i32⟩
  | .hbm, ⟨5, _⟩ => ⟨S4, .i32⟩
  | .hbm, ⟨6, _⟩ => ⟨S4x1x1, .i32⟩
  | .hbm, ⟨7, _⟩ => ⟨S128, .i32⟩
  | .hbm, ⟨8, _⟩ => ⟨S1x128x1, .i32⟩
  | .hbm, ⟨9, _⟩ => ⟨S_, .i32⟩
  | .hbm, ⟨10, _⟩ => ⟨S4x1x1, .i32⟩
  | .hbm, ⟨11, _⟩ => ⟨S4x1x1, .i32⟩
  | .hbm, ⟨12, _⟩ => ⟨S_, .i32⟩
  | .hbm, ⟨13, _⟩ => ⟨S_, .i32⟩
  | .hbm, ⟨14, _⟩ => ⟨S4x128x32, .i32⟩
  | .hbm, ⟨15, _⟩ => ⟨S4x128x32, .i32⟩
  | .hbm, ⟨16, _⟩ => ⟨S4x128x32, .i32⟩
  | .hbm, ⟨17, _⟩ => ⟨S_, .i32⟩
  | .hbm, ⟨18, _⟩ => ⟨S4x128x32, .i32⟩
  | .hbm, ⟨19, _⟩ => ⟨S4x128x32, .i1⟩
  | .hbm, ⟨20, _⟩ => ⟨S4x128x32, .i32⟩
  | .hbm, ⟨21, _⟩ => ⟨S4x128x32, .i32⟩
  | .hbm, ⟨22, _⟩ => ⟨S_, .i32⟩
  | .hbm, ⟨23, _⟩ => ⟨S4x128x32, .i32⟩
  | .hbm, ⟨24, _⟩ => ⟨S4x128x32, .i1⟩
  | .hbm, ⟨25, _⟩ => ⟨S4x128x32, .i1⟩
  | .hbm, ⟨26, _⟩ => ⟨S_, .i32⟩
  | .hbm, ⟨27, _⟩ => ⟨S4x128x32, .i32⟩
  | .hbm, ⟨28, _⟩ => ⟨S4x128x32, .i32⟩
  | .hbm, ⟨29, _⟩ => ⟨S4x128x32, .i32⟩
  | .hbm, ⟨30, _⟩ => ⟨S4x128x32, .i32⟩
  | .hbm, ⟨31, _⟩ => ⟨S4x128x32, .i32⟩
  | .hbm, ⟨32, _⟩ => ⟨S_, .i32⟩
  | .hbm, ⟨33, _⟩ => ⟨S4x128x32, .i32⟩
  | .hbm, ⟨34, _⟩ => ⟨S4x128x32, .i32⟩
  | .hbm, ⟨35, _⟩ => ⟨S4x128x32, .i32⟩
  | .hbm, ⟨36, _⟩ => ⟨S4x128x32, .i32⟩
  | .hbm, ⟨37, _⟩ => ⟨S_, .i32⟩
  | .hbm, ⟨38, _⟩ => ⟨S4x128x32, .i32⟩
  | .hbm, ⟨39, _⟩ => ⟨S4x128x32, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S4x128x32, .i32⟩
  | .hbm, ⟨47, _⟩ => ⟨S4x128x32, .i32⟩
  | .hbm, ⟨48, _⟩ => ⟨S_, .i32⟩
  | .hbm, ⟨49, _⟩ => ⟨S4x128x32, .i32⟩
  | .hbm, ⟨50, _⟩ => ⟨S4x128x32, .i1⟩
  | .hbm, ⟨51, _⟩ => ⟨S_, .i32⟩
  | .hbm, ⟨52, _⟩ => ⟨S4x128x32, .i32⟩
  | .hbm, ⟨53, _⟩ => ⟨S4x128x32, .i1⟩
  | .hbm, ⟨54, _⟩ => ⟨S_, .i32⟩
  | .hbm, ⟨55, _⟩ => ⟨S_, .i1⟩
  | .hbm, ⟨56, _⟩ => ⟨S4x128x32, .i1⟩
  | .hbm, ⟨57, _⟩ => ⟨S4x128x32, .i1⟩
  | .hbm, ⟨58, _⟩ => ⟨S4x128x32, .i1⟩
  | .hbm, ⟨59, _⟩ => ⟨S4x128x32, .i32⟩
  | .hbm, ⟨60, _⟩ => ⟨S4x128x32, .i32⟩
  | .hbm, ⟨61, _⟩ => ⟨S4x128x32, .i32⟩
  | .hbm, ⟨62, _⟩ => ⟨S4x128x32, .i32⟩
  | .hbm, ⟨63, _⟩ => ⟨S16384, .i32⟩
  | .hbm, ⟨64, _⟩ => ⟨S819200x32, .f32⟩
  | .hbm, ⟨65, _⟩ => ⟨S_, .i32⟩
  | .hbm, ⟨66, _⟩ => ⟨S_, .f32⟩
  | .hbm, ⟨67, _⟩ => ⟨S819200x128, .f32⟩
  | .hbm, ⟨68, _⟩ => ⟨S16384x128, .f32⟩
  | .hbm, ⟨69, _⟩ => ⟨S16384x32, .f32⟩
  | .hbm, ⟨70, _⟩ => ⟨S4x128x1024, .f32⟩
  | .hbm, ⟨71, _⟩ => ⟨S4x128x32x1, .i32⟩
  | .hbm, ⟨72, _⟩ => ⟨S_, .i32⟩
  | .hbm, ⟨73, _⟩ => ⟨S4x128x32x1, .i32⟩
  | .hbm, ⟨74, _⟩ => ⟨S4x128x32x1, .i32⟩
  | .hbm, ⟨75, _⟩ => ⟨S32, .i32⟩
  | .hbm, ⟨76, _⟩ => ⟨S1x1x1x32, .i32⟩
  | .hbm, ⟨77, _⟩ => ⟨S4x128x32x32, .i32⟩
  | .hbm, ⟨78, _⟩ => ⟨S4x128x32x32, .i32⟩
  | .hbm, ⟨79, _⟩ => ⟨S4x128x32x32, .i32⟩
  | .hbm, ⟨80, _⟩ => ⟨S4x128x1024, .i32⟩
  | .hbm, ⟨81, _⟩ => ⟨S4x128x32, .i32⟩
  | .hbm, ⟨82, _⟩ => ⟨S4, .i32⟩
  | .hbm, ⟨83, _⟩ => ⟨S4x1x1, .i32⟩
  | .hbm, ⟨84, _⟩ => ⟨S_, .i32⟩
  | .hbm, ⟨85, _⟩ => ⟨S4x1x1, .i32⟩
  | .hbm, ⟨86, _⟩ => ⟨S4x1x1, .i32⟩
  | .hbm, ⟨87, _⟩ => ⟨S4x128x32, .i32⟩
  | .hbm, ⟨88, _⟩ => ⟨S4x128x32, .i32⟩
  | .hbm, ⟨89, _⟩ => ⟨S16384, .i32⟩
  | .hbm, ⟨90, _⟩ => ⟨S200000x32, .f32⟩
  | .hbm, ⟨91, _⟩ => ⟨S200000x32, .f32⟩
  | .hbm, ⟨92, _⟩ => ⟨S_, .i32⟩
  | .hbm, ⟨93, _⟩ => ⟨S_, .f32⟩
  | .hbm, ⟨94, _⟩ => ⟨S200000x128, .f32⟩
  | .hbm, ⟨95, _⟩ => ⟨S_, .i32⟩
  | .hbm, ⟨96, _⟩ => ⟨S_, .f32⟩
  | .hbm, ⟨97, _⟩ => ⟨S200000x128, .f32⟩
  | .hbm, ⟨98, _⟩ => ⟨S16384x128, .f32⟩
  | .hbm, ⟨99, _⟩ => ⟨S16384x128, .f32⟩
  | .hbm, ⟨100, _⟩ => ⟨S16384x32, .f32⟩
  | .hbm, ⟨101, _⟩ => ⟨S16384x32, .f32⟩
  | .hbm, ⟨102, _⟩ => ⟨S4x128x32x32, .f32⟩
  | .hbm, ⟨103, _⟩ => ⟨S4x128x32x32, .f32⟩
  | .hbm, ⟨104, _⟩ => ⟨S4, .i32⟩
  | .hbm, ⟨105, _⟩ => ⟨S4x1x1, .i32⟩
  | .hbm, ⟨106, _⟩ => ⟨S4x128x32, .i32⟩
  | .local .tc .vmem, ⟨0, _⟩ => ⟨S1x2048x32, .f32⟩
  | .local .tc .vmem, ⟨1, _⟩ => ⟨S1x2048x32, .f32⟩
  | .local .tc .vmem, ⟨2, _⟩ => ⟨S1x2048x32, .f32⟩
  | .local .tc .vmem, ⟨3, _⟩ => ⟨S1x2048x32, .f32⟩
  | .local .tc .vmem, ⟨4, _⟩ => ⟨S128x64, .f32⟩
  | .local .tc .vmem, ⟨5, _⟩ => ⟨S1x1x128x2048, .f32⟩
  | .local .tc .vmem, ⟨6, _⟩ => ⟨S1x1x128x2048, .f32⟩
  | .local .tc .vmem, ⟨7, _⟩ => ⟨S1x128x32, .i32⟩
  | .local .tc .vmem, ⟨8, _⟩ => ⟨S1x128x32, .i32⟩
  | .local .tc .vmem, ⟨9, _⟩ => ⟨S32x128x64, .f32⟩
  | .local .tc .vmem, ⟨10, _⟩ => ⟨S1x128x1024, .f32⟩
  | .local .tc .vmem, ⟨11, _⟩ => ⟨S1x128x1024, .f32⟩
  | .local .tc .vmem, ⟨12, _⟩ => ⟨S1x128x1024, .i32⟩
  | .local .tc .vmem, ⟨13, _⟩ => ⟨S1x128x1024, .i32⟩
  | .local .tc .vmem, ⟨14, _⟩ => ⟨S1x128x32, .i32⟩
  | .local .tc .vmem, ⟨15, _⟩ => ⟨S1x128x32, .i32⟩
  | .local .scVector .vmem, ⟨0, _⟩ => ⟨S512, .i32⟩
  | .local .scVector .vmem, ⟨1, _⟩ => ⟨S512x128, .f32⟩
  | .local .scVector .vmem, ⟨2, _⟩ => ⟨S256, .i32⟩
  | .local .scVector .vmem, ⟨3, _⟩ => ⟨S256x128, .f32⟩
  | .local .scVector .vmem, ⟨4, _⟩ => ⟨S256x128, .f32⟩
  | _, _ => ⟨S4x50000x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_c_4 : Ref sig .tc := ⟨.hbm, 65, rfl⟩
abbrev main_call2_v0 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_5 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_6 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c_7 : Ref sig .tc := ⟨.hbm, 92, rfl⟩
abbrev main_call3_v0 : Ref sig .tc := ⟨.hbm, 93, rfl⟩
abbrev main_v43 : Ref sig .tc := ⟨.hbm, 94, rfl⟩
abbrev main_c_8 : Ref sig .tc := ⟨.hbm, 95, rfl⟩
abbrev main_call4_v0 : Ref sig .tc := ⟨.hbm, 96, rfl⟩
abbrev main_v44 : Ref sig .tc := ⟨.hbm, 97, rfl⟩
abbrev main_v45_0 : Ref sig .tc := ⟨.hbm, 98, rfl⟩
abbrev main_v45_1 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v20_scv : Ref sig .scVector := ⟨.hbm, 67, rfl⟩
abbrev main_v18_scv : Ref sig .scVector := ⟨.hbm, 63, rfl⟩
abbrev main_v21_scv : Ref sig .scVector := ⟨.hbm, 68, rfl⟩
abbrev main_v43_scv : Ref sig .scVector := ⟨.hbm, 94, rfl⟩
abbrev main_v44_scv : Ref sig .scVector := ⟨.hbm, 97, rfl⟩
abbrev main_v40_scv : Ref sig .scVector := ⟨.hbm, 89, rfl⟩
abbrev main_v45_0_scv : Ref sig .scVector := ⟨.hbm, 98, rfl⟩
abbrev main_v45_1_scv : Ref sig .scVector := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc3_scratch2 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 25], ![false, false]⟩

def k0_off1 (i : grid0.Coords) : Fin 3 → Nat :=
  let arg1 : BitVec 32 := BitVec.ofNat 32 (i 1).val
  let v23 : Index := Scalar.indexCast arg1
  let c0_14 : Index := 0#32
  let c0_15 : Index := 0#32
  ![v23.toNat, 0, 0]
def k0_cond2 (i : grid0.Coords) : BitVec 1 :=
  let arg1 : BitVec 32 := BitVec.ofNat 32 (i 1).val
  let c24_i32 : BitVec 32 := 24#32
  let v27 : BitVec 1 := Scalar.cmpi .eq arg1 c24_i32
  let v28 : BitVec 32 := Scalar.extui v27
  let c0_i32_16 : BitVec 32 := 0#32
  let v29 : BitVec 1 := Scalar.cmpi .ne v28 c0_i32_16
  v29

@[reducible] def k0_t1_loop : Scf.Loop 32 :=
  let c0_i32_21 : BitVec 32 := 0#32
  let c32_i32 : BitVec 32 := 32#32
  let v38 : BitVec 32 := Scalar.addi c0_i32_21 c32_i32
  let c1_i32 : BitVec 32 := 1#32
  ⟨c0_i32_21, v38, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid2 : Pipeline.Grid := ⟨1, ![4], ![false]⟩

@[reducible] def k2_t1_loop : Scf.Loop 32 :=
  let c0_i32_5 : BitVec 32 := 0#32
  let c32_i32 : BitVec 32 := 32#32
  let v6 : BitVec 32 := Scalar.addi c0_i32_5 c32_i32
  let c1_i32 : BitVec 32 := 1#32
  ⟨c0_i32_5, v6, c1_i32⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x32 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 16], ![false, false]⟩

def k3_off1 (i : grid3.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k3_off2 (i : grid3.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_17_r1 : BitVec 32 := 0#32
  ![v3.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4x50000x32 : Shape := ⟨3, ![4, 50000, 32]⟩
abbrev S128x64 : Shape := ⟨2, ![128, 64]⟩
abbrev S4x50000x64 : Shape := ⟨3, ![4, 50000, 64]⟩
abbrev S4x64x50000 : Shape := ⟨3, ![4, 64, 50000]⟩
abbrev S128x4x50000 : Shape := ⟨3, ![128, 4, 50000]⟩
abbrev S4x128x50000 : Shape := ⟨3, ![4, 128, 50000]⟩
abbrev S_ : Shape := ⟨0, ![]⟩
abbrev S4x128 : Shape := ⟨2, ![4, 128]⟩
abbrev S4x128x1 : Shape := ⟨3, ![4, 128, 1]⟩
abbrev S4x128x32 : Shape := ⟨3, ![4, 128, 32]⟩
abbrev S4 : Shape := ⟨1, ![4]⟩
abbrev S4x1x1 : Shape := ⟨3, ![4, 1, 1]⟩
abbrev S4x128x32x1 : Shape := ⟨4, ![4, 128, 32, 1]⟩
abbrev S4x128x32x2 : Shape := ⟨4, ![4, 128, 32, 2]⟩
abbrev S4x128x32x32 : Shape := ⟨4, ![4, 128, 32, 32]⟩

abbrev nBuf : Space → Nat
  | .hbm => 62
  | .vmem => 0
  | .smem => 0
  | _ => 0

abbrev bufTy : (tb : Table) → Fin (tcTables nBuf tb) → BufTy
  | .hbm, ⟨0, _⟩ => ⟨S4x50000x32, .f32⟩
  | .hbm, ⟨1, _⟩ => ⟨S4x50000x32, .f32⟩
  | .hbm, ⟨2, _⟩ => ⟨S128x64, .f32⟩
  | .hbm, ⟨3, _⟩ => ⟨S4x50000x64, .f32⟩
  | .hbm, ⟨4, _⟩ => ⟨S4x64x50000, .f32⟩
  | .hbm, ⟨5, _⟩ => ⟨S128x4x50000, .f32⟩
  | .hbm, ⟨6, _⟩ => ⟨S4x128x50000, .f32⟩
  | .hbm, ⟨7, _⟩ => ⟨S_, .f32⟩
  | .hbm, ⟨8, _⟩ => ⟨S4x128, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S4x128x1, .f32⟩
  | .hbm, ⟨13, _⟩ => ⟨S4x128x50000, .f32⟩
  | .hbm, ⟨14, _⟩ => ⟨S4x128x50000, .f32⟩
  | .hbm, ⟨15, _⟩ => ⟨S4x128x50000, .f32⟩
  | .hbm, ⟨16, _⟩ => ⟨S_, .f32⟩
  | .hbm, ⟨17, _⟩ => ⟨S4x128, .f32⟩
  | .hbm, ⟨18, _⟩ => ⟨S4x128x1, .f32⟩
  | .hbm, ⟨19, _⟩ => ⟨S4x128x50000, .f32⟩
  | .hbm, ⟨20, _⟩ => ⟨S4x128x50000, .f32⟩
  | .hbm, ⟨21, _⟩ => ⟨S4x128x32, .f32⟩
  | .hbm, ⟨22, _⟩ => ⟨S4x128x32, .i32⟩
  | .hbm, ⟨23, _⟩ => ⟨S4, .i32⟩
  | .hbm, ⟨24, _⟩ => ⟨S4x1x1, .i32⟩
  | .hbm, ⟨25, _⟩ => ⟨S4x128x32, .i32⟩
  | .hbm, ⟨26, _⟩ => ⟨S_, .i32⟩
  | .hbm, ⟨27, _⟩ => ⟨S4x128x32, .i32⟩
  | .hbm, ⟨28, _⟩ => ⟨S4x128x32, .i1⟩
  | .hbm, ⟨29, _⟩ => ⟨S_, .i32⟩
  | .hbm, ⟨30, _⟩ => ⟨S4x128x32, .i32⟩
  | .hbm, ⟨31, _⟩ => ⟨S4x128x32, .i32⟩
  | .hbm, ⟨32, _⟩ => ⟨S4x128x32, .i32⟩
  | .hbm, ⟨33, _⟩ => ⟨S_, .i32⟩
  | .hbm, ⟨34, _⟩ => ⟨S4x128x32, .i32⟩
  | .hbm, ⟨35, _⟩ => ⟨S4x128x32, .i1⟩
  | .hbm, ⟨36, _⟩ => ⟨S_, .i32⟩
  | .hbm, ⟨37, _⟩ => ⟨S4x128x32, .i32⟩
  | .hbm, ⟨38, _⟩ => ⟨S4x128x32, .i32⟩
  | .hbm, ⟨39, _⟩ => ⟨S4x128x32, .i32⟩
  | .hbm, ⟨40, _⟩ => ⟨S4x128x32x1, .i32⟩
  | .hbm, ⟨41, _⟩ => ⟨S4x128x32x1, .i32⟩
  | .hbm, ⟨42, _⟩ => ⟨S4x128x32x2, .i32⟩
  | .hbm, ⟨43, _⟩ => ⟨S4x128x32x32, .f32⟩
  | .hbm, ⟨44, _⟩ => ⟨S_, .i32⟩
  | .hbm, ⟨45, _⟩ => ⟨S4x128x32, .i32⟩
  | .hbm, ⟨46, _⟩ => ⟨S4x128x32, .i1⟩
  | .hbm, ⟨47, _⟩ => ⟨S_, .i32⟩
  | .hbm, ⟨48, _⟩ => ⟨S4x128x32, .i32⟩
  | .hbm, ⟨49, _⟩ => ⟨S4x128x32, .i32⟩
  | .hbm, ⟨50, _⟩ => ⟨S4x128x32, .i32⟩
  | .hbm, ⟨51, _⟩ => ⟨S_, .i32⟩
  | .hbm, ⟨52, _⟩ => ⟨S4x128x32, .i32⟩
  | .hbm, ⟨53, _⟩ => ⟨S4x128x32, .i1⟩
  | .hbm, ⟨54, _⟩ => ⟨S_, .i32⟩
  | .hbm, ⟨55, _⟩ => ⟨S4x128x32, .i32⟩
  | .hbm, ⟨56, _⟩ => ⟨S4x128x32, .i32⟩
  | .hbm, ⟨57, _⟩ => ⟨S4x128x32, .i32⟩
  | .hbm, ⟨58, _⟩ => ⟨S4x128x32x1, .i32⟩
  | .hbm, ⟨59, _⟩ => ⟨S4x128x32x1, .i32⟩
  | .hbm, ⟨60, _⟩ => ⟨S4x128x32x2, .i32⟩
  | .hbm, ⟨61, _⟩ => ⟨S4x128x32x32, .f32⟩
  | _, _ => ⟨S4x50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Rows.lean ====
abbrev S4x50000x32 : Shape := ⟨3, ![4, 50000, 32]⟩
abbrev S4x128x32 : Shape := ⟨3, ![4, 128, 32]⟩
abbrev S4 : Shape := ⟨1, ![4]⟩
abbrev S4x1x1 : Shape := ⟨3, ![4, 1, 1]⟩
abbrev S_ : Shape := ⟨0, ![]⟩
abbrev S16384 : Shape := ⟨1, ![16384]⟩
abbrev S200000x32 : Shape := ⟨2, ![200000, 32]⟩
abbrev S200000x128 : Shape := ⟨2, ![200000, 128]⟩
abbrev S16384x128 : Shape := ⟨2, ![16384, 128]⟩
abbrev S256 : Shape := ⟨1, ![256]⟩
abbrev S256x128 : Shape := ⟨2, ![256, 128]⟩
abbrev S16384x32 : Shape := ⟨2, ![16384, 32]⟩
abbrev S4x128x32x32 : Shape := ⟨4, ![4, 128, 32, 32]⟩

abbrev nBuf : Table → Nat
  | .hbm => 28
  | .local .scVector .vmem => 3
  | _ => 0

abbrev bufTy : (tb : Table) → Fin (nBuf tb) → BufTy
  | .hbm, ⟨0, _⟩ => ⟨S4x50000x32, .f32⟩
  | .hbm, ⟨1, _⟩ => ⟨S4x50000x32, .f32⟩
  | .hbm, ⟨2, _⟩ => ⟨S4x128x32, .i32⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i32⟩
  | .hbm, ⟨8, _⟩ => ⟨S4x128x32, .i32⟩
  | .hbm, ⟨9, _⟩ => ⟨S4x128x32, .i32⟩
  | .hbm, ⟨10, _⟩ => ⟨S16384, .i32⟩
  | .hbm, ⟨11, _⟩ => ⟨S200000x32, .f32⟩
  | .hbm, ⟨12, _⟩ => ⟨S200000x32, .f32⟩
  | .hbm, ⟨13, _⟩ => ⟨S_, .i32⟩
  | .hbm, ⟨14, _⟩ => ⟨S_, .f32⟩
  | .hbm, ⟨15, _⟩ => ⟨S200000x128, .f32⟩
  | .hbm, ⟨16, _⟩ => ⟨S_, .i32⟩
  | .hbm, ⟨17, _⟩ => ⟨S_, .f32⟩
  | .hbm, ⟨18, _⟩ => ⟨S200000x128, .f32⟩
  | .hbm, ⟨19, _⟩ => ⟨S16384x128, .f32⟩
  | .hbm, ⟨20, _⟩ => ⟨S16384x128, .f32⟩
  | .hbm, ⟨21, _⟩ => ⟨S16384x32, .f32⟩
  | .hbm, ⟨22, _⟩ => ⟨S16384x32, .f32⟩
  | .hbm, ⟨23, _⟩ => ⟨S4x128x32x32, .f32⟩
  | .hbm, ⟨24, _⟩ => ⟨S4x128x32x32, .f32⟩
  | .hbm, ⟨25, _⟩ => ⟨S4, .i32⟩
  | .hbm, ⟨26, _⟩ => ⟨S4x1x1, .i32⟩
  | .hbm, ⟨27, _⟩ => ⟨S4x128x32, .i32⟩
  | .local .scVector .vmem, ⟨0, _⟩ => ⟨S256, .i32⟩
  | .local .scVector .vmem, ⟨1, _⟩ => ⟨S256x128, .f32⟩
  | .local .scVector .vmem, ⟨2, _⟩ => ⟨S256x128, .f32⟩
  | _, _ => ⟨S4x50000x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_v9 : Ref sig .tc := ⟨.hbm, 15, rfl⟩
abbrev main_c_1 : Ref sig .tc := ⟨.hbm, 16, rfl⟩
abbrev main_call1_v0 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v9_scv : Ref sig .scVector := ⟨.hbm, 15, rfl⟩
abbrev main_v10_scv : Ref sig .scVector := ⟨.hbm, 18, rfl⟩
abbrev main_v6_scv : Ref sig .scVector := ⟨.hbm, 10, rfl⟩
abbrev main_v11_0_scv : Ref sig .scVector := ⟨.hbm, 19, rfl⟩
abbrev main_v11_1_scv : Ref sig .scVector := ⟨.hbm, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_17_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RowsRefIdeal.lean ====
abbrev S4x50000x32 : Shape := ⟨3, ![4, 50000, 32]⟩
abbrev S4x128x32 : Shape := ⟨3, ![4, 128, 32]⟩
abbrev S4 : Shape := ⟨1, ![4]⟩
abbrev S4x1x1 : Shape := ⟨3, ![4, 1, 1]⟩
abbrev S_ : Shape := ⟨0, ![]⟩
abbrev S4x128x32x1 : Shape := ⟨4, ![4, 128, 32, 1]⟩
abbrev S4x128x32x2 : Shape := ⟨4, ![4, 128, 32, 2]⟩
abbrev S4x128x32x32 : Shape := ⟨4, ![4, 128, 32, 32]⟩

abbrev nBuf : Space → Nat
  | .hbm => 42
  | .vmem => 0
  | .smem => 0
  | _ => 0

abbrev bufTy : (tb : Table) → Fin (tcTables nBuf tb) → BufTy
  | .hbm, ⟨0, _⟩ => ⟨S4x50000x32, .f32⟩
  | .hbm, ⟨1, _⟩ => ⟨S4x50000x32, .f32⟩
  | .hbm, ⟨2, _⟩ => ⟨S4x128x32, .i32⟩
  | .hbm, ⟨3, _⟩ => ⟨S4, .i32⟩
  | .hbm, ⟨4, _⟩ => ⟨S4x1x1, .i32⟩
  | .hbm, ⟨5, _⟩ => ⟨S4x128x32, .i32⟩
  | .hbm, ⟨6, _⟩ => ⟨S_, .i32⟩
  | .hbm, ⟨7, _⟩ => ⟨S4x128x32, .i32⟩
  | .hbm, ⟨8, _⟩ => ⟨S4x128x32, .i1⟩
  | .hbm, ⟨9, _⟩ => ⟨S_, .i32⟩
  | .hbm, ⟨10, _⟩ => ⟨S4x128x32, .i32⟩
  | .hbm, ⟨11, _⟩ => ⟨S4x128x32, .i32⟩
  | .hbm, ⟨12, _⟩ => ⟨S4x128x32, .i32⟩
  | .hbm, ⟨13, _⟩ => ⟨S_, .i32⟩
  | .hbm, ⟨14, _⟩ => ⟨S4x128x32, .i32⟩
  | .hbm, ⟨15, _⟩ => ⟨S4x128x32, .i1⟩
  | .hbm, ⟨16, _⟩ => ⟨S_, .i32⟩
  | .hbm, ⟨17, _⟩ => ⟨S4x128x32, .i32⟩
  | .hbm, ⟨18, _⟩ => ⟨S4x128x32, .i32⟩
  | .hbm, ⟨19, _⟩ => ⟨S4x128x32, .i32⟩
  | .hbm, ⟨20, _⟩ => ⟨S4x128x32x1, .i32⟩
  | .hbm, ⟨21, _⟩ => ⟨S4x128x32x1, .i32⟩
  | .hbm, ⟨22, _⟩ => ⟨S4x128x32x2, .i32⟩
  | .hbm, ⟨23, _⟩ => ⟨S4x128x32x32, .f32⟩
  | .hbm, ⟨24, _⟩ => ⟨S_, .i32⟩
  | .hbm, ⟨25, _⟩ => ⟨S4x128x32, .i32⟩
  | .hbm, ⟨26, _⟩ => ⟨S4x128x32, .i1⟩
  | .hbm, ⟨27, _⟩ => ⟨S_, .i32⟩
  | .hbm, ⟨28, _⟩ => ⟨S4x128x32, .i32⟩
  | .hbm, ⟨29, _⟩ => ⟨S4x128x32, .i32⟩
  | .hbm, ⟨30, _⟩ => ⟨S4x128x32, .i32⟩
  | .hbm, ⟨31, _⟩ => ⟨S_, .i32⟩
  | .hbm, ⟨32, _⟩ => ⟨S4x128x32, .i32⟩
  | .hbm, ⟨33, _⟩ => ⟨S4x128x32, .i1⟩
  | .hbm, ⟨34, _⟩ => ⟨S_, .i32⟩
  | .hbm, ⟨35, _⟩ => ⟨S4x128x32, .i32⟩
  | .hbm, ⟨36, _⟩ => ⟨S4x128x32, .i32⟩
  | .hbm, ⟨37, _⟩ => ⟨S4x128x32, .i32⟩
  | .hbm, ⟨38, _⟩ => ⟨S4x128x32x1, .i32⟩
  | .hbm, ⟨39, _⟩ => ⟨S4x128x32x1, .i32⟩
  | .hbm, ⟨40, _⟩ => ⟨S4x128x32x2, .i32⟩
  | .hbm, ⟨41, _⟩ => ⟨S4x128x32x32, .f32⟩
  | _, _ => ⟨S4x50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.RowsTile.lean ====
/-
  ONE TASK of the row gather's SparseCore call (`RowsIdeal`, the text of `Rows` too), over any float instance.

  The call runs on 2 SparseCores of 16 vector subcores each. The task of subcore `s` of SparseCore `c` is task
  `t = 2 s + c` of 32. It owns rows `512 t … 512 t + 511` of the two outputs and works on them in two parts of 256 rows:
  it copies the part's row numbers out of the list into its scratch, gathers the rows that they name out of the first
  padded table and out of the second, and copies both blocks out. `tile_body` is that run with its VALUES: from a share
  of each table and of the list, and the task's two blocks of each output, it leaves the same shares, and the blocks at
  `picked table list`: row `r` of the output is the row of the table that entry `r` of the list names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdx
public import Idealize.ShloMosaic.Lib.Tactic
public import proofs.«01_k».proof.Proof.Gen.RowsIdeal
public import proofs.«01_k».proof.Proof.Gen.RowsIdeal.Skeleton

@[expose] public section

noncomputable section

namespace Cert.Proof.RowsSc

open Cert.RowsIdeal Cert.RowsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.ShareLeaves

variable {F : FTy → Type}

/-! ## The program as the launch theorem sees it -/

/-- The program's labels. -/
abbrev ΛP : Labels := Pipeline.Sig Λ₀ (Fin 0) fun p => (pcfgs (F := F) p).Adm
/-- The SparseCore calls of the program. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop of the calls carries a variant. -/
abbrev 𝒱₀ : Variants := Variants.none
/-- The variants of the whole program. -/
abbrev 𝒱 : Variants := 𝒱₀.lift
/-- The variant at which a task starts. -/
abbrev v₀ : 𝒱.V := Sum.inl none

/-- The launch's side conditions on the handshake semaphores and the shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the handshakes between the TensorCore and the SparseCores. -/
abbrev UH : Type := URounds (GSem nD τ sig) ℕ
/-- The whole ghost state. -/
abbrev UU : Type := UH × Counters

local notation "𝕄" => MT nD τ sig (HIx 1) (Elt F) ℕ UU ℕ

/-- The place of the handshakes' ghost state in the whole. -/
abbrev EH : Emb UH (MT nD τ sig (HIx 1) (Elt F) ℕ UU ℕ) := embL

/-! ## The buffers -/

/-- The first padded table, the second, the list of row numbers, and the two outputs, on the device `d`. -/
abbrev aLoc (d : Dev nD) : Loc nD τ sig := (SparseCore.T d).loc main_v9
/-- The second padded table. -/
abbrev bLoc (d : Dev nD) : Loc nD τ sig := (SparseCore.T d).loc main_v10
/-- The list of row numbers. -/
abbrev lLoc (d : Dev nD) : Loc nD τ sig := (SparseCore.T d).loc main_v6
/-- The first output. -/
abbrev pLoc (d : Dev nD) : Loc nD τ sig := (SparseCore.T d).loc main_v11_0
/-- The second output. -/
abbrev qLoc (d : Dev nD) : Loc nD τ sig := (SparseCore.T d).loc main_v11_1

local notation "aV" => (Memref.whole Cert.RowsIdeal.main_v9_scv : Memref Cert.RowsIdeal.sig Kind.scVector Space.hbm Cert.RowsIdeal.S200000x128 EltTy.f32)
local notation "bV" => (Memref.whole Cert.RowsIdeal.main_v10_scv : Memref Cert.RowsIdeal.sig Kind.scVector Space.hbm Cert.RowsIdeal.S200000x128 EltTy.f32)
local notation "lV" => (Memref.whole Cert.RowsIdeal.main_v6_scv : Memref Cert.RowsIdeal.sig Kind.scVector Space.hbm Cert.RowsIdeal.S16384 EltTy.i32)
local notation "pV" => (Memref.whole Cert.RowsIdeal.main_v11_0_scv : Memref Cert.RowsIdeal.sig Kind.scVector Space.hbm Cert.RowsIdeal.S16384x128 EltTy.f32)
local notation "qV" => (Memref.whole Cert.RowsIdeal.main_v11_1_scv : Memref Cert.RowsIdeal.sig Kind.scVector Space.hbm Cert.RowsIdeal.S16384x128 EltTy.f32)
local notation "sV" => (Memref.whole Cert.RowsIdeal.cc0_scratch0 : Memref Cert.RowsIdeal.sig Kind.scVector Space.vmem Cert.RowsIdeal.S256 EltTy.i32)
local notation "xV" => (Memref.whole Cert.RowsIdeal.cc0_scratch1 : Memref Cert.RowsIdeal.sig Kind.scVector Space.vmem Cert.RowsIdeal.S256x128 EltTy.f32)
local notation "yV" => (Memref.whole Cert.RowsIdeal.cc0_scratch2 : Memref Cert.RowsIdeal.sig Kind.scVector Space.vmem Cert.RowsIdeal.S256x128 EltTy.f32)

/-- Rows `512 t + 256 p …` of an output, 256 of them: part `p` of task `t`. -/
def blk (t : Fin 32) (p : Fin 2) : Finset S16384x128.Idx :=
  Finset.univ.filter fun x => 512 * t.val + 256 * p.val ≤ (x 0).val ∧ (x 0).val < 512 * t.val + 256 * p.val + 256

/-- Membership in a block of rows, by the row's number. -/
theorem mem_blk {t : Fin 32} {p : Fin 2} {x : S16384x128.Idx} :
    x ∈ blk t p ↔ 512 * t.val + 256 * p.val ≤ (x 0).val ∧ (x 0).val < 512 * t.val + 256 * p.val + 256 := by
  simp [blk]

/-- Row `r` of the output is the row of the table that entry `r` of the list names. -/
def picked (tb : S200000x128.Idx → Elt F .f32) (ls : S16384.Idx → Elt F .i32) : S16384x128.Idx → Elt F .f32 := fun x =>
  tb (ix2 (n0 := 200000) (n1 := 128) ⟨(ls (ix1 (x 0))).toNat % 200000, Nat.mod_lt _ (by decide)⟩ (x 1))

/-! ## What a task is handed and hands back, at the valuation `W` of the TensorCore's buffers before the call -/

variable (W : Dev nD → Valuation τ sig (Elt F))

/-- The first padded table before the call. -/
abbrev wA (d : Dev nD) : Buf (Elt F) (aLoc d) := W d (Proc.devRef .tc main_v9)
/-- The second padded table before the call. -/
abbrev wB (d : Dev nD) : Buf (Elt F) (bLoc d) := W d (Proc.devRef .tc main_v10)
/-- The list of row numbers before the call. -/
abbrev wL (d : Dev nD) : Buf (Elt F) (lLoc d) := W d (Proc.devRef .tc main_v6)
/-- The first output before the call. -/
abbrev wP (d : Dev nD) : Buf (Elt F) (pLoc d) := W d (Proc.devRef .tc main_v11_0)
/-- The second output before the call. -/
abbrev wQ (d : Dev nD) : Buf (Elt F) (qLoc d) := W d (Proc.devRef .tc main_v11_1)
/-- The outputs after the call. -/
abbrev gP (d : Dev nD) : Buf (Elt F) (pLoc d) := picked (wA W d) (wL W d)
/-- The second output after the call. -/
abbrev gQ (d : Dev nD) : Buf (Elt F) (qLoc d) := picked (wB W d) (wL W d)

/-- Task `t`'s shares of what is only read. -/
abbrev reads (d : Dev nD) (t : Fin 32) : sProp 𝕄 :=
  iprop((aLoc d ↦{leaf 5 fullShare t} wA W d) ∗ (bLoc d ↦{leaf 5 fullShare t} wB W d) ∗ (lLoc d ↦{leaf 5 fullShare t} wL W d))
/-- Task `t`'s blocks of the two outputs, at `f` and `g`. -/
abbrev blocks (d : Dev nD) (t : Fin 32) (f : Buf (Elt F) (pLoc d)) (g : Buf (Elt F) (qLoc d)) : sProp 𝕄 :=
  iprop((pLoc d ↦[blk t 0]{fullShare} f) ∗ (pLoc d ↦[blk t 1]{fullShare} f) ∗ (qLoc d ↦[blk t 0]{fullShare} g) ∗ (qLoc d ↦[blk t 1]{fullShare} g))
/-- What task `t` is handed: its shares of what is read, and its blocks of the outputs as they were before the call. -/
abbrev taskIn (d : Dev nD) (t : Fin 32) : sProp 𝕄 := iprop(reads W d t ∗ blocks d t (wP W d) (wQ W d))
/-- What task `t` hands back: the same shares, and its blocks with the rows of the tables that the list names. -/
abbrev taskOut (d : Dev nD) (t : Fin 32) : sProp 𝕄 := iprop(reads W d t ∗ blocks d t (gP W d) (gQ W d))

/-- Every row number of the list names a row of the tables. -/
def InRange : Prop := ∀ (d : Dev nD) (j : S16384.Idx), (wL W d j).toNat < 200000

variable [FloatOps F]

section Tile

variable (d : Dev nD) (L : grid0.Coords)

/-- The SparseCore that the task runs on. -/
abbrev cV (L : grid0.Coords) : Fin τ.nSC := (L 0).castLE hcore0
/-- The subcore that the task runs on. -/
abbrev jV (L : grid0.Coords) : Fin τ.nSub := (L 1).castLE hsub0
/-- The task's number. -/
def tL (L : grid0.Coords) : Fin 32 := ⟨2 * (L 1).val + (L 0).val, by
  have h0 : (L 0).val < 2 := (L 0).isLt
  have h1 : (L 1).val < 16 := (L 1).isLt
  omega⟩

/-- Part `p`'s entries of the list and its rows of the outputs, as the task addresses them. -/
abbrev lPart (L : grid0.Coords) (p : Fin 2) : Memref sig .scVector .hbm S256 .i32 :=
  (lV).slice (Rect.unit (s := S16384) (k0_off1 L (BitVec.ofNat 32 (256 * p.val))) S256.size (k0_off1_inb L p)) (fun _ => rfl)
/-- Part `p` of the task's rows of the first output, as the task addresses them. -/
abbrev pPart (L : grid0.Coords) (p : Fin 2) : Memref sig .scVector .hbm S256x128 .f32 :=
  (pV).slice (Rect.unit (s := S16384x128) (k0_off2 L (BitVec.ofNat 32 (256 * p.val))) S256x128.size (k0_off2_inb L p)) (fun _ => rfl)
/-- Part `p` of the task's rows of the second output, as the task addresses them. -/
abbrev qPart (L : grid0.Coords) (p : Fin 2) : Memref sig .scVector .hbm S256x128 .f32 :=
  (qV).slice (Rect.unit (s := S16384x128) (k0_off2 L (BitVec.ofNat 32 (256 * p.val))) S256x128.size (k0_off2_inb L p)) (fun _ => rfl)

omit [FloatOps F] in
/-- The rectangle of rows that the task addresses is its block. -/
theorem rect_blk (p : Fin 2) :
    (Rect.unit (s := S16384x128) (k0_off2 L (BitVec.ofNat 32 (256 * p.val))) S256x128.size (k0_off2_inb L p)).set = blk (tL L) p := by
  ext x
  rw [Rect.mem_set_unit, mem_blk, k0_off2_eq]
  constructor
  · intro h
    have := h 0
    simp [tL] at this ⊢
    omega
  · intro h a
    match a with
    | 0 => simp [tL] at h ⊢; omega
    | 1 => simp; exact (x 1).isLt

omit [FloatOps F] in
/-- The elements of the first output that the task addresses are its block's. -/
theorem set_pPart (p : Fin 2) : (pPart L p).view.set = blk (tL L) p := by
  rw [← rect_blk L p]
  show ((View.whole (main_v11_0_scv : Ref sig .scVector)).slice _).set = _
  rw [View.set_slice]; exact Finset.map_refl
omit [FloatOps F] in
/-- The elements of the second output that the task addresses are its block's. -/
theorem set_qPart (p : Fin 2) : (qPart L p).view.set = blk (tL L) p := by
  rw [← rect_blk L p]
  show ((View.whole (main_v11_1_scv : Ref sig .scVector)).slice _).set = _
  rw [View.set_slice]; exact Finset.map_refl

/-! ### The subcore's own semaphores and buffers -/

/-- DMA semaphore `k` of the task's subcore. -/
abbrev cell (k : DmaSem sig) : GSem nD τ sig := (V d (cV L) (jV L), .dma k)

omit [FloatOps F] in
/-- The seven DMA semaphores that the kernel names are among the subcore's own. -/
theorem ownSems0_V :
    (ownSems0 (V d (cV L) (jV L)) : sProp 𝕄)
      = iprop((semVal (cell d L cc0_scratch3.sem) 0 ∗ semVal (cell d L cc0_scoped0.sem) 0 ∗ semVal (cell d L cc0_scoped1.sem) 0
            ∗ semVal (cell d L cc0_scoped2.sem) 0 ∗ semVal (cell d L cc0_scoped3.sem) 0 ∗ semVal (cell d L cc0_scoped4.sem) 0
            ∗ semVal (cell d L cc0_scoped5.sem) 0)
          ∗ bigSep (ownCells (V d (cV L) (jV L)) \ (Finset.univ : Finset (DmaSem sig)).map ⟨cell d L, fun a b h => by simpa using h⟩)
              fun g => semVal g 0) := by
  unfold SparseCore.Cfg.ownSems0
  rw [SparseCore.bigSep_sdiff_split' (t := (Finset.univ : Finset (DmaSem sig)).map ⟨cell d L, fun a b h => by simpa using h⟩), bigSep_map]
  · congr 1
    rw [show (Finset.univ : Finset (DmaSem sig)) = {cc0_scratch3.sem, cc0_scoped0.sem, cc0_scoped1.sem, cc0_scoped2.sem, cc0_scoped3.sem,
        cc0_scoped4.sem, cc0_scoped5.sem} by decide]
    rw [SparseCore.bigSep_insert' (by decide), SparseCore.bigSep_insert' (by decide), SparseCore.bigSep_insert' (by decide),
      SparseCore.bigSep_insert' (by decide), SparseCore.bigSep_insert' (by decide), SparseCore.bigSep_insert' (by decide), bigSep_singleton]
    rfl
  · intro g hg
    obtain ⟨k, -, rfl⟩ := Finset.mem_map.mp hg
    refine mem_ownCells.mpr ⟨rfl, ?_⟩
    show (SemLoc.dma k : SemLoc sig).isScoped .scVector = true
    clear hg; revert k; decide

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own : ∀ b : Ref sig .scVector, ((Proc.scVector (cV L) (jV L)).devRef b).owner.home = .scVector (cV L) (jV L) →
      (Proc.scVector (cV L) (jV L)).devRef b ∈ ownRefs (τ := τ) (.scVector (cV L) (jV L)) := fun _ h => mem_ownRefs.mpr h
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  rw [SparseCore.bigSep_erase' (own cc0_scratch0 rfl),
    SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]

/-! ### The buffers as the executor reads them -/

omit [FloatOps F] in
/-- Owning the first output through the task's own view is owning the task's block of it. -/
theorem pts_pPart (p : Fin 2) (f : Buf (Elt F) (pLoc d)) :
    ((pPart L p).view.loc (V d (cV L) (jV L)) ↦[(pPart L p).view.set]{fullShare} f : sProp 𝕄) = pLoc d ↦[blk (tL L) p]{fullShare} f := by
  rw [set_pPart]
omit [FloatOps F] in
/-- Owning the second output through the task's own view is owning the task's block of it. -/
theorem pts_qPart (p : Fin 2) (f : Buf (Elt F) (qLoc d)) :
    ((qPart L p).view.loc (V d (cV L) (jV L)) ↦[(qPart L p).view.set]{fullShare} f : sProp 𝕄) = qLoc d ↦[blk (tL L) p]{fullShare} f := by
  rw [set_qPart]

/-- Part `p`'s row numbers, as its copy lands them. -/
abbrev nums (p : Fin 2) : S256.Idx → Elt F .i32 := (lPart L p).view.read (Elt F) (wL W d)

omit [FloatOps F] in
/-- Where the list's numbers are in range, so are the task's. -/
theorem nums_lt (h : InRange W) (p : Fin 2) (x : S256.Idx) : (nums W d L p x).toNat < 200000 := by
  rw [show nums W d L p x = wL W d ((lPart L p).view.emb x) from (View.read_apply _ _).trans (cast_eq _ _)]
  exact h d _

omit [FloatOps F] in
/-- What an indexed copy out of a table lands: at row `k` the table's row that entry `k` of the numbers names. -/
theorem gathered {g : S200000x128.Idx → Elt F .f32} {tb : S200000x128.Idx → Elt F .f32} (hg : ∀ x, g x = tb x) {idx idx' : S256.Idx → Elt F .i32}
    (hi : idx = idx') {hn : S256.numel = S256x128.size gathers_S200000x128_S256x128.axis'}
    {h : ∀ x, (idx x).toNat < S200000x128.size gathers_S200000x128_S256x128.axis} (x : S256x128.Idx) :
    SparseCore.gatherPayload gathers_S200000x128_S256x128 g (SparseCore.rows idx hn h) x
      = tb (ix2 (n0 := 200000) (n1 := 128) ⟨(idx' (ix1 (n := 256) (x 0))).toNat % 200000, Nat.mod_lt _ (by decide)⟩ (x 1)) := by
  subst hi
  unfold SparseCore.gatherPayload
  rw [hg]
  refine congrArg tb (funext fun b => Fin.ext ?_)
  match b with
  | 0 =>
    refine (congrArg Fin.val (Shape.Gathers.idx_axis gathers_S200000x128_S256x128 _ x)).trans ?_
    have e : (S256.rowMajor.symm ((x gathers_S200000x128_S256x128.axis').cast hn.symm) : S256.Idx) = ix1 (n := 256) (x 0) :=
      S256.rowMajor.symm_apply_eq.mpr (Fin.ext (Shape.rowMajor_val_one (d := ![256]) (ix1 (n := 256) (x 0))).symm)
    exact (congrArg (fun y => (idx y).toNat) e).trans (Nat.mod_eq_of_lt (h (ix1 (n := 256) (x 0)))).symm
  | 1 => exact Shape.Gathers.idx_of_ne gathers_S200000x128_S256x128 _ x 1 (by decide)

omit [FloatOps F] in
/-- Entry `k` of part `p`'s row numbers is the list's entry at the row where the part's row `k` lands. -/
theorem nums_apply (p : Fin 2) (x : S256x128.Idx) :
    nums W d L p (ix1 (n := 256) (x 0))
      = wL W d (ix1 (n := 16384) ((Rect.unit (s := S16384x128) (k0_off2 L (BitVec.ofNat 32 (256 * p.val))) S256x128.size (k0_off2_inb L p)).emb x 0)) := by
  rw [show nums W d L p (ix1 (n := 256) (x 0)) = wL W d ((lPart L p).view.emb (ix1 (n := 256) (x 0))) from (View.read_apply _ _).trans (cast_eq _ _)]
  refine congrArg (wL W d) (funext fun a => Fin.ext ?_)
  match a with
  | 0 =>
    show k0_off1 L (BitVec.ofNat 32 (256 * p.val)) 0 + 1 * (x 0).val = k0_off2 L (BitVec.ofNat 32 (256 * p.val)) 0 + 1 * (x 0).val
    rw [k0_off1_eq, k0_off2_eq]; rfl

omit [FloatOps F] in
/-- The block's columns are the output's columns. -/
theorem emb_col (p : Fin 2) (x : S256x128.Idx) :
    ((Rect.unit (s := S16384x128) (k0_off2 L (BitVec.ofNat 32 (256 * p.val))) S256x128.size (k0_off2_inb L p)).emb x 1).val = (x 1).val := by
  show k0_off2 L (BitVec.ofNat 32 (256 * p.val)) 1 + 1 * (x 1).val = _
  rw [k0_off2_eq]; simp

omit [FloatOps F] in
/-- The part's rows of the first output, once the gathered block is copied there, are at `picked`. -/
theorem landed_P (p : Fin 2) (f : Buf (Elt F) (pLoc d)) (w : S256x128.Idx → Elt F .f32)
    (hw : ∀ x, w x = wA W d (ix2 (n0 := 200000) (n1 := 128) ⟨(nums W d L p (ix1 (n := 256) (x 0))).toNat % 200000, Nat.mod_lt _ (by decide)⟩ (x 1))) :
    ((pPart L p).view.loc (V d (cV L) (jV L)) ↦[(pPart L p).view.set]{fullShare}
        (pPart L p).view.writes (Elt F) f [⟨Rect.whole S256x128, w⟩] : sProp 𝕄)
      = pLoc d ↦[blk (tL L) p]{fullShare} gP W d := by
  rw [set_pPart]
  refine pointsTo_congr fun i hi => ?_
  rw [← set_pPart] at hi
  obtain ⟨x, -, rfl⟩ := Finset.mem_map.mp hi
  have e : (pPart L p).view.writes (Elt F) f [⟨Rect.whole S256x128, w⟩] ((pPart L p).view.emb x) = w x := by
    rw [View.writes_singleton]
    have := View.write_emb_of_mem (Val := Elt F) (v := (pPart L p).view.slice (Rect.whole S256x128)) f w (Finset.mem_univ x)
    rw [View.emb_slice, Function.Embedding.trans_apply, Rect.emb_whole_apply] at this
    exact this
  refine e.trans ((hw x).trans (congrArg (wA W d) ?_))
  exact congrArg₂ (fun (n : ℕ) (k : Fin 128) => ix2 (n0 := 200000) (n1 := 128) ⟨n % 200000, Nat.mod_lt _ (by decide)⟩ k)
    (congrArg BitVec.toNat (nums_apply W d L p x)) (Fin.ext (emb_col L p x).symm)

omit [FloatOps F] in
/-- The part's rows of the second output, once the gathered block is copied there, are at `picked`. -/
theorem landed_Q (p : Fin 2) (f : Buf (Elt F) (qLoc d)) (w : S256x128.Idx → Elt F .f32)
    (hw : ∀ x, w x = wB W d (ix2 (n0 := 200000) (n1 := 128) ⟨(nums W d L p (ix1 (n := 256) (x 0))).toNat % 200000, Nat.mod_lt _ (by decide)⟩ (x 1))) :
    ((qPart L p).view.loc (V d (cV L) (jV L)) ↦[(qPart L p).view.set]{fullShare}
        (qPart L p).view.writes (Elt F) f [⟨Rect.whole S256x128, w⟩] : sProp 𝕄)
      = qLoc d ↦[blk (tL L) p]{fullShare} gQ W d := by
  rw [set_qPart]
  refine pointsTo_congr fun i hi => ?_
  rw [← set_qPart] at hi
  obtain ⟨x, -, rfl⟩ := Finset.mem_map.mp hi
  have e : (qPart L p).view.writes (Elt F) f [⟨Rect.whole S256x128, w⟩] ((qPart L p).view.emb x) = w x := by
    rw [View.writes_singleton]
    have := View.write_emb_of_mem (Val := Elt F) (v := (qPart L p).view.slice (Rect.whole S256x128)) f w (Finset.mem_univ x)
    rw [View.emb_slice, Function.Embedding.trans_apply, Rect.emb_whole_apply] at this
    exact this
  refine e.trans ((hw x).trans (congrArg (wB W d) ?_))
  exact congrArg₂ (fun (n : ℕ) (k : Fin 128) => ix2 (n0 := 200000) (n1 := 128) ⟨n % 200000, Nat.mod_lt _ (by decide)⟩ k)
    (congrArg BitVec.toNat (nums_apply W d L p x)) (Fin.ext (emb_col L p x).symm)

omit [FloatOps F] in
/-- A whole buffer written whole holds what was written. -/
theorem read_list (f : S256.Idx → Elt F .i32) (w : S256.Idx → Elt F .i32) :
    (sV).view.read (Elt F) (View.write (Elt F) (sV).view f w Finset.univ) = w := View.write_whole_univ cc0_scratch0 f w
omit [FloatOps F] in
/-- The first scratch block, written whole last, reads as what was written. -/
theorem read_x (f w : S256x128.Idx → Elt F .f32) (l : List (View.Piece (Elt F) S256x128 .f32)) :
    (xV).view.read (Elt F) ((xV).view.writes (Elt F) f (⟨Rect.whole S256x128, w⟩ :: l)) = w := funext fun y => by
  have := View.read_writes_cons_emb (v := (xV).view) (Val := Elt F) (f := f) (Rect.whole S256x128) w l y
  exact (congrArg ((xV).view.read (Elt F) ((xV).view.writes (Elt F) f (⟨Rect.whole S256x128, w⟩ :: l))) (Rect.emb_whole_apply S256x128 y)).symm.trans this
omit [FloatOps F] in
/-- The second scratch block, written whole last, reads as what was written. -/
theorem read_y (f w : S256x128.Idx → Elt F .f32) (l : List (View.Piece (Elt F) S256x128 .f32)) :
    (yV).view.read (Elt F) ((yV).view.writes (Elt F) f (⟨Rect.whole S256x128, w⟩ :: l)) = w := funext fun y => by
  have := View.read_writes_cons_emb (v := (yV).view) (Val := Elt F) (f := f) (Rect.whole S256x128) w l y
  exact (congrArg ((yV).view.read (Elt F) ((yV).view.writes (Elt F) f (⟨Rect.whole S256x128, w⟩ :: l))) (Rect.emb_whole_apply S256x128 y)).symm.trans this

omit [FloatOps F] in
/-- The whole of a table, sliced out of it, reads as the table. -/
theorem read_a (f : S200000x128.Idx → Elt F .f32) (x : S200000x128.Idx) :
    ((aV).slice (Rect.unit (s := S200000x128) ![0, 0] S200000x128.size inb_S200000x128_S200000x128_0_0) (fun _ => rfl)).view.read (Elt F) f x = f x := by
  refine ((View.read_apply _ _).trans (cast_eq _ _)).trans (congrArg f (funext fun a => Fin.ext ?_))
  match a with
  | 0 => exact (Nat.zero_add _).trans (Nat.one_mul _)
  | 1 => exact (Nat.zero_add _).trans (Nat.one_mul _)
omit [FloatOps F] in
/-- The whole of the second table, sliced out of it, reads as the table. -/
theorem read_b (f : S200000x128.Idx → Elt F .f32) (x : S200000x128.Idx) :
    ((bV).slice (Rect.unit (s := S200000x128) ![0, 0] S200000x128.size inb_S200000x128_S200000x128_0_0) (fun _ => rfl)).view.read (Elt F) f x = f x := by
  refine ((View.read_apply _ _).trans (cast_eq _ _)).trans (congrArg f (funext fun a => Fin.ext ?_))
  match a with
  | 0 => exact (Nat.zero_add _).trans (Nat.one_mul _)
  | 1 => exact (Nat.zero_add _).trans (Nat.one_mul _)

set_option maxHeartbeats 4000000 in
/-- One task, run from what it is handed with every row number in range, ends with what it hands back. Its scratch buffers and
    semaphores come back to it, and every wait it records is one recorded before or one of its own. -/
theorem tile_body (hF : (K (F := F)).Facts) (hin : InRange W) (O : CellTallies nD τ sig (HIx 1)) (Wt : Waits sig (HIx 1)) (hO : ∀ g, O g none = 0) :
    iprop(levAts (K (F := F)).L (K (F := F)).lev ∗ emp ∗ taskIn W d (tL L)
        ∗ scopedBufs (V d (cV L) (jV L)) ∗ scopedSems0 (V d (cV L) (jV L)) ∗ owes (V d (cV L) (jV L)) O Wt)
      ⊢ wp frame (wpE (defs₀ (F := F)) 𝒱₀ (V d (cV L) (jV L)) none) Set.univ
          (cc0_gk L aV (Memref.isWhole_whole _) bV (Memref.isWhole_whole _) lV (Memref.isWhole_whole _) pV (Memref.isWhole_whole _)
            qV (Memref.isWhole_whole _) sV (Memref.isWhole_whole _) xV (Memref.isWhole_whole _) yV (Memref.isWhole_whole _)
            cc0_scratch3 cc0_scoped0 cc0_scoped1 cc0_scoped2 cc0_scoped3 cc0_scoped4 cc0_scoped5)
          fun _ => iprop(taskOut W d (tL L)
            ∗ scopedBufs (V d (cV L) (jV L)) ∗ scopedSems0 (V d (cV L) (jV L))
            ∗ ∃ W', ⌜∀ p ∈ W', p ∈ Wt ∨ p.2 = none⌝ ∗ owes (V d (cV L) (jV L)) O W') := by
  simp only [cc0_gk_eq_skeleton]; unfold cc0_gk_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨⟨Ha, Hb, Hl⟩, Hp0, Hp1, Hq0, Hq1⟩, ⟨⟨%fs, Hs⟩, ⟨%fx, Hx⟩, ⟨%fy, Hy⟩, Hbufs⟩, ⟨⟨Hm, Hm0, Hm1, Hm2, Hm3, Hm4, Hm5⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp0' := (Entails.of_eq (pts_pPart (F := F) d L 0 _).symm) $$ Hp0
  ihave Hp1' := (Entails.of_eq (pts_pPart (F := F) d L 1 _).symm) $$ Hp1
  ihave Hq0' := (Entails.of_eq (pts_qPart (F := F) d L 0 _).symm) $$ Hq0
  ihave Hq1' := (Entails.of_eq (pts_qPart (F := F) d L 1 _).symm) $$ Hq1
  ihave Ha' := (Entails.of_eq (show (aLoc d ↦{leaf 5 fullShare (tL L)} wA W d : sProp 𝕄) = (aV).view.loc (V d (cV L) (jV L)) ↦{leaf 5 fullShare (tL L)} wA W d from rfl)) $$ Ha
  ihave Hb' := (Entails.of_eq (show (bLoc d ↦{leaf 5 fullShare (tL L)} wB W d : sProp 𝕄) = (bV).view.loc (V d (cV L) (jV L)) ↦{leaf 5 fullShare (tL L)} wB W d from rfl)) $$ Hb
  ihave Hl' := (Entails.of_eq (show (lLoc d ↦{leaf 5 fullShare (tL L)} wL W d : sProp 𝕄) = (lV).view.loc (V d (cV L) (jV L)) ↦{leaf 5 fullShare (tL L)} wL W d from rfl)) $$ Hl
  ihave Hs' := (Entails.of_eq (show ((V d (cV L) (jV L)).loc cc0_scratch0 ↦{fullShare} fs : sProp 𝕄) = (sV).view.loc (V d (cV L) (jV L)) ↦{fullShare} fs from rfl)) $$ Hs
  ihave Hx' := (Entails.of_eq (show ((V d (cV L) (jV L)).loc cc0_scratch1 ↦{fullShare} fx : sProp 𝕄) = (xV).view.loc (V d (cV L) (jV L)) ↦{fullShare} fx from rfl)) $$ Hx
  ihave Hy' := (Entails.of_eq (show ((V d (cV L) (jV L)).loc cc0_scratch2 ↦{fullShare} fy : sProp 𝕄) = (yV).view.loc (V d (cV L) (jV L)) ↦{fullShare} fy from rfl)) $$ Hy
  sl_exec
  have hin0 : ∀ x, ((sV).view.read (Elt F) (View.write (Elt F) (sV).view fs (tile_body.sl.dma0 W d L) Finset.univ) x).toNat
      < S200000x128.size gathers_S200000x128_S256x128.axis := fun x => by
    rw [read_list]
    exact nums_lt W d L hin 0 x
  sl_exec
  have hin1 : ∀ x, ((sV).view.read (Elt F) (View.write (Elt F) (sV).view
      (View.write (Elt F) (sV).view fs (tile_body.sl.dma0 W d L) Finset.univ) (tile_body.sl.dma0_3 W d L) Finset.univ) x).toNat
      < S200000x128.size gathers_S200000x128_S256x128.axis := fun x => by
    rw [read_list]
    exact nums_lt W d L hin 1 x
  sl_exec
  sl_step
  have vP0 : ∀ x, tile_body.sl.dma0_1 W d L fs fx hin0 x = _ := fun x =>
    (congrFun (read_x fx _ []) x).trans (gathered (read_a (wA W d)) (read_list fs (nums W d L 0)) x)
  have vQ0 : ∀ x, tile_body.sl.dma0_2 W d L fs fy hin0 x = _ := fun x =>
    (congrFun (read_y fy _ []) x).trans (gathered (read_b (wB W d)) (read_list fs (nums W d L 0)) x)
  have vP1 : ∀ x, tile_body.sl.dma0_4 W d L fs fx hin0 hin1 x = _ := fun x =>
    (congrFun (read_x fx _ _) x).trans (gathered (read_a (wA W d)) (read_list _ (nums W d L 1)) x)
  have vQ1 : ∀ x, tile_body.sl.dma0_5 W d L fs fy hin0 hin1 x = _ := fun x =>
    (congrFun (read_y fy _ _) x).trans (gathered (read_b (wB W d)) (read_list _ (nums W d L 1)) x)
  ihave Hp0 := (Entails.of_eq (landed_P W d L 0 _ _ vP0)) $$ Hp0'
  ihave Hp1 := (Entails.of_eq (landed_P W d L 1 _ _ vP1)) $$ Hp1'
  ihave Hq0 := (Entails.of_eq (landed_Q W d L 0 _ _ vQ0)) $$ Hq0'
  ihave Hq1 := (Entails.of_eq (landed_Q W d L 1 _ _ vQ1)) $$ Hq1'
  isplitl [Ha' Hb' Hl' Hp0 Hp1 Hq0 Hq1]
  · isplitl [Ha' Hb' Hl']
    · isplitl [Ha']; · iexact Ha'
      isplitl [Hb']; · iexact Hb'
      iexact Hl'
    isplitl [Hp0]; · iexact Hp0
    isplitl [Hp1]; · iexact Hp1
    isplitl [Hq0]; · iexact Hq0
    iexact Hq1
  isplitl [Hs' Hx' Hy' Hbufs]
  · isplitl [Hs']; · iexists _; iexact Hs'
    isplitl [Hx']; · iexists _; iexact Hx'
    isplitl [Hy']; · iexists _; iexact Hy'
    iexact Hbufs
  isplitl [Hm Hm0 Hm1 Hm2 Hm3 Hm4 Hm5 Hsems]
  · isplitr [Hsems]
    · isplitl [Hm]; · iexact Hm
      isplitl [Hm0]; · iexact Hm0
      isplitl [Hm1]; · iexact Hm1
      isplitl [Hm2]; · iexact Hm2
      isplitl [Hm3]; · iexact Hm3
      isplitl [Hm4]; · iexact Hm4
      iexact Hm5
    iexact Hsems
  iexists _
  isplitr
  on_goal 2 => iexact HO
  ipureintro; intro p hp
  simp only [Finset.mem_insert] at hp
  rcases hp with rfl | rfl | rfl | rfl | rfl | rfl | rfl | rfl | rfl | rfl | hp
  all_goals first | exact Or.inl hp | exact Or.inr rfl

end Tile

end Cert.Proof.RowsSc

end
-- ==== Proof.RowsRun.lean ====
/-
  THE RUN of the row gather's idealization (`RowsIdeal`), with its VALUES, over any float instance. @main is a line of
  host operations, the SparseCore call, and a second line of host operations. The launch gives every buffer of the
  TensorCore at the launch memory; the first line moves them to `W1`; the call takes its three inputs, in shares, and
  its two outputs, in the tasks' blocks, and brings them back with the outputs at `picked` (`W2`); the second line
  moves all of them to `W3`. `run_main` states that every execution ends with every buffer of the TensorCore at `W3` and
  every semaphore at zero.
-/
module

public import proofs.«01_k».proof.Proof.RowsTile
public import Idealize.ShloMosaic.Lib.StableHlo.RunRead
public import Idealize.ShloMosaic.Lib.Pipeline.Frame

@[expose] public section

noncomputable section

namespace Cert.Proof.RowsSc

open Cert.RowsIdeal Cert.RowsIdeal.Gen

open Idealize.ShloMosaic
open Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.ShareLeaves

variable {F : FTy → Type}

local notation "𝕄" => MT nD τ sig (HIx 1) (Elt F) ℕ UU ℕ
local notation "aV" => (Memref.whole Cert.RowsIdeal.main_v9_scv : Memref Cert.RowsIdeal.sig Kind.scVector Space.hbm Cert.RowsIdeal.S200000x128 EltTy.f32)
local notation "bV" => (Memref.whole Cert.RowsIdeal.main_v10_scv : Memref Cert.RowsIdeal.sig Kind.scVector Space.hbm Cert.RowsIdeal.S200000x128 EltTy.f32)
local notation "lV" => (Memref.whole Cert.RowsIdeal.main_v6_scv : Memref Cert.RowsIdeal.sig Kind.scVector Space.hbm Cert.RowsIdeal.S16384 EltTy.i32)
local notation "pV" => (Memref.whole Cert.RowsIdeal.main_v11_0_scv : Memref Cert.RowsIdeal.sig Kind.scVector Space.hbm Cert.RowsIdeal.S16384x128 EltTy.f32)
local notation "qV" => (Memref.whole Cert.RowsIdeal.main_v11_1_scv : Memref Cert.RowsIdeal.sig Kind.scVector Space.hbm Cert.RowsIdeal.S16384x128 EltTy.f32)
local notation "sV" => (Memref.whole Cert.RowsIdeal.cc0_scratch0 : Memref Cert.RowsIdeal.sig Kind.scVector Space.vmem Cert.RowsIdeal.S256 EltTy.i32)
local notation "xV" => (Memref.whole Cert.RowsIdeal.cc0_scratch1 : Memref Cert.RowsIdeal.sig Kind.scVector Space.vmem Cert.RowsIdeal.S256x128 EltTy.f32)
local notation "yV" => (Memref.whole Cert.RowsIdeal.cc0_scratch2 : Memref Cert.RowsIdeal.sig Kind.scVector Space.vmem Cert.RowsIdeal.S256x128 EltTy.f32)

variable [FloatOps F]

/-! ## @main as its two lines of host operations around the call -/

/-- @main's operations before the call, in order. -/
abbrev opsPre : List (HloOp τ sig (Elt F)) :=
  [ nullary main_v0 (iotaInDim S4 32 0),
    unary main_v0 main_v1 (broadcastInDim S4x1x1 ![0] bcast_S4_S4x1x1_0 : (⟨S4, .i32⟩ : BufTy).Contents (Elt F) → (⟨S4x1x1, .i32⟩ : BufTy).Contents (Elt F)),
    nullary main_c (constantI S_ 32 50000#32),
    unary main_c main_v2 (broadcastInDim S4x1x1 ![] bcast_S_S4x1x1 : (⟨S_, .i32⟩ : BufTy).Contents (Elt F) → (⟨S4x1x1, .i32⟩ : BufTy).Contents (Elt F)),
    binary main_v1 main_v2 main_v3 (muli : (⟨S4x1x1, .i32⟩ : BufTy).Contents (Elt F) → (⟨S4x1x1, .i32⟩ : BufTy).Contents (Elt F) → (⟨S4x1x1, .i32⟩ : BufTy).Contents (Elt F)),
    unary main_v3 main_v4 (broadcastInDim S4x128x32 ![0, 1, 2] bcast_S4x1x1_S4x128x32_0_1_2 : (⟨S4x1x1, .i32⟩ : BufTy).Contents (Elt F) → (⟨S4x128x32, .i32⟩ : BufTy).Contents (Elt F)),
    binary main_arg2 main_v4 main_v5 (addi : (⟨S4x128x32, .i32⟩ : BufTy).Contents (Elt F) → (⟨S4x128x32, .i32⟩ : BufTy).Contents (Elt F) → (⟨S4x128x32, .i32⟩ : BufTy).Contents (Elt F)),
    reshape main_v5 main_v6 (rfl : (.i32 : EltTy) = .i32) shapeCasts_S4x128x32_S16384,
    reshape main_arg0 main_v7 (rfl : (.f32 : EltTy) = .f32) shapeCasts_S4x50000x32_S200000x32,
    reshape main_arg1 main_v8 (rfl : (.f32 : EltTy) = .f32) shapeCasts_S4x50000x32_S200000x32,
    nullary main_c_0 (constantI S_ 32 0#32),
    TRef.unary (.of main_c_0 : TRef sig ⟨S_, .i32⟩) main_call0.v0 (sitofp .f32),
    TRef.binary (.of main_v7 : TRef sig ⟨S200000x32, .f32⟩) main_call0.v0 main_call0.v1 (fun x v => pad S200000x128 ![0, 0] ![0, 96] ![0, 0] x v pads_S200000x32_S200000x128_000_0960 h_S_),
    nullary main_c_1 (constantI S_ 32 0#32),
    TRef.unary (.of main_c_1 : TRef sig ⟨S_, .i32⟩) main_call1.v0 (sitofp .f32),
    TRef.binary (.of main_v8 : TRef sig ⟨S200000x32, .f32⟩) main_call1.v0 main_call1.v1 (fun x v => pad S200000x128 ![0, 0] ![0, 96] ![0, 0] x v pads_S200000x32_S200000x128_000_0960 h_S_) ]

/-- @main's operations after the call, in order. -/
abbrev opsPost : List (HloOp τ sig (Elt F)) :=
  [ unary main_v11_0 main_v12 ((extractStridedSlice S16384x32 ![0, 0] · slices_S16384x128_S16384x32_0_0) : (⟨S16384x128, .f32⟩ : BufTy).Contents (Elt F) → (⟨S16384x32, .f32⟩ : BufTy).Contents (Elt F)),
    unary main_v11_1 main_v13 ((extractStridedSlice S16384x32 ![0, 0] · slices_S16384x128_S16384x32_0_0) : (⟨S16384x128, .f32⟩ : BufTy).Contents (Elt F) → (⟨S16384x32, .f32⟩ : BufTy).Contents (Elt F)),
    reshape main_v12 main_v14 (rfl : (.f32 : EltTy) = .f32) shapeCasts_S16384x32_S4x128x32x32,
    reshape main_v13 main_v15 (rfl : (.f32 : EltTy) = .f32) shapeCasts_S16384x32_S4x128x32x32,
    nullary main_v16 (iotaInDim S4 32 0),
    unary main_v16 main_v17 (broadcastInDim S4x1x1 ![0] bcast_S4_S4x1x1_0 : (⟨S4, .i32⟩ : BufTy).Contents (Elt F) → (⟨S4x1x1, .i32⟩ : BufTy).Contents (Elt F)),
    unary main_v17 main_v18 (broadcastInDim S4x128x32 ![0, 1, 2] bcast_S4x1x1_S4x128x32_0_1_2 : (⟨S4x1x1, .i32⟩ : BufTy).Contents (Elt F) → (⟨S4x128x32, .i32⟩ : BufTy).Contents (Elt F)) ]

/-- The program is the host's operations before the call, the call, and the host's operations after it. -/
theorem main_eq (d : Dev nD) :
    main (F := F) d = (seq opsPre >>= fun _ => (K (F := F)).run d 0 >>= fun _ => seq opsPost >>= fun _ => pure ⟨⟩) := rfl

/-- The operations before the call work on the TensorCore's buffers. -/
theorem pre_sub : ∀ op ∈ (opsPre : List (HloOp τ sig (Elt F))), op.bufs ⊆ Pipeline.ucRefs τ sig := fun op h =>
  Pipeline.sub_ucRefs op (List.forall_iff_forall_mem.1 (show (opsPre : List (HloOp τ sig (Elt F))).Forall fun op => op.bufs ⊆ tcRefs τ sig by
    refine ⟨?_, ?_, ?_, ?_, ?_, ?_, ?_, ?_, ?_, ?_, ?_, ?_, ?_, ?_, ?_, ?_⟩ <;> simp [TRef.unary, TRef.binary]) op h)

/-- The operations after the call work on the TensorCore's buffers. -/
theorem post_sub : ∀ op ∈ (opsPost : List (HloOp τ sig (Elt F))), op.bufs ⊆ Pipeline.ucRefs τ sig := fun op h =>
  Pipeline.sub_ucRefs op (List.forall_iff_forall_mem.1 (show (opsPost : List (HloOp τ sig (Elt F))).Forall fun op => op.bufs ⊆ tcRefs τ sig by
    refine ⟨?_, ?_, ?_, ?_, ?_, ?_, ?_⟩ <;> simp) op h)

/-- The operations before the call allocate nothing. -/
theorem pre_fresh : ∀ op ∈ (opsPre : List (HloOp τ sig (Elt F))), op.fresh = ∅ := List.forall_iff_forall_mem.1 (forall_fresh_of_map rfl)
/-- The operations after the call allocate nothing. -/
theorem post_fresh : ∀ op ∈ (opsPost : List (HloOp τ sig (Elt F))), op.fresh = ∅ := List.forall_iff_forall_mem.1 (forall_fresh_of_map rfl)

/-! ## The contents of the TensorCore's buffers: before the call, after it, at the end -/

variable (m : (ℓ : Loc nD τ sig) → Buf (Elt F) ℓ) (ρ : Dev nD → PrngReg)

/-- Before the call. -/
def W1 (d : Dev nD) : Valuation τ sig (Elt F) := after opsPre (launchContents m d)
/-- After the call: the two outputs have the rows that the list names. -/
def W2 (d : Dev nD) : Valuation τ sig (Elt F) :=
  Function.update (Function.update (W1 m d) (Proc.devRef .tc main_v11_0) (gP (W1 m) d)) (Proc.devRef .tc main_v11_1) (gQ (W1 m) d)
/-- At the end. -/
def W3 (d : Dev nD) : Valuation τ sig (Elt F) := after opsPost (W2 m d)

/-! ## What the handshakes carry -/

/-- The task of subcore `s` of SparseCore `c`. -/
def tN (c : Fin ((K (F := F)).nCore 0)) (s : Fin ((K (F := F)).nSub 0)) : Fin 32 := ⟨2 * s.val + c.val, by
  have h0 : c.val < 2 := c.isLt
  have h1 : s.val < 16 := s.isLt
  omega⟩

/-- The call of a SparseCore takes its tasks' inputs and brings back its tasks' outputs. -/
def P : (K (F := F)).Pay (nD := nD) (Val := Elt F) (Name := ℕ) (U := UU) where
  st := fun q d c => match q with | 0 => bigSep Finset.univ fun s => taskIn (W1 m) d (tN (F := F) c s)
  dn := fun q d c => match q with | 0 => bigSep Finset.univ fun s => taskOut (W1 m) d (tN (F := F) c s)
  go := fun q d c i => match q with | 0 => taskIn (W1 m) d (tN (F := F) c i)
  td := fun q d c i => match q with | 0 => taskOut (W1 m) d (tN (F := F) c i)
  x := fun _ _ => iprop(emp)

/-- What the handshakes carry can be stored in an invariant. -/
instance P_storable : (P (F := F) m).IsStorable where
  st q d c := match q with
    | 0 => (inferInstance : BI.Storable (upEmb : UEmb _ 𝕄) (bigSep Finset.univ fun s => taskIn (W1 m) d (tN (F := F) c s)))
  dn q d c := match q with
    | 0 => (inferInstance : BI.Storable (upEmb : UEmb _ 𝕄) (bigSep Finset.univ fun s => taskOut (W1 m) d (tN (F := F) c s)))
  go q d c i := match q with
    | 0 => (inferInstance : BI.Storable (upEmb : UEmb _ 𝕄) (taskIn (W1 m) d (tN (F := F) c i)))
  td q d c i := match q with
    | 0 => (inferInstance : BI.Storable (upEmb : UEmb _ 𝕄) (taskOut (W1 m) d (tN (F := F) c i)))

/-! ## The obligation -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs in the call is the task at its grid point. -/
theorem defs₀_vector (c : Fin τ.nSC) (s : Fin τ.nSub) :
    defs₀ (F := F) (.scVector c s) 0 ()
      = SparseCore.onTile hcore0 hsub0 (fun c s => cc0_gk (coordsV c s)
          aV (Memref.isWhole_whole _) bV (Memref.isWhole_whole _) lV (Memref.isWhole_whole _) pV (Memref.isWhole_whole _)
            qV (Memref.isWhole_whole _) sV (Memref.isWhole_whole _) xV (Memref.isWhole_whole _) yV (Memref.isWhole_whole _)
            cc0_scratch3 cc0_scoped0 cc0_scoped1 cc0_scoped2 cc0_scoped3 cc0_scoped4 cc0_scoped5) ⟨⟩ c s := rfl

omit [FloatOps F] in
/-- A task's recorded waits, each from before or its own, are also each from before, its own or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation, where the list's numbers are in range. -/
theorem tileObl (hF : (K (F := F)).Facts) (hin : InRange (W1 m)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (W1 m) d (coordsV ⟨_, hci.1⟩ ⟨_, hci.2⟩) hF hin O W hO).trans (wp_mono frame _ _ fun _ => obl_post)

/-- What the call of a SparseCore takes and brings back is what its tasks take and bring back. -/
theorem vecSplit : (K (F := F)).VecSplit' (P m) 0 := by
  intro d c
  show (bigSep Finset.univ fun s => taskIn (W1 m) d (tN (F := F) c s)) ⊢ |={Set.univ}=> iprop(
      (bigSep Finset.univ fun s => taskIn (W1 m) d (tN (F := F) c s))
      ∗ ((bigSep Finset.univ fun s => taskOut (W1 m) d (tN (F := F) c s)) -∗ bigSep Finset.univ fun s => taskOut (W1 m) d (tN (F := F) c s)))
  iintro H; imodintro
  isplitl [H]; · iexact H
  iintro H; iexact H

/-! ## The call's buffers and its tasks -/

/-- The two parts of a task's rows have no row in common. -/
theorem blk_disjoint (t : Fin 32) : Disjoint (blk t 0) (blk t 1) :=
  Finset.disjoint_left.mpr fun x h0 h1 => by
    rw [mem_blk] at h0 h1
    simp at h0 h1; omega

/-- Two tasks have no row of an output in common. -/
theorem tasks_disjoint : ∀ t ∈ (Finset.univ : Finset (Fin 32)), ∀ t' ∈ (Finset.univ : Finset (Fin 32)), t ≠ t' →
    Disjoint (blk t 0 ∪ blk t 1) (blk t' 0 ∪ blk t' 1) := fun t _ t' _ h =>
  Finset.disjoint_left.mpr fun x h0 h1 => by
    rw [Finset.mem_union, mem_blk, mem_blk] at h0 h1
    have : t.val ≠ t'.val := fun e => h (Fin.ext e)
    simp at h0 h1; omega

/-- Every row of an output is a task's. -/
theorem tasks_cover : (Finset.univ : Finset (Fin 32)).biUnion (fun t => blk t 0 ∪ blk t 1) = Finset.univ := by
  ext x
  have hx : (x 0).val < 16384 := (x 0).isLt
  simp only [Finset.mem_biUnion, Finset.mem_univ, true_and, Finset.mem_union, mem_blk, iff_true]
  refine ⟨⟨(x 0).val / 512, by omega⟩, ?_⟩
  simp; omega

omit [FloatOps F] in
/-- Owning the first output is owning every task's blocks of it. -/
theorem pts_p (d : Dev nD) (f : Buf (Elt F) (pLoc d)) :
    (pLoc d ↦{fullShare} f : sProp 𝕄)
      = bigSep Finset.univ fun t : Fin 32 => iprop((pLoc d ↦[blk t 0]{fullShare} f) ∗ (pLoc d ↦[blk t 1]{fullShare} f)) := by
  rw [← tasks_cover, pointsTo_biUnion (ℓ := pLoc d) Finset.univ (fun t : Fin 32 => blk t 0 ∪ blk t 1) tasks_disjoint]
  exact bigSep_congr fun t _ => BI.Entails.antisymm (pointsTo_union (blk_disjoint t)).1 (pointsTo_union (blk_disjoint t)).2
omit [FloatOps F] in
/-- Owning the second output is owning every task's blocks of it. -/
theorem pts_q (d : Dev nD) (f : Buf (Elt F) (qLoc d)) :
    (qLoc d ↦{fullShare} f : sProp 𝕄)
      = bigSep Finset.univ fun t : Fin 32 => iprop((qLoc d ↦[blk t 0]{fullShare} f) ∗ (qLoc d ↦[blk t 1]{fullShare} f)) := by
  rw [← tasks_cover, pointsTo_biUnion (ℓ := qLoc d) Finset.univ (fun t : Fin 32 => blk t 0 ∪ blk t 1) tasks_disjoint]
  exact bigSep_congr fun t _ => BI.Entails.antisymm (pointsTo_union (blk_disjoint t)).1 (pointsTo_union (blk_disjoint t)).2

section Split

variable (W : Dev nD → Valuation τ sig (Elt F))

omit [FloatOps F] in
/-- The call's five buffers are its 32 tasks' shares and blocks. -/
theorem tasks_eq (d : Dev nD) (f : Buf (Elt F) (pLoc d)) (g : Buf (Elt F) (qLoc d)) :
    (bigSep Finset.univ fun t : Fin 32 => iprop(reads W d t ∗ blocks d t f g) : sProp 𝕄)
      = iprop(((aLoc d ↦{fullShare} wA W d) ∗ (bLoc d ↦{fullShare} wB W d) ∗ (lLoc d ↦{fullShare} wL W d))
          ∗ (pLoc d ↦{fullShare} f) ∗ (qLoc d ↦{fullShare} g)) := by
  have hb : ∀ t : Fin 32, (blocks d t f g : sProp 𝕄)
      = iprop(((pLoc d ↦[blk t 0]{fullShare} f) ∗ (pLoc d ↦[blk t 1]{fullShare} f))
          ∗ ((qLoc d ↦[blk t 0]{fullShare} g) ∗ (qLoc d ↦[blk t 1]{fullShare} g))) := fun t => by
    refine BI.Entails.antisymm ?_ ?_
    · show (_ : sProp 𝕄) ⊢ _
      iintro ⟨H1, H2, H3, H4⟩
      isplitl [H1 H2]
      · isplitl [H1] <;> iassumption
      isplitl [H3] <;> iassumption
    · show (_ : sProp 𝕄) ⊢ _
      iintro ⟨⟨H1, H2⟩, H3, H4⟩
      isplitl [H1]; · iexact H1
      isplitl [H2]; · iexact H2
      isplitl [H3] <;> iassumption
  rw [bigSep_congr fun t _ => congrArg (fun z => iprop(reads W d t ∗ z)) (hb t)]
  rw [bigSep_sep', bigSep_sep', bigSep_sep', bigSep_sep', ← pts_p, ← pts_q,
    pointsTo_leaves Finset.univ (wA W d) 5 fullShare, pointsTo_leaves Finset.univ (wB W d) 5 fullShare,
    pointsTo_leaves Finset.univ (wL W d) 5 fullShare]
  rfl

/-- Pairs of a subcore and a SparseCore are the tasks. -/
def taskEquiv : Fin 2 × Fin 16 ≃ Fin 32 where
  toFun x := ⟨2 * x.2.val + x.1.val, by omega⟩
  invFun t := (⟨t.val % 2, by omega⟩, ⟨t.val / 2, by omega⟩)
  left_inv x := by ext <;> simp <;> omega
  right_inv t := by ext; simp; omega

omit [FloatOps F] in
/-- A resource for each task, SparseCore by SparseCore and subcore by subcore, is a resource for each of the 32 tasks. -/
theorem bySubcore (Φ : Fin 32 → sProp 𝕄) :
    (bigSep Finset.univ fun c : Fin ((K (F := F)).nCore 0) => bigSep Finset.univ fun s : Fin ((K (F := F)).nSub 0) => Φ (tN (F := F) c s))
      = bigSep Finset.univ Φ := by
  rw [bigSep_univ_equiv taskEquiv Φ, bigSep_univ_prod (fun x => Φ (taskEquiv x))]
  rfl

end Split

/-- What the call takes is its five buffers at their contents before it. -/
theorem st0_eq (d : Dev nD) :
    (bigSep Finset.univ fun c : Fin ((K (F := F)).nCore 0) => (P m).st 0 d c)
      = iprop(((aLoc d ↦{fullShare} wA (W1 m) d) ∗ (bLoc d ↦{fullShare} wB (W1 m) d) ∗ (lLoc d ↦{fullShare} wL (W1 m) d))
          ∗ (pLoc d ↦{fullShare} wP (W1 m) d) ∗ (qLoc d ↦{fullShare} wQ (W1 m) d)) :=
  (bySubcore (F := F) (fun t => taskIn (W1 m) d t)).trans (tasks_eq (W1 m) d _ _)
/-- What the call brings back is its five buffers, the two outputs with the rows that the list names. -/
theorem dn0_eq (d : Dev nD) :
    (bigSep Finset.univ fun c : Fin ((K (F := F)).nCore 0) => (P m).dn 0 d c)
      = iprop(((aLoc d ↦{fullShare} wA (W1 m) d) ∗ (bLoc d ↦{fullShare} wB (W1 m) d) ∗ (lLoc d ↦{fullShare} wL (W1 m) d))
          ∗ (pLoc d ↦{fullShare} gP (W1 m) d) ∗ (qLoc d ↦{fullShare} gQ (W1 m) d)) :=
  (bySubcore (F := F) (fun t => taskOut (W1 m) d t)).trans (tasks_eq (W1 m) d _ _)

/-! ## The launch element of the certificate's ghost state -/

/-- The ghost state of the launch. -/
def u₀ : UU := (initOf (K (F := F)).hsCells (K (F := F)).hsToks, 1)

omit [FloatOps F] in
/-- Any number of empty resources are empty. -/
theorem emps {I : Type} (s : Finset I) : (bigSep s fun _ => iprop(emp)) = (iprop(emp) : sProp 𝕄) := bigSep_emp_const s

/-- The launch's ghost state deals out the handshakes' tokens and what the TensorCores start with. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

/-- The call's buffers among the TensorCore's. -/
abbrev callRefs : Finset (DevRef τ sig) :=
  {Proc.devRef .tc main_v9, Proc.devRef .tc main_v10, Proc.devRef .tc main_v6, Proc.devRef .tc main_v11_0, Proc.devRef .tc main_v11_1}

/-- The call's buffers are among the TensorCore's. -/
theorem callRefs_sub : callRefs ⊆ Pipeline.ucRefs τ sig := by
  intro b hb
  simp only [Finset.mem_insert, Finset.mem_singleton] at hb
  rcases hb with rfl | rfl | rfl | rfl | rfl <;> exact Finset.mem_filter.mpr ⟨devRef_mem_tcRefs _, by decide⟩

omit [FloatOps F] in
/-- Holding the call's buffers is owning each of the five. -/
theorem held_call (d : Dev nD) (V : Valuation τ sig (Elt F)) :
    (held (d.tc : Thread nD τ) callRefs V : sProp 𝕄)
      = iprop((aLoc d ↦{fullShare} V (Proc.devRef .tc main_v9)) ∗ (bLoc d ↦{fullShare} V (Proc.devRef .tc main_v10))
          ∗ (lLoc d ↦{fullShare} V (Proc.devRef .tc main_v6)) ∗ (pLoc d ↦{fullShare} V (Proc.devRef .tc main_v11_0))
          ∗ (qLoc d ↦{fullShare} V (Proc.devRef .tc main_v11_1))) := by
  have ne : ∀ {a b : Ref sig .tc}, a ≠ b → Proc.devRef (τ := τ) .tc a ≠ Proc.devRef .tc b := fun h e => h (Proc.devRef_injective _ e)
  unfold held callRefs
  rw [SparseCore.bigSep_insert' (by decide), SparseCore.bigSep_insert' (by decide), SparseCore.bigSep_insert' (by decide),
    SparseCore.bigSep_insert' (by decide), bigSep_singleton]

/-- The first output after the call. -/
theorem W2_p (d : Dev nD) : W2 m d (Proc.devRef .tc main_v11_0) = gP (W1 m) d := by
  unfold W2
  rw [Function.update_of_ne (by decide), Function.update_self]
/-- The second output after the call. -/
theorem W2_q (d : Dev nD) : W2 m d (Proc.devRef .tc main_v11_1) = gQ (W1 m) d := by
  unfold W2
  rw [Function.update_self]
/-- The call leaves every other buffer as it was. -/
theorem W2_other (d : Dev nD) (b : DevRef τ sig) (hp : b ≠ Proc.devRef .tc main_v11_0) (hq : b ≠ Proc.devRef .tc main_v11_1) :
    W2 m d b = W1 m d b := by
  unfold W2
  rw [Function.update_of_ne hq, Function.update_of_ne hp]

/-- The call's buffers after it, with the rest of the TensorCore's, are all of them at `W2`. -/
theorem back (d : Dev nD) :
    (iprop(((aLoc d ↦{fullShare} wA (W1 m) d) ∗ (bLoc d ↦{fullShare} wB (W1 m) d) ∗ (lLoc d ↦{fullShare} wL (W1 m) d)
          ∗ (pLoc d ↦{fullShare} gP (W1 m) d) ∗ (qLoc d ↦{fullShare} gQ (W1 m) d))
        ∗ held (d.tc : Thread nD τ) (Pipeline.ucRefs τ sig \ callRefs) (W1 m d)) : sProp 𝕄)
      = held (d.tc : Thread nD τ) (Pipeline.ucRefs τ sig) (W2 m d) := by
  rw [held_sub_split (d.tc : Thread nD τ) callRefs_sub (W2 m d), held_call, W2_p, W2_q,
    W2_other m d (Proc.devRef .tc main_v9) (by decide) (by decide), W2_other m d (Proc.devRef .tc main_v10) (by decide) (by decide),
    W2_other m d (Proc.devRef .tc main_v6) (by decide) (by decide),
    held_congr (d.tc : Thread nD τ) (S := Pipeline.ucRefs τ sig \ callRefs) (V := W2 m d) (V' := W1 m d) fun b hb => W2_other m d b
      (fun e => (Finset.mem_sdiff.mp hb).2 (by rw [e]; decide)) (fun e => (Finset.mem_sdiff.mp hb).2 (by rw [e]; decide))]

/-- What the TensorCore of `d` holds at the end. -/
abbrev FIN (d : Dev nD) : sProp 𝕄 := held (d.tc : Thread nD τ) (Pipeline.ucRefs τ sig) (W3 m d)

/-- @main on device `d`'s TensorCore: every buffer is kept, at `W3` in the end. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b) : sProp 𝕄) = held (d.tc : Thread nD τ) (Pipeline.ucRefs τ sig) (launchContents m d) from
    Pipeline.unscopedBufs_held d (launchContents m d), main_eq]
  iintro ⟨#Hctx, Hst, ⟨Hb, Hh, Hts, -⟩, -⟩
  iapply (wp_seq 𝒱 none Set.univ d (Pipeline.ucRefs τ sig) _ opsPre pre_sub pre_fresh (launchContents m d)) $$ [Hb Hh]
  · isplitl [Hb] <;> iassumption
  iintro ⟨Hb, Hh⟩
  ihave Hh' := (Entails.of_eq ((show (held (d.tc : Thread nD τ) (Pipeline.ucRefs τ sig) (after opsPre (launchContents m d)) : sProp 𝕄)
    = held (d.tc : Thread nD τ) (Pipeline.ucRefs τ sig) (W1 m d) from rfl).trans <| (held_sub_split (d.tc : Thread nD τ) callRefs_sub (W1 m d)).trans
    (congrArg (fun z => iprop(z ∗ held (d.tc : Thread nD τ) (Pipeline.ucRefs τ sig \ callRefs) (W1 m d))) (held_call d (W1 m d))))) $$ Hh
  icases Hh' with ⟨⟨Ha, Hbb, Hl, Hp, Hq⟩, Hrest⟩
  rw [wp_bind]
  iapply ((K (F := F)).wp_run (D (F := F)) 𝒱 (EH := EH) (P := P m) κ d 0) $$ [Hst Ha Hbb Hl Hp Hq Hb Hts Hrest]
  isplitr; · iexact Hctx
  isplitl [Hst]; · iexact Hst
  isplitl [Ha Hbb Hl Hp Hq]
  · rw [st0_eq]
    isplitl [Ha Hbb Hl]
    · isplitl [Ha]; · iexact Ha
      isplitl [Hbb]; · iexact Hbb
      iexact Hl
    isplitl [Hp]; · iexact Hp
    iexact Hq
  iintro ⟨Hst, Hdn⟩
  ihave Hdn' := (Entails.of_eq (dn0_eq m d)) $$ Hdn
  icases Hdn' with ⟨⟨Ha, Hbb, Hl⟩, Hp, Hq⟩
  iapply (wp_seq 𝒱 none Set.univ d (Pipeline.ucRefs τ sig) _ opsPost post_sub post_fresh (W2 m d)) $$ [Hb Ha Hbb Hl Hp Hq Hrest]
  · isplitl [Hb]; · iassumption
    iapply (Entails.of_eq (back m d));
    isplitl [Ha Hbb Hl Hp Hq]
    · isplitl [Ha]; · iexact Ha
      isplitl [Hbb]; · iexact Hbb
      isplitl [Hl]; · iexact Hl
      isplitl [Hp]; · iexact Hp
      iexact Hq
    iexact Hrest
  iintro ⟨Hb, Hh⟩
  rw [wp_pure]
  imodintro
  isplitl [Hst]; · iexact Hst
  isplitl [Hh]; · iexact Hh
  isplitl [Hb] <;> iassumption

/-! ## The end -/

/-- Every buffer of the TensorCore of `d` has the contents of the end. -/
def fq (d : Dev nD) (s' : Phys nD τ sig (Elt F)) : Prop := ∀ b ∈ Pipeline.ucRefs τ sig, s'.mem.mem (d, b) = W3 m d b

/-- What the TensorCore holds at the end fixes the contents of its buffers. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro; exact h

/-- Every buffer of the TensorCore ends at `W3`, and every semaphore at zero. -/
def QC : PUnit × MemSt nD τ sig (Elt F) → Prop := fun r =>
  (∀ c : Dev nD, ∀ b ∈ Pipeline.ucRefs τ sig, r.2.mem (c, b) = W3 m c b) ∧ r.2.sem = fun _ => 0

/-- THE RUN: the list in range, every execution of the program ends at `QC`. -/
theorem run_main [∀ e, Nonempty (Elt F e)] (hin : InRange (W1 m)) :
    θ_run (Cert.RowsIdeal.defs (F := F)) (Cert.RowsIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.RowsSc

end
-- ==== Proof.RowsValue.lean ====
/-
  WHAT THE ROW GATHER COMPUTES, over any float instance: with every index below 50000, the flat list names rows of the
  flattened tables, and the two results are the tables' rows `(batch, index)` (`rowsOf`).
-/
module

public import proofs.«01_k».proof.Proof.RowsRun
public import proofs.«01_k».proof.Proof.Gen.RowsRefIdeal.Run
public import proofs.«01_k».proof.Proof.Gen.Pre_indices_in_rows
public import Idealize.ShloMosaic.Lib.Pipeline.Value

@[expose] public section

noncomputable section

namespace Cert.Proof.RowsSc

open Cert.RowsIdeal Cert.RowsIdeal.Gen

open Idealize.ShloMosaic
open Idealize.ShloMosaic.StableHlo
open Idealize.ShloMosaic.ValueIdx
open Idealize.SL.Sem

variable {F : FTy → Type}

/-! ## Indices read at their coordinates -/

/-- The coordinate of an index of one axis. -/
theorem c1 {n0 : ℕ} (a : Fin n0) : ((ix1 a) 0).val = a.val := rfl
/-- The first of two coordinates. -/
theorem c20 {n0 n1 : ℕ} (a : Fin n0) (b : Fin n1) : ((ix2 a b) 0).val = a.val := rfl
/-- The second of two coordinates. -/
theorem c21 {n0 n1 : ℕ} (a : Fin n0) (b : Fin n1) : ((ix2 a b) 1).val = b.val := rfl
/-- The first of three coordinates. -/
theorem c30 {n0 n1 n2 : ℕ} (a : Fin n0) (b : Fin n1) (c : Fin n2) : ((ix3 a b c) 0).val = a.val := rfl
/-- The second of three coordinates. -/
theorem c31 {n0 n1 n2 : ℕ} (a : Fin n0) (b : Fin n1) (c : Fin n2) : ((ix3 a b c) 1).val = b.val := rfl
/-- The third of three coordinates. -/
theorem c32 {n0 n1 n2 : ℕ} (a : Fin n0) (b : Fin n1) (c : Fin n2) : ((ix3 a b c) 2).val = c.val := rfl

/-- Result `(b, i, k, c)` is column `c` of row `ix (b, i, k)` of batch `b` of the table. -/
def rowsOf {α : Type} (tb : S4x50000x32.Idx → α) (ix : S4x128x32.Idx → BitVec 32) : S4x128x32x32.Idx → α := fun y =>
  tb (ix3 (n0 := 4) (n1 := 50000) (n2 := 32) (y 0) ⟨(ix (ix3 (n0 := 4) (n1 := 128) (n2 := 32) (y 0) (y 1) (y 2))).toNat % 50000, Nat.mod_lt _ (by decide)⟩ (y 3))

/-- The batch number of every entry. -/
def batchOf : S4x128x32.Idx → BitVec 32 := fun j => BitVec.ofNat 32 (j 0).val

/-- The flat list of row numbers: batch `b`'s index plus `50000 b`. -/
def flatOf (ix : S4x128x32.Idx → BitVec 32) : S4x128x32.Idx → BitVec 32 := fun j =>
  ix j + BitVec.ofNat 32 (j 0).val * 50000#32

/-- A list entry as a number, for an index below 50000: `50000 b` plus the index, with no overflow. -/
theorem flatOf_toNat (ix : S4x128x32.Idx → BitVec 32) (j : S4x128x32.Idx) (h : (ix j).toNat < 50000) :
    (flatOf ix j).toNat = 50000 * (j 0).val + (ix j).toNat := by
  have h0 : (j 0).val < 4 := (j 0).isLt
  unfold flatOf
  rw [BitVec.toNat_add, BitVec.toNat_mul, BitVec.toNat_ofNat, BitVec.toNat_ofNat]
  omega

variable [FloatOps F]
variable (m : (ℓ : Loc nD τ sig) → Buf (Elt F) ℓ)

/-- The first table, the first argument. -/
abbrev A0 (d : Dev nD) : S4x50000x32.Idx → Elt F .f32 := m ((d.tc : Thread nD τ).loc main_arg0)
/-- The second table, the second argument. -/
abbrev A1 (d : Dev nD) : S4x50000x32.Idx → Elt F .f32 := m ((d.tc : Thread nD τ).loc main_arg1)
/-- The indices, the third argument. -/
abbrev A2 (d : Dev nD) : S4x128x32.Idx → BitVec 32 := m ((d.tc : Thread nD τ).loc main_arg2)

/-- Every index names a row. -/
def InRows : Prop := ∀ (d : Dev nD) (j : S4x128x32.Idx), (A2 m d j).toNat < 50000

/-- The flat list before the call. -/
theorem W1_list (d : Dev nD) :
    wL (W1 m) d = shapeCast S16384 (flatOf (A2 m d)) shapeCasts_S4x128x32_S16384 := by
  have h : wL (W1 m) d = shapeCast S16384 (addi (A2 m d) (broadcastInDim S4x128x32 ![0, 1, 2] bcast_S4x1x1_S4x128x32_0_1_2
      (muli (broadcastInDim S4x1x1 ![0] bcast_S4_S4x1x1_0 (iotaInDim S4 32 0)) (broadcastInDim S4x1x1 ![] bcast_S_S4x1x1 (constantI S_ 32 50000#32)))))
      shapeCasts_S4x128x32_S16384 := by
    unfold W1
    after_results_simp <;> rfl
  rw [h]
  rfl

/-- The first table before the call: flattened, each row padded to 128 columns. -/
theorem W1_a (d : Dev nD) :
    wA (W1 m) d = pad S200000x128 ![0, 0] ![0, 96] ![0, 0] (shapeCast S200000x32 (A0 m d) shapeCasts_S4x50000x32_S200000x32)
      (sitofp (F := F) .f32 (constantI S_ 32 0#32)) pads_S200000x32_S200000x128_000_0960 h_S_ := by
  unfold W1
  after_results_simp <;> rfl
/-- The call's second padded table: the second argument's rows, 96 zero columns after them. -/
theorem W1_b (d : Dev nD) :
    wB (W1 m) d = pad S200000x128 ![0, 0] ![0, 96] ![0, 0] (shapeCast S200000x32 (A1 m d) shapeCasts_S4x50000x32_S200000x32)
      (sitofp (F := F) .f32 (constantI S_ 32 0#32)) pads_S200000x32_S200000x128_000_0960 h_S_ := by
  unfold W1
  after_results_simp <;> rfl

/-- The entry of the list for `(b, i, k)` is number `4096 b + 32 i + k`. -/
theorem list_at (ix : S4x128x32.Idx → BitVec 32) (b : Fin 4) (i : Fin 128) (k : Fin 32) (r : Fin 16384)
    (hr : r.val = 4096 * b.val + 32 * i.val + k.val) :
    shapeCast S16384 (flatOf ix) shapeCasts_S4x128x32_S16384 (ix1 r) = flatOf ix (ix3 b i k) := by
  refine shapeCast_apply _ _ _ _ ?_
  simp [Shape.rowMajor_val_one, Shape.rowMajor_val_three, c1, c30, c31, c32]
  omega

/-- Indices below 50000 make every number of the call's list name a row of the padded tables. -/
theorem inRange (h : InRows m) : InRange (W1 m) := by
  intro d j
  have hj : (j 0).val < 16384 := (j 0).isLt
  have e := (congrFun (W1_list m d) j).trans ((congrArg _ (eq_ix1 j)).trans
    (list_at (A2 m d) ⟨(j 0).val / 4096, by omega⟩ ⟨(j 0).val / 32 % 128, by omega⟩ ⟨(j 0).val % 32, by omega⟩ (j 0) (by simp; omega)))
  refine lt_of_eq_of_lt ((congrArg BitVec.toNat e).trans (flatOf_toNat _ _ (h d _))) ?_
  have := h d (ix3 (n0 := 4) (n1 := 128) (n2 := 32) ⟨(j 0).val / 4096, by omega⟩ ⟨(j 0).val / 32 % 128, by omega⟩ ⟨(j 0).val % 32, by omega⟩)
  simp
  omega

/-- A padded table's row `r`, column `c < 32`. -/
theorem padded_at {α : Type} (a : S4x50000x32.Idx → α) (v : S_.Idx → α) (b : Fin 4) (n : Fin 50000) (c : Fin 32) (r : Fin 200000) (c' : Fin 128)
    (hr : r.val = 50000 * b.val + n.val) (hc : c'.val = c.val) :
    pad S200000x128 ![0, 0] ![0, 96] ![0, 0] (shapeCast S200000x32 a shapeCasts_S4x50000x32_S200000x32) v
      pads_S200000x32_S200000x128_000_0960 h_S_ (ix2 r c') = a (ix3 b n c) := by
  unfold pad
  have hin : ∀ q : Fin 2, (![0, 0] : Fin 2 → ℕ) q ≤ ((ix2 r c') (q.cast rfl)).val
      ∧ (((ix2 r c') (q.cast rfl)).val - (![0, 0] : Fin 2 → ℕ) q) % ((![0, 0] : Fin 2 → ℕ) q + 1) = 0
      ∧ (((ix2 r c') (q.cast rfl)).val - (![0, 0] : Fin 2 → ℕ) q) / ((![0, 0] : Fin 2 → ℕ) q + 1) < S200000x32.size q := by
    intro q
    match q with
    | 0 => simpa [c20, Nat.mod_one] using r.isLt
    | 1 =>
      have e : ((ix2 r c') 1).val = c'.val := rfl
      simp [Nat.mod_one]; omega
  rw [dif_pos hin]
  refine shapeCast_apply _ _ _ _ ?_
  simp [Shape.rowMajor_val_two, Shape.rowMajor_val_three, c20, c21, c30, c31, c32]
  omega

/-- The gathered, cut and reshaped rows. -/
theorem picked_rows (a : S4x50000x32.Idx → Elt F .f32) (v : S_.Idx → Elt F .f32) (ix : S4x128x32.Idx → BitVec 32) (h : ∀ j, (ix j).toNat < 50000) :
    shapeCast S4x128x32x32 (extractStridedSlice S16384x32 ![0, 0]
        (picked (F := F) (pad S200000x128 ![0, 0] ![0, 96] ![0, 0] (shapeCast S200000x32 a shapeCasts_S4x50000x32_S200000x32) v
            pads_S200000x32_S200000x128_000_0960 h_S_) (shapeCast S16384 (flatOf ix) shapeCasts_S4x128x32_S16384))
        slices_S16384x128_S16384x32_0_0) shapeCasts_S16384x32_S4x128x32x32 = rowsOf a ix := by
  funext y
  have h0 : (y 0).val < 4 := (y 0).isLt
  have h1 : (y 1).val < 128 := (y 1).isLt
  have h2 : (y 2).val < 32 := (y 2).isLt
  have h3 : (y 3).val < 32 := (y 3).isLt
  have hr : 4096 * (y 0).val + 32 * (y 1).val + (y 2).val < 16384 := by omega
  rw [shapeCast_apply (s := S16384x32) (t := S4x128x32x32) _ _ y (ix2 (n0 := 16384) (n1 := 32) ⟨4096 * (y 0).val + 32 * (y 1).val + (y 2).val, hr⟩ (y 3))
    (by simp [Shape.rowMajor_val_two, Shape.rowMajor_val_four]; omega)]
  have hw := flatOf_toNat ix (ix3 (n0 := 4) (n1 := 128) (n2 := 32) (y 0) (y 1) (y 2)) (h _)
  have hk := h (ix3 (n0 := 4) (n1 := 128) (n2 := 32) (y 0) (y 1) (y 2))
  have hl := list_at ix (y 0) (y 1) (y 2) ⟨4096 * (y 0).val + 32 * (y 1).val + (y 2).val, hr⟩ rfl
  unfold rowsOf
  rw [← padded_at a v (y 0) ⟨(ix (ix3 (n0 := 4) (n1 := 128) (n2 := 32) (y 0) (y 1) (y 2))).toNat % 50000, Nat.mod_lt _ (by decide)⟩ (y 3)
    ⟨(shapeCast S16384 (flatOf ix) shapeCasts_S4x128x32_S16384 (ix1 ⟨4096 * (y 0).val + 32 * (y 1).val + (y 2).val, hr⟩)).toNat % 200000, Nat.mod_lt _ (by decide)⟩
    ⟨(y 3).val, by omega⟩ (by
      have e0 : ((ix3 (n0 := 4) (n1 := 128) (n2 := 32) (y 0) (y 1) (y 2)) 0).val = (y 0).val := rfl
      rw [hl, hw, e0]
      simp only
      rw [Nat.mod_eq_of_lt hk]
      omega) rfl]
  unfold picked extractStridedSlice
  refine congrArg _ ?_
  funext q
  match q with
  | 0 => exact Fin.ext (by simp)
  | 1 => exact Fin.ext (by simp)

/-! ## The end of the run at the arguments and the results -/

/-- The first argument is unchanged at the end. -/
theorem W3_arg0 (d : Dev nD) : W3 m d (Proc.devRef .tc main_arg0) = A0 m d := by
  have h : W3 m d (Proc.devRef .tc main_arg0) = W2 m d (Proc.devRef .tc main_arg0) := by
    unfold W3
    after_results_simp <;> rfl
  rw [h, W2_other m d _ (by decide) (by decide)]
  unfold W1
  after_results_simp <;> rfl
/-- The second argument is unchanged at the end. -/
theorem W3_arg1 (d : Dev nD) : W3 m d (Proc.devRef .tc main_arg1) = A1 m d := by
  have h : W3 m d (Proc.devRef .tc main_arg1) = W2 m d (Proc.devRef .tc main_arg1) := by
    unfold W3
    after_results_simp <;> rfl
  rw [h, W2_other m d _ (by decide) (by decide)]
  unfold W1
  after_results_simp <;> rfl
/-- The third argument is unchanged at the end. -/
theorem W3_arg2 (d : Dev nD) : W3 m d (Proc.devRef .tc main_arg2) = A2 m d := by
  have h : W3 m d (Proc.devRef .tc main_arg2) = W2 m d (Proc.devRef .tc main_arg2) := by
    unfold W3
    after_results_simp <;> rfl
  rw [h, W2_other m d _ (by decide) (by decide)]
  unfold W1
  after_results_simp <;> rfl

/-- The first result is the rows of the first table that the indices name. -/
theorem W3_v14 (h : InRows m) (d : Dev nD) : W3 m d (Proc.devRef .tc main_v14) = rowsOf (A0 m d) (A2 m d) := by
  have e : W3 m d (Proc.devRef .tc main_v14) = shapeCast S4x128x32x32 (extractStridedSlice S16384x32 ![0, 0]
      (W2 m d (Proc.devRef .tc main_v11_0) : S16384x128.Idx → Elt F .f32) slices_S16384x128_S16384x32_0_0) shapeCasts_S16384x32_S4x128x32x32 := by
    unfold W3
    after_results_simp <;> rfl
  rw [e, W2_p]
  unfold gP
  rw [W1_list, W1_a]
  exact picked_rows _ _ _ (h d)
/-- The second result is the rows of the second table that the indices name. -/
theorem W3_v15 (h : InRows m) (d : Dev nD) : W3 m d (Proc.devRef .tc main_v15) = rowsOf (A1 m d) (A2 m d) := by
  have e : W3 m d (Proc.devRef .tc main_v15) = shapeCast S4x128x32x32 (extractStridedSlice S16384x32 ![0, 0]
      (W2 m d (Proc.devRef .tc main_v11_1) : S16384x128.Idx → Elt F .f32) slices_S16384x128_S16384x32_0_0) shapeCasts_S16384x32_S4x128x32x32 := by
    unfold W3
    after_results_simp <;> rfl
  rw [e, W2_q]
  unfold gQ
  rw [W1_list, W1_b]
  exact picked_rows _ _ _ (h d)
/-- The third result is the batch number of every entry. -/
theorem W3_v18 (d : Dev nD) : W3 m d (Proc.devRef .tc main_v18) = batchOf := by
  have e : W3 m d (Proc.devRef .tc main_v18) = broadcastInDim S4x128x32 ![0, 1, 2] bcast_S4x1x1_S4x128x32_0_1_2
      (broadcastInDim S4x1x1 ![0] bcast_S4_S4x1x1_0 (iotaInDim S4 32 0)) := by
    unfold W3
    after_results_simp <;> rfl
  rw [e]
  rfl

/-- A buffer that outlives every call is one of the TensorCore's buffers. -/
theorem mem_uc (b : Ref sig .tc) (h : b.isScoped = false) : Proc.devRef (τ := τ) .tc b ∈ Pipeline.ucRefs τ sig :=
  Finset.mem_filter.mpr ⟨devRef_mem_tcRefs b, by rw [Proc.isScoped_devRef, h]; exact Bool.false_ne_true⟩

/-- What the program computes: the two tables' rows and the batch numbers, the arguments unchanged, every semaphore at zero. -/
def Ends : PUnit × MemSt nD τ sig (Elt F) → Prop := fun r =>
  (∀ c : Dev nD,
    r.2.mem ((c.tc : Thread nD τ).loc main_v14) = rowsOf (A0 m c) (A2 m c)
    ∧ r.2.mem ((c.tc : Thread nD τ).loc main_v15) = rowsOf (A1 m c) (A2 m c)
    ∧ r.2.mem ((c.tc : Thread nD τ).loc main_v18) = batchOf
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

/-- From indices below 50000, every run of the program ends without a fault as `Ends` says. -/
theorem run_value [∀ e, Nonempty (Elt F e)] (ρ : Dev nD → PrngReg) (h : InRows m) :
    θ_run (Cert.RowsIdeal.defs (F := F)) (Cert.RowsIdeal.threads (F := F)) ⟨m, fun _ => 0, ρ⟩ (Ends m) :=
  (θ_run (Cert.RowsIdeal.defs (F := F)) _ _).mono (fun _ hq => ⟨fun c =>
    ⟨(hq.1 c _ (mem_uc main_v14 rfl)).trans (W3_v14 m h c), (hq.1 c _ (mem_uc main_v15 rfl)).trans (W3_v15 m h c),
      (hq.1 c _ (mem_uc main_v18 rfl)).trans (W3_v18 m c), (hq.1 c _ (mem_uc main_arg0 rfl)).trans (W3_arg0 m c),
      (hq.1 c _ (mem_uc main_arg1 rfl)).trans (W3_arg1 m c), (hq.1 c _ (mem_uc main_arg2 rfl)).trans (W3_arg2 m c)⟩, hq.2⟩)
    (run_main m ρ (inRange m h))

/-! ## The precondition -/

/-- A word that the precondition's two comparisons accept is below 50000. -/
theorem below_of_word (v : BitVec 32) (e : IntOp.andi (IntOp.cmpi .sge v 0#32) (IntOp.cmpi .slt v 50000#32) = 1#1) : v.toNat < 50000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition makes every index below 50000. -/
theorem below_of_pre (x y : S4x50000x32.Idx → Elt F .f32) (ix : S4x128x32.Idx → BitVec 32)
    (h : Cert.Pre_indices_in_rows.fn (F := F) x y ix = fun _ => 1#1) (j : S4x128x32.Idx) : (ix j).toNat < 50000 :=
  below_of_word _ (congrFun h j)

/-! ## The reference's gather -/

open Cert.RowsRefIdeal (gather_S4x50000x32_S4x128x32x2_S4x128x32x32_3_01_n_n_01_3_1132) in
/-- The reference's gather with start indices `(p, q)` in range reads row `q` of batch `p`. -/
theorem gather_at {α : Type} (tb : S4x50000x32.Idx → α) (st : IVec Cert.RowsRefIdeal.S4x128x32x2 32) (y : S4x128x32x32.Idx)
    (p : Fin 4) (q : Fin 50000)
    (hp : (st (ix4 (n0 := 4) (n1 := 128) (n2 := 32) (n3 := 2) (y 0) (y 1) (y 2) 0)).toInt.toNat = p.val)
    (hq : (st (ix4 (n0 := 4) (n1 := 128) (n2 := 32) (n3 := 2) (y 0) (y 1) (y 2) 1)).toInt.toNat = q.val) :
    Host.gather gather_S4x50000x32_S4x128x32x2_S4x128x32x32_3_01_n_n_01_3_1132 tb st y = tb (ix3 p q (y 3)) := by
  unfold Host.gather
  congr 1
  funext a
  refine Fin.ext ?_
  have hb : ∀ a, GatherDims.batchCoord gather_S4x50000x32_S4x128x32x2_S4x128x32x32_3_01_n_n_01_3_1132 y a = 0 := fun a =>
    GatherDims.batchCoord_eq_zero _ _ _ (List.not_mem_nil)
  show GatherDims.start gather_S4x50000x32_S4x128x32x2_S4x128x32x32_3_01_n_n_01_3_1132 y st a
    + GatherDims.batchCoord gather_S4x50000x32_S4x128x32x2_S4x128x32x32_3_01_n_n_01_3_1132 y a
    + GatherDims.offCoord gather_S4x50000x32_S4x128x32x2_S4x128x32x32_3_01_n_n_01_3_1132 y a = _
  rw [hb]
  match a with
  | 0 =>
    rw [GatherDims.offCoord_eq_zero _ _ _ (fun h => ((GatherDims.mem_sKept _ _).mp h).1 (by decide))]
    unfold GatherDims.start
    rw [dif_pos (show (0 : Fin 3) ∈ gather_S4x50000x32_S4x128x32x2_S4x128x32x32_3_01_n_n_01_3_1132.startIndexMap by decide)]
    have hsi : GatherDims.siIdx gather_S4x50000x32_S4x128x32x2_S4x128x32x32_3_01_n_n_01_3_1132 y
        ⟨List.idxOf (0 : Fin 3) gather_S4x50000x32_S4x128x32x2_S4x128x32x32_3_01_n_n_01_3_1132.startIndexMap, by decide⟩
        = ix4 (n0 := 4) (n1 := 128) (n2 := 32) (n3 := 2) (y 0) (y 1) (y 2) 0 := by
      funext b; refine Fin.ext ?_
      match b with
      | 0 => rfl
      | 1 => rfl
      | 2 => rfl
      | 3 => rfl
    rw [hsi, hp]
    have := p.isLt
    show min p.val (4 - 1) + 0 + 0 = p.val
    omega
  | 1 =>
    rw [GatherDims.offCoord_eq_zero _ _ _ (fun h => ((GatherDims.mem_sKept _ _).mp h).1 (by decide))]
    unfold GatherDims.start
    rw [dif_pos (show (1 : Fin 3) ∈ gather_S4x50000x32_S4x128x32x2_S4x128x32x32_3_01_n_n_01_3_1132.startIndexMap by decide)]
    have hsi : GatherDims.siIdx gather_S4x50000x32_S4x128x32x2_S4x128x32x32_3_01_n_n_01_3_1132 y
        ⟨List.idxOf (1 : Fin 3) gather_S4x50000x32_S4x128x32x2_S4x128x32x32_3_01_n_n_01_3_1132.startIndexMap, by decide⟩
        = ix4 (n0 := 4) (n1 := 128) (n2 := 32) (n3 := 2) (y 0) (y 1) (y 2) 1 := by
      funext b; refine Fin.ext ?_
      match b with
      | 0 => rfl
      | 1 => rfl
      | 2 => rfl
      | 3 => rfl
    rw [hsi, hq]
    have := q.isLt
    show min q.val (50000 - 1) + 0 + 0 = q.val
    omega
  | 2 =>
    unfold GatherDims.start
    rw [dif_neg (show (2 : Fin 3) ∉ gather_S4x50000x32_S4x128x32x2_S4x128x32x32_3_01_n_n_01_3_1132.startIndexMap by decide)]
    show 0 + 0 + (y 3).val = (y 3).val
    omega

/-- The reference's start indices: the batch number and the index, each as jnp's indexing normalises it. -/
abbrev starts (ix : S4x128x32.Idx → BitVec 32) : IVec Cert.RowsRefIdeal.S4x128x32x2 32 :=
  concatenate Cert.RowsRefIdeal.S4x128x32x2 3
    [⟨Cert.RowsRefIdeal.S4x128x32x1, broadcastInDim Cert.RowsRefIdeal.S4x128x32x1 ![0, 1, 2] Cert.RowsRefIdeal.Facts₀.bcast_S4x128x32_S4x128x32x1_0_1_2
        (select (cmpi .slt batchOf (fun _ => 0#32)) (addi batchOf (fun _ => 4#32)) batchOf)⟩,
      ⟨Cert.RowsRefIdeal.S4x128x32x1, broadcastInDim Cert.RowsRefIdeal.S4x128x32x1 ![0, 1, 2] Cert.RowsRefIdeal.Facts₀.bcast_S4x128x32_S4x128x32x1_0_1_2
        (select (cmpi .slt ix (fun _ => 0#32)) (addi ix (fun _ => 50000#32)) ix)⟩]
    Cert.RowsRefIdeal.Facts₀.concatenates_S4x128x32x1_S4x128x32x1_S4x128x32x2_d3

/-- A word that is not negative is kept as it is where negative ones would be replaced. -/
theorem word_kept (v w : BitVec 32) (h : v.toNat < 2147483648) : (if IntOp.cmpi .slt v 0#32 = 1#1 then w else v) = v := by
  have ofBool_eq_one (p : Bool) : (BitVec.ofBool p = 1#1) ↔ p = true := by cases p <;> decide
  rw [if_neg]
  simp only [IntOp.cmpi, ofBool_eq_one, BitVec.slt_eq_decide, decide_eq_true_eq, BitVec.toInt_eq_toNat_cond, BitVec.toNat_ofNat]
  omega

/-- A word below 2³¹ is the same number signed and unsigned. -/
theorem word_int (v : BitVec 32) (h : v.toNat < 2147483648) : v.toInt.toNat = v.toNat := by
  rw [BitVec.toInt_eq_toNat_cond]; omega

/-- The reference's gather reads the rows that the indices name, for indices below 50000. -/
theorem ref_rows {α : Type} (tb : S4x50000x32.Idx → α) (ix : S4x128x32.Idx → BitVec 32) (h : ∀ j, (ix j).toNat < 50000) :
    Host.gather Cert.RowsRefIdeal.gather_S4x50000x32_S4x128x32x2_S4x128x32x32_3_01_n_n_01_3_1132 tb (starts ix) = rowsOf tb ix := by
  funext y
  have h0 : (y 0).val < 4 := (y 0).isLt
  have hi := h (ix3 (n0 := 4) (n1 := 128) (n2 := 32) (y 0) (y 1) (y 2))
  unfold rowsOf
  refine gather_at tb (starts ix) y (y 0) _ ?_ ?_
  · have e := concatenate_pair_apply_left (t := Cert.RowsRefIdeal.S4x128x32x2) 3 (s₁ := Cert.RowsRefIdeal.S4x128x32x1) (s₂ := Cert.RowsRefIdeal.S4x128x32x1)
      (broadcastInDim Cert.RowsRefIdeal.S4x128x32x1 ![0, 1, 2] Cert.RowsRefIdeal.Facts₀.bcast_S4x128x32_S4x128x32x1_0_1_2
        (select (cmpi .slt batchOf (fun _ => 0#32)) (addi batchOf (fun _ => 4#32)) batchOf))
      (broadcastInDim Cert.RowsRefIdeal.S4x128x32x1 ![0, 1, 2] Cert.RowsRefIdeal.Facts₀.bcast_S4x128x32_S4x128x32x1_0_1_2
        (select (cmpi .slt ix (fun _ => 0#32)) (addi ix (fun _ => 50000#32)) ix))
      Cert.RowsRefIdeal.Facts₀.concatenates_S4x128x32x1_S4x128x32x1_S4x128x32x2_d3
      (ix4 (n0 := 4) (n1 := 128) (n2 := 32) (n3 := 2) (y 0) (y 1) (y 2) 0) rfl
      (ix4 (n0 := 4) (n1 := 128) (n2 := 32) (n3 := 1) (y 0) (y 1) (y 2) 0)
      (fun b => match b with | 0 => rfl | 1 => rfl | 2 => rfl | 3 => rfl)
    have hw : (BitVec.ofNat 32 (y 0).val).toNat = (y 0).val := by rw [BitVec.toNat_ofNat]; omega
    have e' := e.trans (word_kept (BitVec.ofNat 32 (y 0).val) _ (by omega))
    exact (congrArg (fun v : BitVec 32 => v.toInt.toNat) e').trans ((word_int _ (by omega)).trans hw)
  · have e := concatenate_pair_apply_right (t := Cert.RowsRefIdeal.S4x128x32x2) 3 (s₁ := Cert.RowsRefIdeal.S4x128x32x1) (s₂ := Cert.RowsRefIdeal.S4x128x32x1)
      (broadcastInDim Cert.RowsRefIdeal.S4x128x32x1 ![0, 1, 2] Cert.RowsRefIdeal.Facts₀.bcast_S4x128x32_S4x128x32x1_0_1_2
        (select (cmpi .slt batchOf (fun _ => 0#32)) (addi batchOf (fun _ => 4#32)) batchOf))
      (broadcastInDim Cert.RowsRefIdeal.S4x128x32x1 ![0, 1, 2] Cert.RowsRefIdeal.Facts₀.bcast_S4x128x32_S4x128x32x1_0_1_2
        (select (cmpi .slt ix (fun _ => 0#32)) (addi ix (fun _ => 50000#32)) ix))
      Cert.RowsRefIdeal.Facts₀.concatenates_S4x128x32x1_S4x128x32x1_S4x128x32x2_d3
      (ix4 (n0 := 4) (n1 := 128) (n2 := 32) (n3 := 2) (y 0) (y 1) (y 2) 1) rfl rfl
      (ix4 (n0 := 4) (n1 := 128) (n2 := 32) (n3 := 1) (y 0) (y 1) (y 2) 0)
      (fun b => match b with | 0 => fun _ => rfl | 1 => fun _ => rfl | 2 => fun _ => rfl | 3 => fun h => absurd rfl h) rfl
    have eb : broadcastInDim Cert.RowsRefIdeal.S4x128x32x1 ![0, 1, 2] Cert.RowsRefIdeal.Facts₀.bcast_S4x128x32_S4x128x32x1_0_1_2
        (select (cmpi .slt ix (fun _ => 0#32)) (addi ix (fun _ => 50000#32)) ix) (ix4 (n0 := 4) (n1 := 128) (n2 := 32) (n3 := 1) (y 0) (y 1) (y 2) 0)
      = select (cmpi .slt ix (fun _ => 0#32)) (addi ix (fun _ => 50000#32)) ix (ix3 (n0 := 4) (n1 := 128) (n2 := 32) (y 0) (y 1) (y 2)) :=
      congrArg (select (cmpi .slt ix (fun _ => 0#32)) (addi ix (fun _ => 50000#32)) ix)
        (funext fun b => match b with | 0 => rfl | 1 => rfl | 2 => rfl)
    have e' := (e.trans eb).trans (word_kept (ix (ix3 (n0 := 4) (n1 := 128) (n2 := 32) (y 0) (y 1) (y 2)))
      (IntOp.addi (ix (ix3 (n0 := 4) (n1 := 128) (n2 := 32) (y 0) (y 1) (y 2))) 50000#32) (by omega))
    exact (congrArg (fun v : BitVec 32 => v.toInt.toNat) e').trans ((word_int _ (by omega)).trans (Nat.mod_eq_of_lt hi).symm)

end Cert.Proof.RowsSc

end
-- ==== Proof.KSetup.lean ====
/-
  The whole kernel's program (`KernelIdeal`) as the launch theorem of the SparseCore calls sees it: its two pipelines,
  its two SparseCore calls, and the ghost state of its proof, which has one component for the launch semaphores of the
  SparseCore calls, one for the staging semaphores of the two pipelines, and the transfers' counters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.ValueIdx
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KSc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The program's labels. -/
abbrev ΛP : Labels := Pipeline.Sig Λ₀ (Fin 2) fun p => (pcfgs (F := F) p).Adm
/-- The SparseCore calls of the program. -/
abbrev K : SparseCore.Cfg τ sig (ΛP (F := F)) 2 := sc (F := F)
/-- The program's definitions. -/
abbrev D [FloatOps F] : Defs nD τ sig (Elt F) (ΛP (F := F)) := Pipeline.defs pcfgs defs₀
/-- No loop of the calls carries a variant. -/
abbrev 𝒱₀ : Variants := Variants.none
/-- The variants of the whole program. -/
abbrev 𝒱 : Variants := 𝒱₀.lift
/-- The variant at which a task starts. -/
abbrev v₀ : 𝒱.V := Sum.inl none

/-- The launch's side conditions on the handshake semaphores and the shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the handshakes between the TensorCore and the SparseCores. -/
abbrev UH : Type := URounds (GSem nD τ sig) ℕ
/-- The ghost state of the pipelines. -/
abbrev UP : Type := UR sig nD τ
/-- The whole ghost state. -/
abbrev UU : Type := (UH × UP) × Counters

/-- Where the launch semaphores' component sits, and where the staging semaphores' does. -/
abbrev EH : Emb UH (MT nD τ sig (HIx 2) (Elt F) ℕ UU ℕ) := (Emb.inl : Emb UH (UH × UP)).trans embL
/-- The place of the pipelines' ghost state in the whole. -/
abbrev EP : Emb UP (MT nD τ sig (HIx 2) (Elt F) ℕ UU ℕ) := (Emb.inr : Emb UP (UH × UP)).trans embL

/-- No pipeline has prefetched tables. -/
abbrev adm : (p : Fin 2) → (pcfgs (F := F) p).Adm := fun p => match p with | ⟨0, _⟩ => ⟨fun k => k.elim0, trivial⟩ | ⟨1, _⟩ => ⟨fun k => k.elim0, trivial⟩

local notation "𝕄" => MT nD τ sig (HIx 2) (Elt F) ℕ UU ℕ

/-- The two pipelines' ghost state on a device, as the launch deals it. -/
abbrev ghost (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

/-- The launch element of the certificate's ghost state. -/
def u₀ : UU :=
  ((initOf (K (F := F)).hsCells (K (F := F)).hsToks,
    initOf (Pipeline.cells (Pipeline.pin (pcfgs (F := F)) adm) cellOf_inj) (Pipeline.launchToks (Pipeline.pin (pcfgs (F := F)) adm) cellOf_inj)), 1)

/-- The launch element gives the launch semaphores' part and, per device, the pipelines' ghost state. -/
theorem deal : (ownU (u₀ (F := F)) : sProp 𝕄)
    ⊢ |==> iprop(BI.own (EH (initOf (K (F := F)).hsCells (K (F := F)).hsToks)) ∗ bigSep Finset.univ fun d : Dev nD => ghost (F := F) d) := by
  unfold u₀
  iintro Hu
  ihave H := (ownU_pair _ (1 : Counters)) $$ Hu
  icases H with ⟨HA, -⟩
  ihave H := (own_pair_emb embL _ _) $$ HA
  icases H with ⟨HH, HP⟩
  imod (Pipeline.fund_ghost (Pipeline.pin (pcfgs (F := F)) adm) EP cellOf_inj) $$ HP with ⟨Hg, Ht⟩
  imodintro
  isplitl [HH]; · iexact HH
  iapply (Entails.of_eq (show iprop((bigSep Finset.univ fun c : Dev nD => bigSep Finset.univ fun p : Fin 2 => Pipeline.cellsGhost (Pipeline.pin (pcfgs (F := F)) adm) EP p c)
      ∗ (bigSep Finset.univ fun c : Dev nD => bigSep Finset.univ fun p : Fin 2 => (Pipeline.toksInit (Pipeline.pin (pcfgs (F := F)) adm) EP p c : sProp 𝕄)))
      = bigSep Finset.univ fun d : Dev nD => ghost (F := F) d from by
    rw [← bigSep_sep']; exact bigSep_congr fun d _ => (bigSep_sep' _ _ _).symm))
  isplitl [Hg] <;> iassumption

/-! ## What the TensorCore owes the launch while a pipeline runs -/

/-- What the TensorCore of `d` owes before SparseCore call `n`, its recorded waits below that call's levels. -/
abbrev debt (d : Dev nD) (n : ℕ) : sProp 𝕄 :=
  iprop(∃ W, ⌜(K (F := F)).WBelow (T d) W (8 * n)⌝ ∗ owes (T d) ((K (F := F)).Otc d n) W)

/-- The waits a pipeline entered before call `n` may find recorded. -/
def noted (d : Dev nD) (n : ℕ) : Set (SemLoc sig × HIx 2) := {p | (K (F := F)).lev (T d, p.1) p.2 ≤ 8 * n}

/-- What the TensorCore owes before call `n` is within what a pipeline entered there may find owed. -/
theorem debt_in (d : Dev nD) (n : ℕ) (B : Set (SemLoc sig × HIx 2)) :
    (debt (F := F) d n : sProp 𝕄) ⊢ Pipeline.owesWithin d ((K (F := F)).Otc d n) (noted (F := F) d n ∪ B) := by
  iintro ⟨%W, %hW, H⟩
  iexists W; isplitr
  · ipureintro; exact fun p hp => Or.inl (hW p hp)
  iexact H

/-- None of it is at the index a pipeline's own waits are recorded at. -/
theorem Otc_none (d : Dev nD) (n : ℕ) (g : GSem nD τ sig) : (K (F := F)).Otc d n g (none : HIx 2) = 0 := by
  by_contra h
  have := SparseCore.Cfg.lev_of_Otc_pos (K := K (F := F)) (Nat.pos_of_ne_zero h)
  rw [SparseCore.Cfg.lev_none] at this
  omega

/-- A pipeline whose own waits are at its own index leaves the TensorCore owing what it owed before call `n`. -/
theorem debt_out (d : Dev nD) (n : ℕ) (B : Set (SemLoc sig × HIx 2)) (hB : ∀ p ∈ B, p.2 = none) :
    (Pipeline.owesWithin d ((K (F := F)).Otc d n) (noted (F := F) d n ∪ B) : sProp 𝕄) ⊢ debt (F := F) d n := by
  iintro ⟨%W, %hW, H⟩
  iexists W; isplitr
  · ipureintro
    intro p hp
    rcases hW hp with h | h
    · exact h
    · obtain ⟨a, b⟩ := p
      have hb : b = none := hB _ h
      subst hb
      exact Nat.zero_le _
  iexact H

end Cert.Proof.KSc

end
-- ==== Proof.KTile1.lean ====
/-
  ONE TASK of the whole kernel's first SparseCore call, the gather of the candidate segments, over any float instance.

  The call runs on 2 SparseCores of 16 vector subcores each. The task of subcore `s` of SparseCore `c` is task
  `t = 2 s + c` of 32. It owns rows `512 t … 512 t + 511` of the output: it copies these rows' numbers out of the list
  into its scratch, gathers the rows that they name out of the padded table of segments, and copies the block out.
  `tile_body` is that run with its VALUES: the block is left at `picked table list`.
-/
module

public import proofs.«01_k».proof.Proof.KSetup

@[expose] public section

noncomputable section

namespace Cert.Proof.KSc.G1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.ShareLeaves

variable {F : FTy → Type}

local notation "𝕄" => MT nD τ sig (HIx 2) (Elt F) ℕ UU ℕ

/-! ## The buffers -/

/-- The padded table of segments, the list of row numbers, and the output, on the device `d`. -/
abbrev aLoc (d : Dev nD) : Loc nD τ sig := (SparseCore.T d).loc main_v20
/-- The list of row numbers. -/
abbrev lLoc (d : Dev nD) : Loc nD τ sig := (SparseCore.T d).loc main_v18
/-- The output. -/
abbrev pLoc (d : Dev nD) : Loc nD τ sig := (SparseCore.T d).loc main_v21

local notation "aV" => (Memref.whole Cert.KernelIdeal.main_v20_scv : Memref Cert.KernelIdeal.sig Kind.scVector Space.hbm Cert.KernelIdeal.S819200x128 EltTy.f32)
local notation "lV" => (Memref.whole Cert.KernelIdeal.main_v18_scv : Memref Cert.KernelIdeal.sig Kind.scVector Space.hbm Cert.KernelIdeal.S16384 EltTy.i32)
local notation "pV" => (Memref.whole Cert.KernelIdeal.main_v21_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "xV" => (Memref.whole Cert.KernelIdeal.cc1_scratch1 : Memref Cert.KernelIdeal.sig Kind.scVector Space.vmem Cert.KernelIdeal.S512x128 EltTy.f32)

/-- Rows `512 t …` of the output, 512 of them: the block of task `t`. -/
def blk (t : Fin 32) : Finset S16384x128.Idx :=
  Finset.univ.filter fun x => 512 * t.val ≤ (x 0).val ∧ (x 0).val < 512 * t.val + 512

/-- Membership in a block of rows, by the row's number. -/
theorem mem_blk {t : Fin 32} {x : S16384x128.Idx} : x ∈ blk t ↔ 512 * t.val ≤ (x 0).val ∧ (x 0).val < 512 * t.val + 512 := by
  simp [blk]

/-- Row `r` of the output is the row of the table that entry `r` of the list names. -/
def picked (tb : S819200x128.Idx → Elt F .f32) (ls : S16384.Idx → Elt F .i32) : S16384x128.Idx → Elt F .f32 := fun x =>
  tb (ix2 (n0 := 819200) (n1 := 128) ⟨(ls (ix1 (x 0))).toNat % 819200, Nat.mod_lt _ (by decide)⟩ (x 1))

/-! ## What a task is handed and hands back, at the valuation `W` of the TensorCore's buffers before the call -/

variable (W : Dev nD → Valuation τ sig (Elt F))

/-- The padded table before the call. -/
abbrev wA (d : Dev nD) : Buf (Elt F) (aLoc d) := W d (Proc.devRef .tc main_v20)
/-- The list of row numbers before the call. -/
abbrev wL (d : Dev nD) : Buf (Elt F) (lLoc d) := W d (Proc.devRef .tc main_v18)
/-- The output before the call. -/
abbrev wP (d : Dev nD) : Buf (Elt F) (pLoc d) := W d (Proc.devRef .tc main_v21)
/-- The output after the call. -/
abbrev gP (d : Dev nD) : Buf (Elt F) (pLoc d) := picked (wA W d) (wL W d)

/-- Task `t`'s shares of what is only read. -/
abbrev reads (d : Dev nD) (t : Fin 32) : sProp 𝕄 :=
  iprop((aLoc d ↦{leaf 5 fullShare t} wA W d) ∗ (lLoc d ↦{leaf 5 fullShare t} wL W d))
/-- What task `t` is handed: its shares of what is read, and its block of the output as it was before the call. -/
abbrev taskIn (d : Dev nD) (t : Fin 32) : sProp 𝕄 := iprop(reads W d t ∗ (pLoc d ↦[blk t]{fullShare} wP W d))
/-- What task `t` hands back: the same shares, and its block with the rows of the table that the list names. -/
abbrev taskOut (d : Dev nD) (t : Fin 32) : sProp 𝕄 := iprop(reads W d t ∗ (pLoc d ↦[blk t]{fullShare} gP W d))

/-- Every row number of the list names a row of the table. -/
def InRange : Prop := ∀ (d : Dev nD) (j : S16384.Idx), (wL W d j).toNat < 819200

variable [FloatOps F]

section Tile

variable (d : Dev nD) (L : grid1.Coords)

/-- The SparseCore that the task runs on. -/
abbrev cV (L : grid1.Coords) : Fin τ.nSC := (L 0).castLE hcore1
/-- The subcore that the task runs on. -/
abbrev jV (L : grid1.Coords) : Fin τ.nSub := (L 1).castLE hsub1
/-- The task's number. -/
def tL (L : grid1.Coords) : Fin 32 := ⟨2 * (L 1).val + (L 0).val, by
  have h0 : (L 0).val < 2 := (L 0).isLt
  have h1 : (L 1).val < 16 := (L 1).isLt
  omega⟩

/-- The task's entries of the list and its rows of the output, as the task addresses them. -/
abbrev lPart (L : grid1.Coords) : Memref sig .scVector .hbm S512 .i32 :=
  (lV).slice (Rect.unit (s := S16384) (k1_off1 L) S512.size (k1_off1_inb L)) (fun _ => rfl)
/-- The task's rows of the output, as the task addresses them. -/
abbrev pPart (L : grid1.Coords) : Memref sig .scVector .hbm S512x128 .f32 :=
  (pV).slice (Rect.unit (s := S16384x128) (k1_off2 L) S512x128.size (k1_off2_inb L)) (fun _ => rfl)

omit [FloatOps F] in
/-- The rectangle of rows that the task addresses is its block. -/
theorem rect_blk : (Rect.unit (s := S16384x128) (k1_off2 L) S512x128.size (k1_off2_inb L)).set = blk (tL L) := by
  ext x
  rw [Rect.mem_set_unit, mem_blk, k1_off2_eq]
  constructor
  · intro h
    have := h 0
    simp [tL] at this ⊢
    omega
  · intro h a
    match a with
    | 0 => simp [tL] at h ⊢; omega
    | 1 => simp; exact (x 1).isLt

omit [FloatOps F] in
/-- The elements of the output that the task addresses are its block's. -/
theorem set_pPart : (pPart L).view.set = blk (tL L) := by
  rw [← rect_blk L]
  show ((View.whole (main_v21_scv : Ref sig .scVector)).slice _).set = _
  rw [View.set_slice]; exact Finset.map_refl

/-! ### The subcore's own semaphores and buffers -/

/-- DMA semaphore `k` of the task's subcore. -/
abbrev cell (k : DmaSem sig) : GSem nD τ sig := (V d (cV L) (jV L), .dma k)

/-- The three DMA semaphores that the call's kernel names. -/
abbrev dmas : Finset (DmaSem sig) := {cc1_scratch2.sem, cc1_scoped0.sem, cc1_scoped1.sem}

omit [FloatOps F] in
/-- They are among the subcore's own. -/
theorem ownSems0_V :
    (ownSems0 (V d (cV L) (jV L)) : sProp 𝕄)
      = iprop((semVal (cell d L cc1_scratch2.sem) 0 ∗ semVal (cell d L cc1_scoped0.sem) 0 ∗ semVal (cell d L cc1_scoped1.sem) 0)
          ∗ bigSep (ownCells (V d (cV L) (jV L)) \ dmas.map ⟨cell d L, fun a b h => by simpa using h⟩)
              fun g => semVal g 0) := by
  unfold SparseCore.Cfg.ownSems0
  rw [SparseCore.bigSep_sdiff_split' (t := dmas.map ⟨cell d L, fun a b h => by simpa using h⟩), bigSep_map]
  · congr 1
    unfold dmas
    rw [SparseCore.bigSep_insert' (by decide), SparseCore.bigSep_insert' (by decide), bigSep_singleton]
    rfl
  · intro g hg
    obtain ⟨k, hk, rfl⟩ := Finset.mem_map.mp hg
    refine mem_ownCells.mpr ⟨rfl, ?_⟩
    show (SemLoc.dma k : SemLoc sig).isScoped .scVector = true
    clear hg; revert k; decide

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  have own : ∀ b : Ref sig .scVector, ((Proc.scVector (cV L) (jV L)).devRef b).owner.home = .scVector (cV L) (jV L) →
      (Proc.scVector (cV L) (jV L)).devRef b ∈ ownRefs (τ := τ) (.scVector (cV L) (jV L)) := fun _ h => mem_ownRefs.mpr h
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  rw [SparseCore.bigSep_erase' (own cc1_scratch0 rfl),
    SparseCore.bigSep_erase' (Finset.mem_erase.mpr ⟨ne (by decide), own cc1_scratch1 rfl⟩)]

/-! ### The buffers as the executor reads them -/

omit [FloatOps F] in
/-- Owning the output through the task's own view is owning the task's block of it. -/
theorem pts_pPart (f : Buf (Elt F) (pLoc d)) :
    ((pPart L).view.loc (V d (cV L) (jV L)) ↦[(pPart L).view.set]{fullShare} f : sProp 𝕄) = pLoc d ↦[blk (tL L)]{fullShare} f := by
  rw [set_pPart]

/-- The task's row numbers, as their copy lands them. -/
abbrev nums : S512.Idx → Elt F .i32 := (lPart L).view.read (Elt F) (wL W d)

omit [FloatOps F] in
/-- Where the list's numbers are in range, so are the task's. -/
theorem nums_lt (h : InRange W) (x : S512.Idx) : (nums W d L x).toNat < 819200 := by
  rw [show nums W d L x = wL W d ((lPart L).view.emb x) from (View.read_apply _ _).trans (cast_eq _ _)]
  exact h d _

omit [FloatOps F] in
/-- What an indexed copy out of the table lands: at row `k` the table's row that entry `k` of the numbers names. -/
theorem gathered {g : S819200x128.Idx → Elt F .f32} {tb : S819200x128.Idx → Elt F .f32} (hg : ∀ x, g x = tb x) {idx idx' : S512.Idx → Elt F .i32}
    (hi : idx = idx') {hn : S512.numel = S512x128.size gathers_S819200x128_S512x128.axis'}
    {h : ∀ x, (idx x).toNat < S819200x128.size gathers_S819200x128_S512x128.axis} (x : S512x128.Idx) :
    SparseCore.gatherPayload gathers_S819200x128_S512x128 g (SparseCore.rows idx hn h) x
      = tb (ix2 (n0 := 819200) (n1 := 128) ⟨(idx' (ix1 (n := 512) (x 0))).toNat % 819200, Nat.mod_lt _ (by decide)⟩ (x 1)) := by
  subst hi
  unfold SparseCore.gatherPayload
  rw [hg]
  refine congrArg tb (funext fun b => Fin.ext ?_)
  match b with
  | 0 =>
    refine (congrArg Fin.val (Shape.Gathers.idx_axis gathers_S819200x128_S512x128 _ x)).trans ?_
    have e : (S512.rowMajor.symm ((x gathers_S819200x128_S512x128.axis').cast hn.symm) : S512.Idx) = ix1 (n := 512) (x 0) :=
      S512.rowMajor.symm_apply_eq.mpr (Fin.ext (Shape.rowMajor_val_one (d := ![512]) (ix1 (n := 512) (x 0))).symm)
    exact (congrArg (fun y => (idx y).toNat) e).trans (Nat.mod_eq_of_lt (h (ix1 (n := 512) (x 0)))).symm
  | 1 => exact Shape.Gathers.idx_of_ne gathers_S819200x128_S512x128 _ x 1 (by decide)

omit [FloatOps F] in
/-- Entry `k` of the task's row numbers is the list's entry at the row where the block's row `k` lands. -/
theorem nums_apply (x : S512x128.Idx) :
    nums W d L (ix1 (n := 512) (x 0))
      = wL W d (ix1 (n := 16384) ((Rect.unit (s := S16384x128) (k1_off2 L) S512x128.size (k1_off2_inb L)).emb x 0)) := by
  rw [show nums W d L (ix1 (n := 512) (x 0)) = wL W d ((lPart L).view.emb (ix1 (n := 512) (x 0))) from (View.read_apply _ _).trans (cast_eq _ _)]
  refine congrArg (wL W d) (funext fun a => Fin.ext ?_)
  match a with
  | 0 =>
    show k1_off1 L 0 + 1 * (x 0).val = k1_off2 L 0 + 1 * (x 0).val
    rw [k1_off1_eq, k1_off2_eq]; rfl

omit [FloatOps F] in
/-- The block's columns are the output's columns. -/
theorem emb_col (x : S512x128.Idx) :
    ((Rect.unit (s := S16384x128) (k1_off2 L) S512x128.size (k1_off2_inb L)).emb x 1).val = (x 1).val := by
  show k1_off2 L 1 + 1 * (x 1).val = _
  rw [k1_off2_eq]; simp

set_option maxHeartbeats 2000000 in
omit [FloatOps F] in
/-- The task's rows of the output, once the gathered block is copied there, are at `picked`. -/
theorem landed_P (f : Buf (Elt F) (pLoc d)) (w : S512x128.Idx → Elt F .f32)
    (hw : ∀ x, w x = wA W d (ix2 (n0 := 819200) (n1 := 128) ⟨(nums W d L (ix1 (n := 512) (x 0))).toNat % 819200, Nat.mod_lt _ (by decide)⟩ (x 1))) :
    ((pPart L).view.loc (V d (cV L) (jV L)) ↦[(pPart L).view.set]{fullShare}
        (pPart L).view.writes (Elt F) f [⟨Rect.whole S512x128, w⟩] : sProp 𝕄)
      = pLoc d ↦[blk (tL L)]{fullShare} gP W d := by
  rw [set_pPart]
  refine pointsTo_congr fun i hi => ?_
  rw [← set_pPart] at hi
  obtain ⟨x, -, rfl⟩ := Finset.mem_map.mp hi
  have e : (pPart L).view.writes (Elt F) f [⟨Rect.whole S512x128, w⟩] ((pPart L).view.emb x) = w x := by
    rw [View.writes_singleton]
    have := View.write_emb_of_mem (Val := Elt F) (v := (pPart L).view.slice (Rect.whole S512x128)) f w (Finset.mem_univ x)
    rw [View.emb_slice, Function.Embedding.trans_apply, Rect.emb_whole_apply] at this
    exact this
  refine e.trans ((hw x).trans (congrArg (wA W d) ?_))
  exact congrArg₂ (fun (n : ℕ) (k : Fin 128) => ix2 (n0 := 819200) (n1 := 128) ⟨n % 819200, Nat.mod_lt _ (by decide)⟩ k)
    (congrArg BitVec.toNat (nums_apply W d L x)) (Fin.ext (emb_col L x).symm)

omit [FloatOps F] in
/-- A whole buffer written whole holds what was written. -/
theorem read_list (f : S512.Idx → Elt F .i32) (w : S512.Idx → Elt F .i32) :
    (sV).view.read (Elt F) (View.write (Elt F) (sV).view f w Finset.univ) = w := View.write_whole_univ cc1_scratch0 f w
omit [FloatOps F] in
/-- The scratch block, written whole last, reads as what was written. -/
theorem read_x (f w : S512x128.Idx → Elt F .f32) (l : List (View.Piece (Elt F) S512x128 .f32)) :
    (xV).view.read (Elt F) ((xV).view.writes (Elt F) f (⟨Rect.whole S512x128, w⟩ :: l)) = w := funext fun y => by
  have := View.read_writes_cons_emb (v := (xV).view) (Val := Elt F) (f := f) (Rect.whole S512x128) w l y
  exact (congrArg ((xV).view.read (Elt F) ((xV).view.writes (Elt F) f (⟨Rect.whole S512x128, w⟩ :: l))) (Rect.emb_whole_apply S512x128 y)).symm.trans this

omit [FloatOps F] in
/-- The whole of the table, sliced out of it, reads as the table. -/
theorem read_a (f : S819200x128.Idx → Elt F .f32) (x : S819200x128.Idx) :
    ((aV).slice (Rect.unit (s := S819200x128) ![0, 0] S819200x128.size inb_S819200x128_S819200x128_0_0) (fun _ => rfl)).view.read (Elt F) f x = f x := by
  refine ((View.read_apply _ _).trans (cast_eq _ _)).trans (congrArg f (funext fun a => Fin.ext ?_))
  match a with
  | 0 => exact (Nat.zero_add _).trans (Nat.one_mul _)
  | 1 => exact (Nat.zero_add _).trans (Nat.one_mul _)

set_option maxHeartbeats 4000000 in
/-- One task, run from what it is handed with every row number in range, ends with what it hands back. Its scratch buffers and
    semaphores come back to it, and every wait it records is one recorded before or one of its own. -/
theorem tile_body (hF : (K (F := F)).Facts) (hin : InRange W) (O : CellTallies nD τ sig (HIx 2)) (Wt : Waits sig (HIx 2)) (hO : ∀ g, O g none = 0) :
    iprop(levAts (K (F := F)).L (K (F := F)).lev ∗ emp ∗ taskIn W d (tL L)
        ∗ scopedBufs (V d (cV L) (jV L)) ∗ scopedSems0 (V d (cV L) (jV L)) ∗ owes (V d (cV L) (jV L)) O Wt)
      ⊢ wp frame (wpE (defs₀ (F := F)) 𝒱₀ (V d (cV L) (jV L)) none) Set.univ
          (cc1_gk L aV (Memref.isWhole_whole _) lV (Memref.isWhole_whole _) pV (Memref.isWhole_whole _)
            sV (Memref.isWhole_whole _) xV (Memref.isWhole_whole _) cc1_scratch2 cc1_scoped0 cc1_scoped1)
          fun _ => iprop(taskOut W d (tL L)
            ∗ scopedBufs (V d (cV L) (jV L)) ∗ scopedSems0 (V d (cV L) (jV L))
            ∗ ∃ W', ⌜∀ p ∈ W', p ∈ Wt ∨ p.2 = none⌝ ∗ owes (V d (cV L) (jV L)) O W') := by
  simp only [cc1_gk_eq_skeleton]; unfold cc1_gk_skel
  rw [(K (F := F)).scopedBufs_V hF d (cV L) (jV L), SparseCore.Cfg.scopedSems0_V (Val := Elt F) d (cV L) (jV L), ownSems0_V, ownBufs_V]
  iintro ⟨#Hlv, -, ⟨⟨Ha, Hl⟩, Hp0⟩, ⟨⟨%fs, Hs⟩, ⟨%fx, Hx⟩, Hbufs⟩, ⟨⟨Hm, Hm0, Hm1⟩, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hp0' := (Entails.of_eq (pts_pPart (F := F) d L _).symm) $$ Hp0
  ihave Ha' := (Entails.of_eq (show (aLoc d ↦{leaf 5 fullShare (tL L)} wA W d : sProp 𝕄) = (aV).view.loc (V d (cV L) (jV L)) ↦{leaf 5 fullShare (tL L)} wA W d from rfl)) $$ Ha
  ihave Hl' := (Entails.of_eq (show (lLoc d ↦{leaf 5 fullShare (tL L)} wL W d : sProp 𝕄) = (lV).view.loc (V d (cV L) (jV L)) ↦{leaf 5 fullShare (tL L)} wL W d from rfl)) $$ Hl
  ihave Hs' := (Entails.of_eq (show ((V d (cV L) (jV L)).loc cc1_scratch0 ↦{fullShare} fs : sProp 𝕄) = (sV).view.loc (V d (cV L) (jV L)) ↦{fullShare} fs from rfl)) $$ Hs
  ihave Hx' := (Entails.of_eq (show ((V d (cV L) (jV L)).loc cc1_scratch1 ↦{fullShare} fx : sProp 𝕄) = (xV).view.loc (V d (cV L) (jV L)) ↦{fullShare} fx from rfl)) $$ Hx
  sl_exec
  have hin0 : ∀ x, ((sV).view.read (Elt F) (View.write (Elt F) (sV).view fs (tile_body.sl.dma0 W d L) Finset.univ) x).toNat
      < S819200x128.size gathers_S819200x128_S512x128.axis := fun x => by
    rw [read_list]
    exact nums_lt W d L hin x
  sl_exec
  sl_step
  have vP0 : ∀ x, tile_body.sl.dma0_1 W d L fs fx hin0 x = _ := fun x =>
    (congrFun (read_x fx _ []) x).trans (gathered (read_a (wA W d)) (read_list fs (nums W d L)) x)
  ihave Hp0 := (Entails.of_eq (landed_P W d L _ _ vP0)) $$ Hp0'
  isplitl [Ha' Hl' Hp0]
  · isplitl [Ha' Hl']
    · isplitl [Ha']; · iexact Ha'
      iexact Hl'
    iexact Hp0
  isplitl [Hs' Hx' Hbufs]
  · isplitl [Hs']; · iexists _; iexact Hs'
    isplitl [Hx']; · iexists _; iexact Hx'
    iexact Hbufs
  isplitl [Hm Hm0 Hm1 Hsems]
  · isplitr [Hsems]
    · isplitl [Hm]; · iexact Hm
      isplitl [Hm0]; · iexact Hm0
      iexact Hm1
    iexact Hsems
  iexists _
  isplitr
  on_goal 2 => iexact HO
  ipureintro; intro p hp
  simp only [Finset.mem_insert] at hp
  rcases hp with rfl | rfl | rfl | hp
  all_goals first | exact Or.inl hp | exact Or.inr rfl

end Tile

end Cert.Proof.KSc.G1

end
-- ==== Proof.KTile2.lean ====
/-
  ONE TASK of the whole kernel's second SparseCore call, the gather of the selected rows, over any float instance.

  The call runs on 2 SparseCores of 16 vector subcores each. The task of subcore `s` of SparseCore `c` is task
  `t = 2 s + c` of 32. It owns rows `512 t … 512 t + 511` of the two outputs and works on them in two parts of 256 rows:
  it copies the part's row numbers out of the list into its scratch, gathers the rows that they name out of the first
  padded table and out of the second, and copies both blocks out. `tile_body` is that run with its VALUES: from a share
  of each table and of the list, and the task's two blocks of each output, it leaves the same shares, and the blocks at
  `picked table list`: row `r` of the output is the row of the table that entry `r` of the list names.
-/
module

public import proofs.«01_k».proof.Proof.KSetup

@[expose] public section

noncomputable section

namespace Cert.Proof.KSc.G2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.ShareLeaves

variable {F : FTy → Type}

local notation "𝕄" => MT nD τ sig (HIx 2) (Elt F) ℕ UU ℕ

/-! ## The buffers -/

/-- The first padded table, the second, the list of row numbers, and the two outputs, on the device `d`. -/
abbrev aLoc (d : Dev nD) : Loc nD τ sig := (SparseCore.T d).loc main_v43
/-- The second padded table. -/
abbrev bLoc (d : Dev nD) : Loc nD τ sig := (SparseCore.T d).loc main_v44
/-- The list of row numbers. -/
abbrev lLoc (d : Dev nD) : Loc nD τ sig := (SparseCore.T d).loc main_v40
/-- The first output. -/
abbrev pLoc (d : Dev nD) : Loc nD τ sig := (SparseCore.T d).loc main_v45_0
/-- The second output. -/
abbrev qLoc (d : Dev nD) : Loc nD τ sig := (SparseCore.T d).loc main_v45_1

local notation "aV" => (Memref.whole Cert.KernelIdeal.main_v43_scv : Memref Cert.KernelIdeal.sig Kind.scVector Space.hbm Cert.KernelIdeal.S200000x128 EltTy.f32)
local notation "bV" => (Memref.whole Cert.KernelIdeal.main_v44_scv : Memref Cert.KernelIdeal.sig Kind.scVector Space.hbm Cert.KernelIdeal.S200000x128 EltTy.f32)
local notation "lV" => (Memref.whole Cert.KernelIdeal.main_v40_scv : Memref Cert.KernelIdeal.sig Kind.scVector Space.hbm Cert.KernelIdeal.S16384 EltTy.i32)
local notation "pV" => (Memref.whole Cert.KernelIdeal.main_v45_0_scv : Memref Cert.KernelIdeal.sig Kind.scVector Space.hbm Cert.KernelIdeal.S16384x128 EltTy.f32)
local notation "qV" => (Memref.whole Cert.KernelIdeal.main_v45_1_scv : Memref Cert.KernelIdeal.sig Kind.scVector Space.hbm Cert.KernelIdeal.S16384x128 EltTy.f32)
local notation "sV" => (Memref.whole Cert.KernelIdeal.cc3_scratch0 : Memref Cert.KernelIdeal.sig Kind.scVector Space.vmem Cert.KernelIdeal.S256 EltTy.i32)
local notation "xV" => (Memref.whole Cert.KernelIdeal.cc3_scratch1 : Memref Cert.KernelIdeal.sig Kind.scVector Space.vmem Cert.KernelIdeal.S256x128 EltTy.f32)
local notation "yV" => (Memref.whole Cert.KernelIdeal.cc3_scratch2 : Memref Cert.KernelIdeal.sig Kind.scVector Space.vmem Cert.KernelIdeal.S256x128 EltTy.f32)

/-- Rows `512 t + 256 p …` of an output, 256 of them: part `p` of task `t`. -/
def blk (t : Fin 32) (p : Fin 2) : Finset S16384x128.Idx :=
  Finset.univ.filter fun x => 512 * t.val + 256 * p.val ≤ (x 0).val ∧ (x 0).val < 512 * t.val + 256 * p.val + 256

/-- Membership in a block of rows, by the row's number. -/
theorem mem_blk {t : Fin 32} {p : Fin 2} {x : S16384x128.Idx} :
    x ∈ blk t p ↔ 512 * t.val + 256 * p.val ≤ (x 0).val ∧ (x 0).val < 512 * t.val + 256 * p.val + 256 := by
  simp [blk]

/-- Row `r` of the output is the row of the table that entry `r` of the list names. -/
def picked (tb : S200000x128.Idx → Elt F .f32) (ls : S16384.Idx → Elt F .i32) : S16384x128.Idx → Elt F .f32 := fun x =>
  tb (ix2 (n0 := 200000) (n1 := 128) ⟨(ls (ix1 (x 0))).toNat % 200000, Nat.mod_lt _ (by decide)⟩ (x 1))

/-! ## What a task is handed and hands back, at the valuation `W` of the TensorCore's buffers before the call -/

variable (W : Dev nD → Valuation τ sig (Elt F))

/-- The first padded table before the call. -/
abbrev wA (d : Dev nD) : Buf (Elt F) (aLoc d) := W d (Proc.devRef .tc main_v43)
/-- The second padded table before the call. -/
abbrev wB (d : Dev nD) : Buf (Elt F) (bLoc d) := W d (Proc.devRef .tc main_v44)
/-- The list of row numbers before the call. -/
abbrev wL (d : Dev nD) : Buf (Elt F) (lLoc d) := W d (Proc.devRef .tc main_v40)
/-- The first output before the call. -/
abbrev wP (d : Dev nD) : Buf (Elt F) (pLoc d) := W d (Proc.devRef .tc main_v45_0)
/-- The second output before the call. -/
abbrev wQ (d : Dev nD) : Buf (Elt F) (qLoc d) := W d (Proc.devRef .tc main_v45_1)
/-- The outputs after the call. -/
abbrev gP (d : Dev nD) : Buf (Elt F) (pLoc d) := picked (wA W d) (wL W d)
/-- The second output after the call. -/
abbrev gQ (d : Dev nD) : Buf (Elt F) (qLoc d) := picked (wB W d) (wL W d)

/-- Task `t`'s shares of what is only read. -/
abbrev reads (d : Dev nD) (t : Fin 32) : sProp 𝕄 :=
  iprop((aLoc d ↦{leaf 5 fullShare t} wA W d) ∗ (bLoc d ↦{leaf 5 fullShare t} wB W d) ∗ (lLoc d ↦{leaf 5 fullShare t} wL W d))
/-- Task `t`'s blocks of the two outputs, at `f` and `g`. -/
abbrev blocks (d : Dev nD) (t : Fin 32) (f : Buf (Elt F) (pLoc d)) (g : Buf (Elt F) (qLoc d)) : sProp 𝕄 :=
  iprop((pLoc d ↦[blk t 0]{fullShare} f) ∗ (pLoc d ↦[blk t 1]{fullShare} f) ∗ (qLoc d ↦[blk t 0]{fullShare} g) ∗ (qLoc d ↦[blk t 1]{fullShare} g))
/-- What task `t` is handed: its shares of what is read, and its blocks of the outputs as they were before the call. -/
abbrev taskIn (d : Dev nD) (t : Fin 32) : sProp 𝕄 := iprop(reads W d t ∗ blocks d t (wP W d) (wQ W d))
/-- What task `t` hands back: the same shares, and its blocks with the rows of the tables that the list names. -/
abbrev taskOut (d : Dev nD) (t : Fin 32) : sProp 𝕄 := iprop(reads W d t ∗ blocks d t (gP W d) (gQ W d))

/-- Every row number of the list names a row of the tables. -/
def InRange : Prop := ∀ (d : Dev nD) (j : S16384.Idx), (wL W d j).toNat < 200000

variable [FloatOps F]

section Tile

variable (d : Dev nD) (L : grid3.Coords)

/-- The SparseCore that the task runs on. -/
abbrev cV (L : grid3.Coords) : Fin τ.nSC := (L 0).castLE hcore3
/-- The subcore that the task runs on. -/
abbrev jV (L : grid3.Coords) : Fin τ.nSub := (L 1).castLE hsub3
/-- The task's number. -/
def tL (L : grid3.Coords) : Fin 32 := ⟨2 * (L 1).val + (L 0).val, by
  have h0 : (L 0).val < 2 := (L 0).isLt
  have h1 : (L 1).val < 16 := (L 1).isLt
  omega⟩

/-- Part `p`'s entries of the list and its rows of the outputs, as the task addresses them. -/
abbrev lPart (L : grid3.Coords) (p : Fin 2) : Memref sig .scVector .hbm S256 .i32 :=
  (lV).slice (Rect.unit (s := S16384) (k3_off1 L (BitVec.ofNat 32 (256 * p.val))) S256.size (k3_off1_inb L p)) (fun _ => rfl)
/-- Part `p` of the task's rows of the first output, as the task addresses them. -/
abbrev pPart (L : grid3.Coords) (p : Fin 2) : Memref sig .scVector .hbm S256x128 .f32 :=
  (pV).slice (Rect.unit (s := S16384x128) (k3_off2 L (BitVec.ofNat 32 (256 * p.val))) S256x128.size (k3_off2_inb L p)) (fun _ => rfl)
/-- Part `p` of the task's rows of the second output, as the task addresses them. -/
abbrev qPart (L : grid3.Coords) (p : Fin 2) : Memref sig .scVector .hbm S256x128 .f32 :=
  (qV).slice (Rect.unit (s := S16384x128) (k3_off2 L (BitVec.ofNat 32 (256 * p.val))) S256x128.size (k3_off2_inb L p)) (fun _ => rfl)

omit [FloatOps F] in
/-- The rectangle of rows that the task addresses is its block. -/
theorem rect_blk (p : Fin 2) :
    (Rect.unit (s := S16384x128) (k3_off2 L (BitVec.ofNat 32 (256 * p.val))) S256x128.size (k3_off2_inb L p)).set = blk (tL L) p := by
  ext x
  rw [Rect.mem_set_unit, mem_blk, k3_off2_eq]
  constructor
  · intro h
    have := h 0
    simp [tL] at this ⊢
    omega
  · intro h a
    match a with
    | 0 => simp [tL] at h ⊢; omega
    | 1 => simp; exact (x 1).isLt

omit [FloatOps F] in
/-- The elements of the first output that the task addresses are its block's. -/
theorem set_pPart (p : Fin 2) : (pPart L p).view.set = blk (tL L) p := by
  rw [← rect_blk L p]
  show ((View.whole (main_v45_0_scv : Ref sig .scVector)).slice _).set = _
  rw [View.set_slice]; exact Finset.map_refl
omit [FloatOps F] in
/-- The elements of the second output that the task addresses are its block's. -/
theorem set_qPart (p : Fin 2) : (qPart L p).view.set = blk (tL L) p := by
  rw [← rect_blk L p]
  show ((View.whole (main_v45_1_scv : Ref sig .scVector)).slice _).set = _
  rw [View.set_slice]; exact Finset.map_refl

/-! ### The subcore's own semaphores and buffers -/

/-- DMA semaphore `k` of the task's subcore. -/
abbrev cell (k : DmaSem sig) : GSem nD τ sig := (V d (cV L) (jV L), .dma k)

/-- The seven DMA semaphores that the call's kernel names. -/
abbrev dmas : Finset (DmaSem sig) :=
  {cc3_scratch3.sem, cc3_scoped0.sem, cc3_scoped1.sem, cc3_scoped2.sem, cc3_scoped3.sem, cc3_scoped4.sem, cc3_scoped5.sem}

omit [FloatOps F] in
/-- They are among the subcore's own. -/
theorem ownSems0_V :
    (ownSems0 (V d (cV L) (jV L)) : sProp 𝕄)
      = iprop((semVal (cell d L cc3_scratch3.sem) 0 ∗ semVal (cell d L cc3_scoped0.sem) 0 ∗ semVal (cell d L cc3_scoped1.sem) 0
            ∗ semVal (cell d L cc3_scoped2.sem) 0 ∗ semVal (cell d L cc3_scoped3.sem) 0 ∗ semVal (cell d L cc3_scoped4.sem) 0
            ∗ semVal (cell d L cc3_scoped5.sem) 0)
          ∗ bigSep (ownCells (V d (cV L) (jV L)) \ dmas.map ⟨cell d L, fun a b h => by simpa using h⟩)
              fun g => semVal g 0) := by
  unfold SparseCore.Cfg.ownSems0
  rw [SparseCore.bigSep_sdiff_split' (t := dmas.map ⟨cell d L, fun a b h => by simpa using h⟩), bigSep_map]
  · congr 1
    unfold dmas
    rw [SparseCore.bigSep_insert' (by decide), SparseCore.bigSep_insert' (by decide), SparseCore.bigSep_insert' (by decide),
      SparseCore.bigSep_insert' (by decide), SparseCore.bigSep_insert' (by decide), SparseCore.bigSep_insert' (by decide), bigSep_singleton]
    rfl
  · intro g hg
    obtain ⟨k, hk, rfl⟩ := Finset.mem_map.mp hg
    refine mem_ownCells.mpr ⟨rfl, ?_⟩
    show (SemLoc.dma k : SemLoc sig).isScoped .scVector = true
    clear hg; revert k; decide

omit [FloatOps F] in
/-- The three scratch buffers are among the subcore's own: they are them, at some contents, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  have own : ∀ b : Ref sig .scVector, ((Proc.scVector (cV L) (jV L)).devRef b).owner.home = .scVector (cV L) (jV L) →
      (Proc.scVector (cV L) (jV L)).devRef b ∈ ownRefs (τ := τ) (.scVector (cV L) (jV L)) := fun _ h => mem_ownRefs.mpr h
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  rw [SparseCore.bigSep_erase' (own cc3_scratch0 rfl),
    SparseCore.bigSep_erase' (Finset.mem_erase.mpr ⟨ne (by decide), own cc3_scratch1 rfl⟩),
    SparseCore.bigSep_erase' (Finset.mem_erase.mpr ⟨ne (by decide), Finset.mem_erase.mpr ⟨ne (by decide), own cc3_scratch2 rfl⟩⟩)]

/-! ### The buffers as the executor reads them -/

omit [FloatOps F] in
/-- Owning the first output through the task's own view is owning the task's block of it. -/
theorem pts_pPart (p : Fin 2) (f : Buf (Elt F) (pLoc d)) :
    ((pPart L p).view.loc (V d (cV L) (jV L)) ↦[(pPart L p).view.set]{fullShare} f : sProp 𝕄) = pLoc d ↦[blk (tL L) p]{fullShare} f := by
  rw [set_pPart]
omit [FloatOps F] in
/-- Owning the second output through the task's own view is owning the task's block of it. -/
theorem pts_qPart (p : Fin 2) (f : Buf (Elt F) (qLoc d)) :
    ((qPart L p).view.loc (V d (cV L) (jV L)) ↦[(qPart L p).view.set]{fullShare} f : sProp 𝕄) = qLoc d ↦[blk (tL L) p]{fullShare} f := by
  rw [set_qPart]

/-- Part `p`'s row numbers, as its copy lands them. -/
abbrev nums (p : Fin 2) : S256.Idx → Elt F .i32 := (lPart L p).view.read (Elt F) (wL W d)

omit [FloatOps F] in
/-- Where the list's numbers are in range, so are the task's. -/
theorem nums_lt (h : InRange W) (p : Fin 2) (x : S256.Idx) : (nums W d L p x).toNat < 200000 := by
  rw [show nums W d L p x = wL W d ((lPart L p).view.emb x) from (View.read_apply _ _).trans (cast_eq _ _)]
  exact h d _

omit [FloatOps F] in
/-- What an indexed copy out of a table lands: at row `k` the table's row that entry `k` of the numbers names. -/
theorem gathered {g : S200000x128.Idx → Elt F .f32} {tb : S200000x128.Idx → Elt F .f32} (hg : ∀ x, g x = tb x) {idx idx' : S256.Idx → Elt F .i32}
    (hi : idx = idx') {hn : S256.numel = S256x128.size gathers_S200000x128_S256x128.axis'}
    {h : ∀ x, (idx x).toNat < S200000x128.size gathers_S200000x128_S256x128.axis} (x : S256x128.Idx) :
    SparseCore.gatherPayload gathers_S200000x128_S256x128 g (SparseCore.rows idx hn h) x
      = tb (ix2 (n0 := 200000) (n1 := 128) ⟨(idx' (ix1 (n := 256) (x 0))).toNat % 200000, Nat.mod_lt _ (by decide)⟩ (x 1)) := by
  subst hi
  unfold SparseCore.gatherPayload
  rw [hg]
  refine congrArg tb (funext fun b => Fin.ext ?_)
  match b with
  | 0 =>
    refine (congrArg Fin.val (Shape.Gathers.idx_axis gathers_S200000x128_S256x128 _ x)).trans ?_
    have e : (S256.rowMajor.symm ((x gathers_S200000x128_S256x128.axis').cast hn.symm) : S256.Idx) = ix1 (n := 256) (x 0) :=
      S256.rowMajor.symm_apply_eq.mpr (Fin.ext (Shape.rowMajor_val_one (d := ![256]) (ix1 (n := 256) (x 0))).symm)
    exact (congrArg (fun y => (idx y).toNat) e).trans (Nat.mod_eq_of_lt (h (ix1 (n := 256) (x 0)))).symm
  | 1 => exact Shape.Gathers.idx_of_ne gathers_S200000x128_S256x128 _ x 1 (by decide)

omit [FloatOps F] in
/-- Entry `k` of part `p`'s row numbers is the list's entry at the row where the part's row `k` lands. -/
theorem nums_apply (p : Fin 2) (x : S256x128.Idx) :
    nums W d L p (ix1 (n := 256) (x 0))
      = wL W d (ix1 (n := 16384) ((Rect.unit (s := S16384x128) (k3_off2 L (BitVec.ofNat 32 (256 * p.val))) S256x128.size (k3_off2_inb L p)).emb x 0)) := by
  rw [show nums W d L p (ix1 (n := 256) (x 0)) = wL W d ((lPart L p).view.emb (ix1 (n := 256) (x 0))) from (View.read_apply _ _).trans (cast_eq _ _)]
  refine congrArg (wL W d) (funext fun a => Fin.ext ?_)
  match a with
  | 0 =>
    show k3_off1 L (BitVec.ofNat 32 (256 * p.val)) 0 + 1 * (x 0).val = k3_off2 L (BitVec.ofNat 32 (256 * p.val)) 0 + 1 * (x 0).val
    rw [k3_off1_eq, k3_off2_eq]; rfl

omit [FloatOps F] in
/-- The block's columns are the output's columns. -/
theorem emb_col (p : Fin 2) (x : S256x128.Idx) :
    ((Rect.unit (s := S16384x128) (k3_off2 L (BitVec.ofNat 32 (256 * p.val))) S256x128.size (k3_off2_inb L p)).emb x 1).val = (x 1).val := by
  show k3_off2 L (BitVec.ofNat 32 (256 * p.val)) 1 + 1 * (x 1).val = _
  rw [k3_off2_eq]; simp

set_option maxHeartbeats 2000000 in
omit [FloatOps F] in
/-- The part's rows of the first output, once the gathered block is copied there, are at `picked`. -/
theorem landed_P (p : Fin 2) (f : Buf (Elt F) (pLoc d)) (w : S256x128.Idx → Elt F .f32)
    (hw : ∀ x, w x = wA W d (ix2 (n0 := 200000) (n1 := 128) ⟨(nums W d L p (ix1 (n := 256) (x 0))).toNat % 200000, Nat.mod_lt _ (by decide)⟩ (x 1))) :
    ((pPart L p).view.loc (V d (cV L) (jV L)) ↦[(pPart L p).view.set]{fullShare}
        (pPart L p).view.writes (Elt F) f [⟨Rect.whole S256x128, w⟩] : sProp 𝕄)
      = pLoc d ↦[blk (tL L) p]{fullShare} gP W d := by
  rw [set_pPart]
  refine pointsTo_congr fun i hi => ?_
  rw [← set_pPart] at hi
  obtain ⟨x, -, rfl⟩ := Finset.mem_map.mp hi
  have e : (pPart L p).view.writes (Elt F) f [⟨Rect.whole S256x128, w⟩] ((pPart L p).view.emb x) = w x := by
    rw [View.writes_singleton]
    have := View.write_emb_of_mem (Val := Elt F) (v := (pPart L p).view.slice (Rect.whole S256x128)) f w (Finset.mem_univ x)
    rw [View.emb_slice, Function.Embedding.trans_apply, Rect.emb_whole_apply] at this
    exact this
  refine e.trans ((hw x).trans (congrArg (wA W d) ?_))
  exact congrArg₂ (fun (n : ℕ) (k : Fin 128) => ix2 (n0 := 200000) (n1 := 128) ⟨n % 200000, Nat.mod_lt _ (by decide)⟩ k)
    (congrArg BitVec.toNat (nums_apply W d L p x)) (Fin.ext (emb_col L p x).symm)

set_option maxHeartbeats 2000000 in
omit [FloatOps F] in
/-- The part's rows of the second output, once the gathered block is copied there, are at `picked`. -/
theorem landed_Q (p : Fin 2) (f : Buf (Elt F) (qLoc d)) (w : S256x128.Idx → Elt F .f32)
    (hw : ∀ x, w x = wB W d (ix2 (n0 := 200000) (n1 := 128) ⟨(nums W d L p (ix1 (n := 256) (x 0))).toNat % 200000, Nat.mod_lt _ (by decide)⟩ (x 1))) :
    ((qPart L p).view.loc (V d (cV L) (jV L)) ↦[(qPart L p).view.set]{fullShare}
        (qPart L p).view.writes (Elt F) f [⟨Rect.whole S256x128, w⟩] : sProp 𝕄)
      = qLoc d ↦[blk (tL L) p]{fullShare} gQ W d := by
  rw [set_qPart]
  refine pointsTo_congr fun i hi => ?_
  rw [← set_qPart] at hi
  obtain ⟨x, -, rfl⟩ := Finset.mem_map.mp hi
  have e : (qPart L p).view.writes (Elt F) f [⟨Rect.whole S256x128, w⟩] ((qPart L p).view.emb x) = w x := by
    rw [View.writes_singleton]
    have := View.write_emb_of_mem (Val := Elt F) (v := (qPart L p).view.slice (Rect.whole S256x128)) f w (Finset.mem_univ x)
    rw [View.emb_slice, Function.Embedding.trans_apply, Rect.emb_whole_apply] at this
    exact this
  refine e.trans ((hw x).trans (congrArg (wB W d) ?_))
  exact congrArg₂ (fun (n : ℕ) (k : Fin 128) => ix2 (n0 := 200000) (n1 := 128) ⟨n % 200000, Nat.mod_lt _ (by decide)⟩ k)
    (congrArg BitVec.toNat (nums_apply W d L p x)) (Fin.ext (emb_col L p x).symm)

omit [FloatOps F] in
/-- A whole buffer written whole holds what was written. -/
theorem read_list (f : S256.Idx → Elt F .i32) (w : S256.Idx → Elt F .i32) :
    (sV).view.read (Elt F) (View.write (Elt F) (sV).view f w Finset.univ) = w := View.write_whole_univ cc3_scratch0 f w
omit [FloatOps F] in
/-- The first scratch block, written whole last, reads as what was written. -/
theorem read_x (f w : S256x128.Idx → Elt F .f32) (l : List (View.Piece (Elt F) S256x128 .f32)) :
    (xV).view.read (Elt F) ((xV).view.writes (Elt F) f (⟨Rect.whole S256x128, w⟩ :: l)) = w := funext fun y => by
  have := View.read_writes_cons_emb (v := (xV).view) (Val := Elt F) (f := f) (Rect.whole S256x128) w l y
  exact (congrArg ((xV).view.read (Elt F) ((xV).view.writes (Elt F) f (⟨Rect.whole S256x128, w⟩ :: l))) (Rect.emb_whole_apply S256x128 y)).symm.trans this
omit [FloatOps F] in
/-- The second scratch block, written whole last, reads as what was written. -/
theorem read_y (f w : S256x128.Idx → Elt F .f32) (l : List (View.Piece (Elt F) S256x128 .f32)) :
    (yV).view.read (Elt F) ((yV).view.writes (Elt F) f (⟨Rect.whole S256x128, w⟩ :: l)) = w := funext fun y => by
  have := View.read_writes_cons_emb (v := (yV).view) (Val := Elt F) (f := f) (Rect.whole S256x128) w l y
  exact (congrArg ((yV).view.read (Elt F) ((yV).view.writes (Elt F) f (⟨Rect.whole S256x128, w⟩ :: l))) (Rect.emb_whole_apply S256x128 y)).symm.trans this

omit [FloatOps F] in
/-- The whole of a table, sliced out of it, reads as the table. -/
theorem read_a (f : S200000x128.Idx → Elt F .f32) (x : S200000x128.Idx) :
    ((aV).slice (Rect.unit (s := S200000x128) ![0, 0] S200000x128.size inb_S200000x128_S200000x128_0_0) (fun _ => rfl)).view.read (Elt F) f x = f x := by
  refine ((View.read_apply _ _).trans (cast_eq _ _)).trans (congrArg f (funext fun a => Fin.ext ?_))
  match a with
  | 0 => exact (Nat.zero_add _).trans (Nat.one_mul _)
  | 1 => exact (Nat.zero_add _).trans (Nat.one_mul _)
omit [FloatOps F] in
/-- The whole of the second table, sliced out of it, reads as the table. -/
theorem read_b (f : S200000x128.Idx → Elt F .f32) (x : S200000x128.Idx) :
    ((bV).slice (Rect.unit (s := S200000x128) ![0, 0] S200000x128.size inb_S200000x128_S200000x128_0_0) (fun _ => rfl)).view.read (Elt F) f x = f x := by
  refine ((View.read_apply _ _).trans (cast_eq _ _)).trans (congrArg f (funext fun a => Fin.ext ?_))
  match a with
  | 0 => exact (Nat.zero_add _).trans (Nat.one_mul _)
  | 1 => exact (Nat.zero_add _).trans (Nat.one_mul _)

set_option maxHeartbeats 4000000 in
/-- One task, run from what it is handed with every row number in range, ends with what it hands back. Its scratch buffers and
    semaphores come back to it, and every wait it records is one recorded before or one of its own. -/
theorem tile_body (hF : (K (F := F)).Facts) (hin : InRange W) (O : CellTallies nD τ sig (HIx 2)) (Wt : Waits sig (HIx 2)) (hO : ∀ g, O g none = 0) :
    iprop(levAts (K (F := F)).L (K (F := F)).lev ∗ emp ∗ taskIn W d (tL L)
        ∗ scopedBufs (V d (cV L) (jV L)) ∗ scopedSems0 (V d (cV L) (jV L)) ∗ owes (V d (cV L) (jV L)) O Wt)
      ⊢ wp frame (wpE (defs₀ (F := F)) 𝒱₀ (V d (cV L) (jV L)) none) Set.univ
          (cc3_gk L aV (Memref.isWhole_whole _) bV (Memref.isWhole_whole _) lV (Memref.isWhole_whole _) pV (Memref.isWhole_whole _)
            qV (Memref.isWhole_whole _) sV (Memref.isWhole_whole _) xV (Memref.isWhole_whole _) yV (Memref.isWhole_whole _)
            cc3_scratch3 cc3_scoped0 cc3_scoped1 cc3_scoped2 cc3_scoped3 cc3_scoped4 cc3_scoped5)
          fun _ => iprop(taskOut W d (tL L)
            ∗ scopedBufs (V d (cV L) (jV L)) ∗ scopedSems0 (V d (cV L) (jV L))
            ∗ ∃ W', ⌜∀ p ∈ W', p ∈ Wt ∨ p.2 = none⌝ ∗ owes (V d (cV L) (jV L)) O W') := by
  simp only [cc3_gk_eq_skeleton]; unfold cc3_gk_skel
  simp only [k3_part1_eq_skeleton]; unfold k3_part1_skel
  rw [(K (F := F)).scopedBufs_V hF d (cV L) (jV L), SparseCore.Cfg.scopedSems0_V (Val := Elt F) d (cV L) (jV L), ownSems0_V, ownBufs_V]
  iintro ⟨#Hlv, -, ⟨⟨Ha, Hb, Hl⟩, Hp0, Hp1, Hq0, Hq1⟩, ⟨⟨%fs, Hs⟩, ⟨%fx, Hx⟩, ⟨%fy, Hy⟩, Hbufs⟩, ⟨⟨Hm, Hm0, Hm1, Hm2, Hm3, Hm4, Hm5⟩, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hp0' := (Entails.of_eq (pts_pPart (F := F) d L 0 _).symm) $$ Hp0
  ihave Hp1' := (Entails.of_eq (pts_pPart (F := F) d L 1 _).symm) $$ Hp1
  ihave Hq0' := (Entails.of_eq (pts_qPart (F := F) d L 0 _).symm) $$ Hq0
  ihave Hq1' := (Entails.of_eq (pts_qPart (F := F) d L 1 _).symm) $$ Hq1
  ihave Ha' := (Entails.of_eq (show (aLoc d ↦{leaf 5 fullShare (tL L)} wA W d : sProp 𝕄) = (aV).view.loc (V d (cV L) (jV L)) ↦{leaf 5 fullShare (tL L)} wA W d from rfl)) $$ Ha
  ihave Hb' := (Entails.of_eq (show (bLoc d ↦{leaf 5 fullShare (tL L)} wB W d : sProp 𝕄) = (bV).view.loc (V d (cV L) (jV L)) ↦{leaf 5 fullShare (tL L)} wB W d from rfl)) $$ Hb
  ihave Hl' := (Entails.of_eq (show (lLoc d ↦{leaf 5 fullShare (tL L)} wL W d : sProp 𝕄) = (lV).view.loc (V d (cV L) (jV L)) ↦{leaf 5 fullShare (tL L)} wL W d from rfl)) $$ Hl
  ihave Hs' := (Entails.of_eq (show ((V d (cV L) (jV L)).loc cc3_scratch0 ↦{fullShare} fs : sProp 𝕄) = (sV).view.loc (V d (cV L) (jV L)) ↦{fullShare} fs from rfl)) $$ Hs
  ihave Hx' := (Entails.of_eq (show ((V d (cV L) (jV L)).loc cc3_scratch1 ↦{fullShare} fx : sProp 𝕄) = (xV).view.loc (V d (cV L) (jV L)) ↦{fullShare} fx from rfl)) $$ Hx
  ihave Hy' := (Entails.of_eq (show ((V d (cV L) (jV L)).loc cc3_scratch2 ↦{fullShare} fy : sProp 𝕄) = (yV).view.loc (V d (cV L) (jV L)) ↦{fullShare} fy from rfl)) $$ Hy
  sl_exec
  have hin0 : ∀ x, ((sV).view.read (Elt F) (View.write (Elt F) (sV).view fs (tile_body.sl.dma0 W d L) Finset.univ) x).toNat
      < S200000x128.size gathers_S200000x128_S256x128.axis := fun x => by
    rw [read_list]
    exact nums_lt W d L hin 0 x
  sl_exec
  have hin1 : ∀ x, ((sV).view.read (Elt F) (View.write (Elt F) (sV).view
      (View.write (Elt F) (sV).view fs (tile_body.sl.dma0 W d L) Finset.univ) (tile_body.sl.dma0_3 W d L) Finset.univ) x).toNat
      < S200000x128.size gathers_S200000x128_S256x128.axis := fun x => by
    rw [read_list]
    exact nums_lt W d L hin 1 x
  sl_exec
  sl_step
  have vP0 : ∀ x, tile_body.sl.dma0_1 W d L fs fx hin0 x = _ := fun x =>
    (congrFun (read_x fx _ []) x).trans (gathered (read_a (wA W d)) (read_list fs (nums W d L 0)) x)
  have vQ0 : ∀ x, tile_body.sl.dma0_2 W d L fs fy hin0 x = _ := fun x =>
    (congrFun (read_y fy _ []) x).trans (gathered (read_b (wB W d)) (read_list fs (nums W d L 0)) x)
  have vP1 : ∀ x, tile_body.sl.dma0_4 W d L fs fx hin0 hin1 x = _ := fun x =>
    (congrFun (read_x fx _ _) x).trans (gathered (read_a (wA W d)) (read_list _ (nums W d L 1)) x)
  have vQ1 : ∀ x, tile_body.sl.dma0_5 W d L fs fy hin0 hin1 x = _ := fun x =>
    (congrFun (read_y fy _ _) x).trans (gathered (read_b (wB W d)) (read_list _ (nums W d L 1)) x)
  ihave Hp0 := (Entails.of_eq (landed_P W d L 0 _ _ vP0)) $$ Hp0'
  ihave Hp1 := (Entails.of_eq (landed_P W d L 1 _ _ vP1)) $$ Hp1'
  ihave Hq0 := (Entails.of_eq (landed_Q W d L 0 _ _ vQ0)) $$ Hq0'
  ihave Hq1 := (Entails.of_eq (landed_Q W d L 1 _ _ vQ1)) $$ Hq1'
  isplitl [Ha' Hb' Hl' Hp0 Hp1 Hq0 Hq1]
  · isplitl [Ha' Hb' Hl']
    · isplitl [Ha']; · iexact Ha'
      isplitl [Hb']; · iexact Hb'
      iexact Hl'
    isplitl [Hp0]; · iexact Hp0
    isplitl [Hp1]; · iexact Hp1
    isplitl [Hq0]; · iexact Hq0
    iexact Hq1
  isplitl [Hs' Hx' Hy' Hbufs]
  · isplitl [Hs']; · iexists _; iexact Hs'
    isplitl [Hx']; · iexists _; iexact Hx'
    isplitl [Hy']; · iexists _; iexact Hy'
    iexact Hbufs
  isplitl [Hm Hm0 Hm1 Hm2 Hm3 Hm4 Hm5 Hsems]
  · isplitr [Hsems]
    · isplitl [Hm]; · iexact Hm
      isplitl [Hm0]; · iexact Hm0
      isplitl [Hm1]; · iexact Hm1
      isplitl [Hm2]; · iexact Hm2
      isplitl [Hm3]; · iexact Hm3
      isplitl [Hm4]; · iexact Hm4
      iexact Hm5
    iexact Hsems
  iexists _
  isplitr
  on_goal 2 => iexact HO
  ipureintro; intro p hp
  simp only [Finset.mem_insert] at hp
  rcases hp with rfl | rfl | rfl | rfl | rfl | rfl | rfl | rfl | rfl | rfl | hp
  all_goals first | exact Or.inl hp | exact Or.inr rfl

end Tile

end Cert.Proof.KSc.G2

end
-- ==== Proof.KMath.lean ====
module

public import Mathlib.Data.EReal.Basic
public import Mathlib.Data.Fintype.Card
public import Mathlib.Data.Fintype.EquivFin
public import Mathlib.Data.Fintype.Prod
public import Idealize.ShloMosaic.Lib.SortFacts

@[expose] public section

noncomputable section

/-!
The mathematics of the selection, about families of extended reals and nothing else.

A family `v` with natural number keys `n` is ordered by: greater value first, and at equal values smaller key first.
The RANK of an element is the number of elements before it. The k greatest elements are those of rank below k.

* `round`: one step of the extraction loop (take the maximum, among the elements that attain it the least key, mask that
  element) finds the element of rank `r` in the family whose first `r` elements are masked.
* `sorted_rank`: a stable sort by "greater first" puts the element of rank `i` at position `i`.
* `two_level`: for a family cut in 2048 segments of 32, the elements of rank below 32 among the segments of rank below 32
  are those of rank below 32 among all.
-/

namespace Cert.Proof.KMath

variable {ι : Type} [Fintype ι] [DecidableEq ι]

/-- Element `i` comes before element `j`: a greater value, or an equal value and a smaller key. -/
def Prec (v : ι → EReal) (n : ι → ℕ) (i j : ι) : Prop := v j < v i ∨ (v i = v j ∧ n i < n j)

open Classical in
/-- The number of elements before `j`. -/
def rank (v : ι → EReal) (n : ι → ℕ) (j : ι) : ℕ := (Finset.univ.filter fun i => Prec v n i j).card

variable {v : ι → EReal} {n : ι → ℕ}

omit [Fintype ι] [DecidableEq ι] in
/-- No element comes before itself. -/
theorem prec_irrefl (j : ι) : ¬ Prec v n j j := by
  rintro (h | ⟨-, h⟩) <;> exact lt_irrefl _ h

omit [Fintype ι] [DecidableEq ι] in
/-- The order is transitive. -/
theorem prec_trans {i j k : ι} (h : Prec v n i j) (h' : Prec v n j k) : Prec v n i k := by
  rcases h with h | ⟨e, h⟩ <;> rcases h' with h' | ⟨e', h'⟩
  · exact .inl (h'.trans h)
  · exact .inl (e' ▸ h)
  · exact .inl (e ▸ h')
  · exact .inr ⟨e.trans e', h.trans h'⟩

omit [Fintype ι] [DecidableEq ι] in
/-- Of two elements with different keys one comes before the other. -/
theorem prec_total {i j : ι} (hn : n i ≠ n j) : Prec v n i j ∨ Prec v n j i := by
  rcases lt_trichotomy (v i) (v j) with h | h | h
  · exact .inr (.inl h)
  · rcases Nat.lt_or_gt_of_ne hn with h' | h'
    · exact .inl (.inr ⟨h, h'⟩)
    · exact .inr (.inr ⟨h.symm, h'⟩)
  · exact .inl (.inl h)

omit [DecidableEq ι] in
/-- What comes before has the smaller rank. -/
theorem rank_lt {i j : ι} (h : Prec v n i j) : rank v n i < rank v n j := by
  classical
  refine Finset.card_lt_card ⟨fun k hk => ?_, fun hs => ?_⟩
  · simp only [Finset.mem_filter, Finset.mem_univ, true_and] at hk ⊢; exact prec_trans hk h
  · have := hs (by simpa only [Finset.mem_filter, Finset.mem_univ, true_and] using h : i ∈ _)
    simp only [Finset.mem_filter, Finset.mem_univ, true_and] at this
    exact prec_irrefl _ this

omit [DecidableEq ι] in
/-- With distinct keys, the smaller rank comes before. -/
theorem prec_of_rank (hn : Function.Injective n) {i j : ι} (h : rank v n i < rank v n j) : Prec v n i j := by
  have hne : i ≠ j := by rintro rfl; exact lt_irrefl _ h
  rcases prec_total (v := v) (fun e => hne (hn e)) with h' | h'
  · exact h'
  · exact absurd (rank_lt h') (by omega)

omit [DecidableEq ι] in
/-- With distinct keys, the rank determines the element. -/
theorem rank_inj (hn : Function.Injective n) : Function.Injective (rank v n) := by
  intro i j h
  by_contra hne
  rcases prec_total (v := v) (fun e => hne (hn e)) with h' | h'
  · exact absurd (rank_lt h') (by omega)
  · exact absurd (rank_lt h') (by omega)

omit [DecidableEq ι] in
/-- A rank is below the number of elements. -/
theorem rank_card (j : ι) : rank v n j < Fintype.card ι := by
  classical
  rw [← Finset.card_univ]
  refine Finset.card_lt_card ⟨Finset.subset_univ _, fun hs => ?_⟩
  have := hs (Finset.mem_univ j)
  simp only [Finset.mem_filter, Finset.mem_univ, true_and] at this
  exact prec_irrefl _ this

omit [DecidableEq ι] in
/-- With distinct keys, every number below the number of elements is a rank. -/
theorem exists_rank (hn : Function.Injective n) {r : ℕ} (hr : r < Fintype.card ι) : ∃ e, rank v n e = r := by
  have hb : Function.Bijective (fun j : ι => (⟨rank v n j, rank_card j⟩ : Fin (Fintype.card ι))) :=
    (Fintype.bijective_iff_injective_and_card _).mpr
      ⟨fun i j h => rank_inj hn (congrArg Fin.val h), (Fintype.card_fin _).symm⟩
  obtain ⟨e, he⟩ := hb.2 ⟨r, hr⟩
  exact ⟨e, congrArg Fin.val he⟩

omit [DecidableEq ι] in
/-- If more than `r` elements are above the bottom, so is the element of rank `r`. -/
theorem value_ne_bot {e : ι} (s : Finset ι) (hs : ∀ j ∈ s, v j ≠ ⊥) (hr : rank v n e < s.card) : v e ≠ ⊥ := by
  classical
  intro hb
  have : s.card ≤ rank v n e := Finset.card_le_card fun j hj => by
    simp only [Finset.mem_filter, Finset.mem_univ, true_and]
    exact .inl (hb ▸ bot_lt_iff_ne_bot.mpr (hs j hj))
  omega

/-- The family with its first `r` elements masked. -/
def masked (v : ι → EReal) (n : ι → ℕ) (r : ℕ) (j : ι) : EReal := if rank v n j < r then ⊥ else v j

omit [DecidableEq ι] in
/-- Nothing is masked at first. -/
theorem masked_zero (j : ι) : masked v n 0 j = v j := if_neg (Nat.not_lt_zero _)

omit [DecidableEq ι] in
/-- One step of the extraction: in the family with the first `r` elements masked, the element `e` of rank `r` has the
    greatest value, the least key among the elements that attain it, and masking the element with its key masks the
    first `r + 1`. -/
theorem round (hn : Function.Injective n) {e : ι} (he : v e ≠ ⊥) :
    masked v n (rank v n e) e = v e ∧ (∀ j, masked v n (rank v n e) j ≤ v e)
      ∧ (∀ j, masked v n (rank v n e) j = v e → n e ≤ n j)
      ∧ ∀ j, (if n j = n e then ⊥ else masked v n (rank v n e) j) = masked v n (rank v n e + 1) j := by
  have hge : ∀ j, ¬ rank v n j < rank v n e → j = e ∨ Prec v n e j := fun j h => by
    rcases Nat.lt_or_ge (rank v n e) (rank v n j) with h' | h'
    · exact .inr (prec_of_rank hn h')
    · exact .inl (rank_inj (v := v) hn (by omega))
  refine ⟨if_neg (lt_irrefl _), fun j => ?_, fun j hj => ?_, fun j => ?_⟩
  · unfold masked
    split
    · exact bot_le
    · next h =>
      rcases hge j h with rfl | h' | ⟨h', -⟩
      · exact le_rfl
      · exact h'.le
      · exact h'.ge
  · unfold masked at hj
    split at hj
    · exact absurd hj.symm he
    · next h =>
      rcases hge j h with rfl | h' | ⟨-, h'⟩
      · exact le_rfl
      · exact absurd hj h'.ne
      · exact h'.le
  · unfold masked
    by_cases hj : n j = n e
    · rw [if_pos hj, if_pos (by rw [hn hj]; omega)]
    · rw [if_neg hj]
      have : rank v n j ≠ rank v n e := fun h => hj (congrArg n (rank_inj (v := v) hn h))
      by_cases h : rank v n j < rank v n e
      · rw [if_pos h, if_pos (by omega)]
      · rw [if_neg h, if_neg (by omega)]

/-! ## The stable sort -/

omit [Fintype ι] [DecidableEq ι] in
/-- Inserting an element whose key is below those of a sorted list leaves the list sorted. -/
theorem insert_sorted (R : ι → ι → Bool) (hR : ∀ i j, R i j = true ↔ v j < v i) (a : ι) (l : List ι)
    (ha : ∀ b ∈ l, n a < n b) (hl : l.Pairwise (Prec v n)) :
    (Idealize.ShloMosaic.insertBefore R a l).Pairwise (Prec v n) := by
  induction l with
  | nil => exact List.pairwise_singleton _ _
  | cons b l ih =>
    rw [List.pairwise_cons] at hl
    unfold Idealize.ShloMosaic.insertBefore
    split
    · next h =>
      rw [List.pairwise_cons]
      refine ⟨fun c hc => ?_, ih (fun c hc => ha c (List.mem_cons_of_mem _ hc)) hl.2⟩
      rcases List.mem_cons.mp ((Idealize.ShloMosaic.perm_insertBefore R a l).mem_iff.mp hc) with rfl | hc
      · exact .inl ((hR _ _).mp h)
      · exact hl.1 c hc
    · next h =>
      have hab : Prec v n a b := by
        have hle : ¬ v a < v b := fun h' => h ((hR _ _).mpr h')
        rcases lt_or_eq_of_le (not_lt.mp hle) with h' | h'
        · exact .inl h'
        · exact .inr ⟨h'.symm, ha b List.mem_cons_self⟩
      rw [List.pairwise_cons]
      refine ⟨fun c hc => ?_, List.pairwise_cons.mpr hl⟩
      rcases List.mem_cons.mp hc with rfl | hc
      · exact hab
      · exact prec_trans hab (hl.1 c hc)

omit [Fintype ι] [DecidableEq ι] in
/-- The stable sort of a list in increasing order of keys is sorted. -/
theorem stable_sorted (R : ι → ι → Bool) (hR : ∀ i j, R i j = true ↔ v j < v i) (l : List ι)
    (h : l.Pairwise fun a b => n a < n b) : (Idealize.ShloMosaic.stableSort R l).Pairwise (Prec v n) := by
  induction l with
  | nil => exact List.Pairwise.nil
  | cons a l ih =>
    rw [List.pairwise_cons] at h
    exact insert_sorted R hR a _ (fun b hb => h.1 b ((Idealize.ShloMosaic.perm_stableSort R l).mem_iff.mp hb)) (ih h.2)

/-- A stable sort by "greater first" puts at position `i` the element of rank `i`. -/
theorem sorted_rank {N : ℕ} (v : Fin N → EReal) (R : Fin N → Fin N → Bool) (hR : ∀ i j, R i j = true ↔ v j < v i) (i : Fin N) :
    rank v Fin.val (Idealize.ShloMosaic.sortedFrom R i) = i.val := by
  classical
  have hp := List.pairwise_iff_get.mp (stable_sorted (v := v) (n := Fin.val) R hR (List.finRange N)
    (List.pairwise_lt_finRange N))
  have hmono : ∀ a b : Fin N, a < b → Prec v Fin.val (Idealize.ShloMosaic.sortedFrom R a) (Idealize.ShloMosaic.sortedFrom R b) :=
    fun a b hab => hp (a.cast (Idealize.ShloMosaic.length_sortPositions N R).symm) (b.cast (Idealize.ShloMosaic.length_sortPositions N R).symm) hab
  have hset : (Finset.univ.filter fun j => Prec v Fin.val j (Idealize.ShloMosaic.sortedFrom R i))
      = (Finset.univ.filter fun a : Fin N => a < i).image (Idealize.ShloMosaic.sortedFrom R) := by
    ext j
    simp only [Finset.mem_filter, Finset.mem_univ, true_and, Finset.mem_image]
    constructor
    · intro h
      obtain ⟨a, rfl⟩ := Idealize.ShloMosaic.sortedFrom_surjective R j
      refine ⟨a, ?_, rfl⟩
      rcases lt_trichotomy a i with h' | h' | h'
      · exact h'
      · exact absurd (h' ▸ h) (prec_irrefl _)
      · exact absurd (prec_trans h (hmono _ _ h')) (prec_irrefl _)
    · rintro ⟨a, ha, rfl⟩; exact hmono _ _ ha
  unfold rank
  rw [show (Finset.univ.filter fun j => Prec v Fin.val j (Idealize.ShloMosaic.sortedFrom R i)) = _ from hset,
    Finset.card_image_of_injective _ (Idealize.ShloMosaic.sortedFrom_injective R)]
  rw [show (Finset.univ.filter fun a : Fin N => a < i) = Finset.Iio i from by ext; simp]
  exact Fin.card_Iio i

/-! ## Two levels -/

/-- The key of lane `l` of segment `s`. -/
def key (x : Fin 2048 × Fin 32) : ℕ := 32 * x.1.val + x.2.val

/-- Keys are distinct. -/
theorem key_inj : Function.Injective key := by
  rintro ⟨s, l⟩ ⟨s', l'⟩ h
  simp only [key] at h
  have := l.isLt; have := l'.isLt
  ext <;> simp only <;> omega

/-- An element of rank below 32 lies in a segment of rank below 32, where a segment's value is the greatest in it. -/
theorem segment_rank (w : Fin 2048 × Fin 32 → EReal) (sv : Fin 2048 → EReal) (hle : ∀ s l, w (s, l) ≤ sv s)
    (hat : ∀ s, ∃ l, w (s, l) = sv s) (x : Fin 2048 × Fin 32) (hx : rank w key x < 32) : rank sv Fin.val x.1 < 32 := by
  classical
  choose am ham using hat
  refine lt_of_le_of_lt ?_ hx
  refine Finset.card_le_card_of_injOn (fun s => (s, am s)) (fun s hs => ?_) (fun s _ s' _ h => (Prod.ext_iff.mp h).1)
  simp only [Finset.coe_filter, Finset.mem_univ, true_and, Set.mem_setOf_eq] at hs ⊢
  have hxl : w x ≤ sv x.1 := hle x.1 x.2
  have hlt : ∀ h : s < x.1, key (s, am s) < key x := fun h => by
    have h' : s.val < x.1.val := h
    have := (am s).isLt
    simp only [key]; omega
  rcases hs with h | ⟨h, h'⟩
  · exact .inl (by rw [ham]; exact lt_of_le_of_lt hxl h)
  · rcases lt_or_eq_of_le hxl with h'' | h''
    · exact .inl (by rw [ham, h]; exact h'')
    · exact .inr ⟨by rw [ham, h, h''], hlt h'⟩

/-- The selected segments: `sel k` is the segment of rank `k`. -/
theorem two_level (w : Fin 2048 × Fin 32 → EReal) (sv : Fin 2048 → EReal) (hle : ∀ s l, w (s, l) ≤ sv s)
    (hat : ∀ s, ∃ l, w (s, l) = sv s) (sel : Fin 32 → Fin 2048) (hsel : ∀ k, rank sv Fin.val (sel k) = k.val)
    (c : Fin 32 × Fin 32)
    (hc : rank (fun c : Fin 32 × Fin 32 => w (sel c.1, c.2)) (fun c => key (sel c.1, c.2)) c < 32) :
    rank w key (sel c.1, c.2) = rank (fun c : Fin 32 × Fin 32 => w (sel c.1, c.2)) (fun c => key (sel c.1, c.2)) c := by
  classical
  have hselinj : Function.Injective sel := fun a b h => by
    have := hsel a; rw [h, hsel b] at this; exact Fin.ext this.symm
  have hemb : Function.Injective fun c : Fin 32 × Fin 32 => (sel c.1, c.2) := fun a b h => by
    have h1 := (Prod.ext_iff.mp h).1; have h2 := (Prod.ext_iff.mp h).2
    exact Prod.ext (hselinj h1) h2
  have hkinj : Function.Injective fun c : Fin 32 × Fin 32 => key (sel c.1, c.2) := fun a b h => hemb (key_inj h)
  have hcover : ∀ x : Fin 2048 × Fin 32, rank w key x < 32 → ∃ c : Fin 32 × Fin 32, (sel c.1, c.2) = x := fun x hx => by
    have h := segment_rank w sv hle hat x hx
    exact ⟨(⟨_, h⟩, x.2), Prod.ext (rank_inj (v := sv) Fin.val_injective (hsel ⟨_, h⟩)) rfl⟩
  obtain ⟨x, hx⟩ := exists_rank (v := w) key_inj
    (r := rank (fun c : Fin 32 × Fin 32 => w (sel c.1, c.2)) (fun c => key (sel c.1, c.2)) c)
    (by rw [Fintype.card_prod, Fintype.card_fin, Fintype.card_fin]; omega)
  obtain ⟨c', rfl⟩ := hcover x (by omega)
  have hcc : rank (fun c : Fin 32 × Fin 32 => w (sel c.1, c.2)) (fun c => key (sel c.1, c.2)) c' = rank w key (sel c'.1, c'.2) := by
    unfold rank
    refine (Finset.card_image_of_injective _ hemb).symm.trans (congrArg Finset.card ?_)
    ext y
    simp only [Finset.mem_image, Finset.mem_filter, Finset.mem_univ, true_and]
    constructor
    · rintro ⟨d, hd, rfl⟩; exact hd
    · intro hy
      obtain ⟨d, rfl⟩ := hcover y (lt_trans (rank_lt hy) (by omega))
      exact ⟨d, hy, rfl⟩
  have : c' = c := rank_inj hkinj (hcc.trans hx)
  rw [← this, hcc]

/-! ## Moving between families -/

omit [DecidableEq ι] in
/-- A strictly increasing change of the values changes no rank. -/
theorem rank_congr {v' : ι → EReal} (hlt : ∀ i j, v i < v j ↔ v' i < v' j) (j : ι) : rank v n j = rank v' n j := by
  classical
  have heq : ∀ i j, v i = v j ↔ v' i = v' j := fun i j => by
    rw [le_antisymm_iff, le_antisymm_iff, ← not_lt, ← not_lt, ← not_lt, ← not_lt, hlt, hlt]
  have hp : ∀ i, Prec v n i j ↔ Prec v' n i j := fun i => by unfold Prec; rw [hlt, heq]
  unfold rank
  refine congrArg Finset.card (Finset.ext fun i => ?_)
  rw [Finset.mem_filter, Finset.mem_filter, hp]

/-- The position of key `i` among the segments. -/
def place (i : Fin 50000) : Fin 2048 × Fin 32 := (⟨i.val / 32, by have := i.isLt; omega⟩, ⟨i.val % 32, Nat.mod_lt _ (by decide)⟩)

/-- The key of a position is the number it was computed from. -/
theorem key_place (i : Fin 50000) : key (place i) = i.val := by
  simp only [key, place]; omega

/-- The family `L` of 50000, none at the bottom, laid out in 2048 segments of 32 with bottom after it, keeps its ranks. -/
theorem rank_place (w : Fin 2048 × Fin 32 → EReal) (L : Fin 50000 → EReal) (hL : ∀ i, L i ≠ ⊥)
    (hw : ∀ i, w (place i) = L i) (hbot : ∀ x, 50000 ≤ key x → w x = ⊥) (i : Fin 50000) :
    rank w key (place i) = rank L Fin.val i := by
  classical
  have hinj : Function.Injective place := fun a b h => Fin.ext (by rw [← key_place a, h, key_place])
  unfold rank
  refine Eq.symm ((Finset.card_image_of_injective _ hinj).symm.trans (congrArg Finset.card (Eq.symm ?_)))
  ext x
  simp only [Finset.mem_image, Finset.mem_filter, Finset.mem_univ, true_and]
  constructor
  · intro h
    have hx : key x < 50000 := by
      by_contra hx
      have hb := hbot x (not_lt.mp hx)
      rcases h with h | ⟨h, -⟩
      · rw [hb] at h; exact absurd h not_lt_bot
      · rw [hb, hw] at h; exact hL i h.symm
    have hp : place ⟨key x, hx⟩ = x := key_inj (key_place _)
    refine ⟨⟨key x, hx⟩, ?_, hp⟩
    rw [← hp] at h
    unfold Prec at h ⊢
    rw [hw, hw, key_place, key_place] at h; exact h
  · rintro ⟨a, h, rfl⟩
    unfold Prec at h ⊢
    rw [hw, hw, key_place, key_place]; exact h

end Cert.Proof.KMath

end
-- ==== Proof.KSelect.lean ====
/-
  THE EXTRACTION LOOPS AT THE EXTENDED REALS: 32 rounds of "take the maximum, among the elements that attain it the least
  key, mask that element" name, in their order, the elements of rank 0 … 31 of the family they start from.
-/
module

public import proofs.«01_k».proof.Proof.KMath
public import proofs.«01_k».proof.Proof.Gen.KernelIdeal.Skeleton
public import Idealize.ShloMosaic.Lib.Pointwise
public import Idealize.ShloMosaic.Lib.Exec.Context

@[expose] public section

noncomputable section

namespace Cert.Proof.KSc

open Cert.KernelIdeal Cert.KernelIdeal.Gen

open Idealize.ShloMosaic
open Idealize.SL.Sem

/-- The word of minus infinity is the least extended real. -/
theorem neg_inf : Ideal.ofBits .f32 0xFF800000#32 = ⊥ := by simp [Ideal.ofBits, Ideal.ieee]

/-- A fold of maxima from the least value is a value that bounds every member and is one. -/
theorem fold_max_eq {n : ℕ} (f : Fin n → EReal) (a : EReal) (hle : ∀ i, f i ≤ a) (hex : ∃ i, f i = a) :
    (Finset.univ : Finset (Fin n)).fold max ⊥ f = a := by
  obtain ⟨i, hi⟩ := hex
  refine le_antisymm ((Finset.fold_max_le a).2 ⟨bot_le, fun j _ => hle j⟩) ?_
  rw [← hi]
  exact (Finset.le_fold_max _).2 (.inr ⟨i, Finset.mem_univ i, le_rfl⟩)

/-- The order of words that a signed minimum follows. -/
theorem sle_minsi (c x y : BitVec 32) : c.toInt ≤ (IntOp.minsi x y).toInt ↔ (c.toInt ≤ x.toInt ∧ c.toInt ≤ y.toInt) := by
  unfold IntOp.minsi
  simp only [BitVec.slt, decide_eq_true_eq]
  split <;> constructor <;> intro h <;> omega

/-- A fold of signed minima is a word below every member that is one, the start at or above it. -/
theorem fold_minsi_eq {n : ℕ} (f : Fin n → BitVec 32) (b a : BitVec 32) (hb : a.toInt ≤ b.toInt) (hle : ∀ i, a.toInt ≤ (f i).toInt)
    (hex : ∃ i, f i = a) : (Finset.univ : Finset (Fin n)).fold IntOp.minsi b f = a := by
  obtain ⟨i, hi⟩ := hex
  have h := fun c : BitVec 32 => Finset.fold_op_rel_iff_and (op := IntOp.minsi (w := 32)) (f := f) (b := b) (s := Finset.univ)
    (r := fun x y : BitVec 32 => x.toInt ≤ y.toInt) (fun {x y z} => sle_minsi x y z) (c := c)
  refine BitVec.eq_of_toInt_eq (le_antisymm ?_ ?_)
  · have := ((h _).1 (le_refl _)).2 i (Finset.mem_univ i)
    rwa [hi] at this
  · exact (h a).2 ⟨hb, fun j _ => hle j⟩

/-- A word at or below the start and every member is at or below their fold of signed minima. -/
theorem le_fold_minsi {n : ℕ} (f : Fin n → BitVec 32) (b a : BitVec 32) (hb : a.toInt ≤ b.toInt) (hle : ∀ i, a.toInt ≤ (f i).toInt) :
    a.toInt ≤ ((Finset.univ : Finset (Fin n)).fold IntOp.minsi b f).toInt :=
  (Finset.fold_op_rel_iff_and (op := IntOp.minsi (w := 32)) (r := fun x y : BitVec 32 => x.toInt ≤ y.toInt)
    (fun {x y z} => sle_minsi x y z)).2 ⟨hb, fun j _ => hle j⟩

/-- A property of the number of rounds done holds after all of them. -/
theorem foldl_inv {n : ℕ} {σ : Type} (g : Fin n → σ → σ) (init : σ) (Pr : ℕ → σ → Prop) (h0 : Pr 0 init)
    (hs : ∀ (k : Fin n) acc, Pr k.val acc → Pr (k.val + 1) (g k acc)) : Pr n (Scf.fold g init) := by
  rw [Scf.fold_eq]
  have h : ∀ r, r ≤ n → Pr r (((List.finRange n).take r).foldl (fun acc k => g k acc) init) := fun r => by
    induction r with
    | zero => intro _; exact h0
    | succ r ih =>
      intro hr
      rw [List.take_succ, List.foldl_append, List.getElem?_eq_getElem (by rw [List.length_finRange]; omega), List.getElem_finRange]
      exact hs ⟨r, hr⟩ _ (ih (by omega))
  have := h n le_rfl
  rwa [List.take_of_length_le (by rw [List.length_finRange])] at this

/-- A choice by equality of words. -/
theorem select_eq {α : Type} {w : ℕ} (a b : BitVec w) (x y : α) : Scalar.select (IntOp.cmpi .eq a b) x y = if a = b then x else y := by
  show (if BitVec.ofBool (a == b) = 1#1 then x else y) = _
  by_cases h : a = b
  · simp [h]
  · rw [if_neg h, show (a == b) = false from beq_false_of_ne h]; rfl

/-- The round's number as a word. -/
theorem iv_eq (k : ℕ) : Scf.iv 0#32 1#32 k = BitVec.ofNat 32 k := by
  unfold Scf.iv; rw [BitVec.zero_add, BitVec.mul_one]

/-- Two words below 2³² that are equal are of equal numbers. -/
theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The key of an element of the segment maxima: segment `64 t + s`. -/
def skey (x : Fin 32 × Fin 64) : ℕ := 64 * x.1.val + x.2.val

/-- The number of a segment, as the first loop computes it. -/
theorem pay5_at (t : Fin 32) (m : Fin 128) (s : Fin 64) : k0_pay5 (ix3 t m s) = BitVec.ofNat 32 (skey (t, s)) := by
  pointwise [k0_pay5]
  apply BitVec.eq_of_toNat_eq
  have := t.isLt; have := s.isLt
  simp only [IntOp.addi, IntOp.muli, skey, BitVec.toNat_add, BitVec.toNat_mul, BitVec.toNat_ofNat]
  omega

/-- A step of the first loop finds the segment of the greatest maximum, the first among equals. -/
theorem pay7_at (x : FVec Ideal S32x128x64 .f32) (m : Fin 128) (e : Fin 32 × Fin 64) (hle : ∀ t s, x (ix3 t m s) ≤ x (ix3 e.1 m e.2))
    (hmin : ∀ t s, x (ix3 t m s) = x (ix3 e.1 m e.2) → skey e ≤ skey (t, s))  : k0_pay7 (F := Ideal) x (ix3 0 m 0) = BitVec.ofNat 32 (skey e) := by
  have hk : ∀ y : Fin 32 × Fin 64, (BitVec.ofNat 32 (skey y)).toInt = skey y := fun y => by
    have := y.1.isLt; have := y.2.isLt
    rw [BitVec.toInt_eq_toNat_of_lt (by rw [BitVec.toNat_ofNat]; unfold skey; omega), BitVec.toNat_ofNat, Nat.mod_eq_of_lt (by unfold skey; omega)]
  have hb : (BitVec.ofNat 32 (skey e)).toInt ≤ (2147483647#32).toInt := by
    rw [hk, show (2147483647#32).toInt = 2147483647 from rfl]; have := e.1.isLt; have := e.2.isLt; unfold skey; omega
  have hmax : (Finset.univ : Finset (Fin 32)).fold max ⊥ (fun t => (Finset.univ : Finset (Fin 64)).fold max ⊥ fun s => x (ix3 t m s))
      = x (ix3 e.1 m e.2) :=
    fold_max_eq _ _ (fun t => (Finset.fold_max_le _).2 ⟨bot_le, fun s _ => hle t s⟩)
      ⟨e.1, fold_max_eq _ _ (fun s => hle e.1 s) ⟨e.2, rfl⟩⟩
  have hite : ∀ t s, (BitVec.ofNat 32 (skey e)).toInt
      ≤ (if x (ix3 t m s) = x (ix3 e.1 m e.2) then k0_pay5 (ix3 t m s) else 2147483647#32).toInt := fun t s => by
    split
    · rename_i h
      rw [pay5_at, hk, hk]; exact_mod_cast hmin t s h
    · exact hb
  pointwise [k0_pay7, neg_inf]
  rw [hmax]
  exact fold_minsi_eq _ _ _ hb (fun t => le_fold_minsi _ _ _ hb fun s => hite t s)
    ⟨e.1, fold_minsi_eq _ _ _ hb (fun s => hite e.1 s) ⟨e.2, by rw [if_pos rfl]; exact pay5_at e.1 m e.2⟩⟩

/-- A step of the first loop sets the maximum it found to minus infinity and keeps the others. -/
theorem pay8_at (x : FVec Ideal S32x128x64 .f32) (t : Fin 32) (m : Fin 128) (s : Fin 64) :
    k0_pay8 (F := Ideal) x (ix3 t m s) = if k0_pay5 (ix3 t m s) = k0_pay7 (F := Ideal) x (ix3 0 m 0) then ⊥ else x (ix3 t m s) := by
  pointwise [k0_pay8, neg_inf]
  exact select_eq _ _ _ _

/-- Step `k` of the first loop stores what it found at place `k` and keeps the other places. -/
theorem pay9_at (k : Fin k0_t1_loop.trips) (x : FVec Ideal S32x128x64 .f32) (o : IVec S128x32 32) (m : Fin 128) (j : Fin 32) :
    k0_pay9 (F := Ideal) k x o (ix2 m j) = if j.val = k.val then k0_pay7 (F := Ideal) x (ix3 0 m 0) else o (ix2 m j) := by
  have hk : k.val < 32 := k.isLt
  pointwise [k0_pay9]
  rw [select_eq, iv_eq]
  exact if_congr (ofNat_eq_iff (by omega) (by omega)) rfl rfl

/-- A step of the second loop finds the word of the greatest candidate, the least word among equals. -/
theorem k2_pay4_at (x : FVec Ideal S128x1024 .f32) (n : IVec S1x128x1024 32) (hn : ∀ m l, (n (ix3 0 m l)).toNat < 2 ^ 31) (m : Fin 128) (e : Fin 1024)
    (hle : ∀ l, x (ix2 m l) ≤ x (ix2 m e)) (hmin : ∀ l, x (ix2 m l) = x (ix2 m e) → (n (ix3 0 m e)).toNat ≤ (n (ix3 0 m l)).toNat) :
    k2_pay4 (F := Ideal) n x (ix2 m 0) = n (ix3 0 m e) := by
  have hk : ∀ l, (n (ix3 0 m l)).toInt = (n (ix3 0 m l)).toNat := fun l => BitVec.toInt_eq_toNat_of_lt (by have := hn m l; omega)
  have hb : (n (ix3 0 m e)).toInt ≤ (2147483647#32).toInt := by
    rw [hk, show (2147483647#32).toInt = 2147483647 from rfl]; have := hn m e; omega
  have hmax : (Finset.univ : Finset (Fin 1024)).fold max ⊥ (fun l => x (ix2 m l)) = x (ix2 m e) := fold_max_eq _ _ (fun t => hle t) ⟨e, rfl⟩
  pointwise [k2_pay4, k2_pay2, neg_inf]
  rw [hmax]
  refine fold_minsi_eq _ _ _ hb (fun l => ?_) ⟨e, if_pos rfl⟩
  split
  · rename_i h
    rw [hk, hk]; exact_mod_cast hmin l h
  · exact hb

/-- A step of the second loop sets the candidates of the word it found to minus infinity and keeps the others. -/
theorem k2_pay5_at (x : FVec Ideal S128x1024 .f32) (n : IVec S1x128x1024 32) (m : Fin 128) (l : Fin 1024) :
    k2_pay5 (F := Ideal) n x (ix2 m l) = if n (ix3 0 m l) = k2_pay4 (F := Ideal) n x (ix2 m 0) then ⊥ else x (ix2 m l) := by
  pointwise [k2_pay5, k2_pay2, neg_inf]
  exact select_eq _ _ _ _

/-- Step `k` of the second loop stores the word it found at place `k` and keeps the other places. -/
theorem k2_pay6_at (k : Fin k2_t1_loop.trips) (x : FVec Ideal S128x1024 .f32) (n : IVec S1x128x1024 32) (o : IVec S128x32 32) (m : Fin 128) (j : Fin 32) :
    k2_pay6 (F := Ideal) n k x o (ix2 m j) = if j.val = k.val then k2_pay4 (F := Ideal) n x (ix2 m 0) else o (ix2 m j) := by
  have hk : k.val < 32 := k.isLt
  pointwise [k2_pay6]
  rw [select_eq, iv_eq]
  exact if_congr (ofNat_eq_iff (by omega) (by omega)) rfl rfl

/-! ## The two loops -/

/-- Row `m` of the segment maxima, by tile and segment of the tile. -/
def fam (x : S32x128x64.Idx → EReal) (m : Fin 128) (y : Fin 32 × Fin 64) : EReal := x (ix3 y.1 m y.2)

/-- Two segments of one key are one. -/
theorem skey_inj : Function.Injective skey := by
  rintro ⟨a, b⟩ ⟨c, d⟩ h
  have := b.isLt; have := d.isLt
  simp only [skey] at h
  exact Prod.ext (Fin.ext (by show a.val = c.val; omega)) (Fin.ext (by show b.val = d.val; omega))

/-- A segment's key is below 2048. -/
theorem skey_lt (y : Fin 32 × Fin 64) : skey y < 2048 := by
  have := y.1.isLt; have := y.2.isLt; unfold skey; omega

/-- What the first loop leaves. -/
def sel0 (x : Vec Ideal S32x128x64 .f32) : Vec Ideal S32x128x64 .f32 × IVec S128x32 32 :=
  Scf.fold (fun (k : Fin k0_t1_loop.trips) acc => (k0_pay8 (F := Ideal) acc.1, k0_pay9 (F := Ideal) k acc.1 acc.2)) (x, k0_pay6)

/-- Of the segment maxima of row `m`, word `k` of the result is the key of the segment of rank `k`. -/
theorem sel0_at (x : Vec Ideal S32x128x64 .f32) (m : Fin 128)
    (hx : ∀ e, KMath.rank (fam x m) skey e < 32 → fam x m e ≠ ⊥) (e : Fin 32 × Fin 64) (k : Fin 32)
    (he : KMath.rank (fam x m) skey e = k.val) : (sel0 x).2 (ix2 m k) = BitVec.ofNat 32 (skey e) := by
  refine ((foldl_inv (n := k0_t1_loop.trips) _ (x, k0_pay6)
    (fun r acc => (∀ y, fam acc.1 m y = KMath.masked (fam x m) skey r y)
      ∧ ∀ (k : Fin 32) e, k.val < r → KMath.rank (fam x m) skey e = k.val → acc.2 (ix2 m k) = BitVec.ofNat 32 (skey e)) ?_ ?_).2
    k e k.isLt he)
  · exact ⟨fun y => (KMath.masked_zero y).symm, fun k e h => absurd h (Nat.not_lt_zero _)⟩
  · rintro r ⟨z, o⟩ ⟨hz, ho⟩
    have hr : r.val < 32 := r.isLt
    obtain ⟨e, her⟩ := KMath.exists_rank (v := fam x m) skey_inj (r := r.val) (by simp; omega)
    obtain ⟨h1, h2, h3, h4⟩ := KMath.round (v := fam x m) skey_inj (hx e (by omega))
    rw [her] at h1 h2 h3 h4
    have h7 : k0_pay7 (F := Ideal) z (ix3 0 m 0) = BitVec.ofNat 32 (skey e) :=
      pay7_at z m e (fun t s => ((hz (t, s)).trans_le (h2 (t, s))).trans_eq ((hz e).trans h1).symm)
        (fun t s h => h3 (t, s) ((hz (t, s)).symm.trans (h.trans ((hz e).trans h1))))
    refine ⟨fun y => ?_, fun k e' hk he' => ?_⟩
    · refine ((pay8_at z y.1 m y.2).trans ?_).trans ((h4 y).trans (by rfl))
      rw [h7, pay5_at]
      refine if_congr ?_ rfl (hz y)
      have := skey_lt y; have := skey_lt e
      exact ofNat_eq_iff (a := skey y) (by omega) (by omega)
    · refine (pay9_at r z o m k).trans ?_
      by_cases hkr : k.val = r.val
      · rw [if_pos hkr, h7, KMath.rank_inj (v := fam x m) skey_inj (her.trans (hkr.symm.trans he'.symm))]
      · rw [if_neg hkr]
        exact ho k e' (by omega) he'

/-- Row `m` of the candidates. -/
def cfam (x : S1x128x1024.Idx → EReal) (m : Fin 128) (l : Fin 1024) : EReal := x (ix3 0 m l)

/-- The candidates' numbers. -/
def ckey (n : S1x128x1024.Idx → BitVec 32) (m : Fin 128) (l : Fin 1024) : ℕ := (n (ix3 0 m l)).toNat

/-- The candidates' block without its unit axis. -/
theorem k2_pay1_at (x : Vec Ideal S1x128x1024 .f32) (m : Fin 128) (l : Fin 1024) : k2_pay1 (F := Ideal) x (ix2 m l) = x (ix3 0 m l) := by
  pointwise [k2_pay1]

/-- What the second loop leaves. -/
def sel2 (x : Vec Ideal S1x128x1024 .f32) (n : Vec Ideal S1x128x1024 .i32) : FVec Ideal S128x1024 .f32 × IVec S128x32 32 :=
  Scf.fold (fun (k : Fin k2_t1_loop.trips) acc => (k2_pay5 (F := Ideal) n acc.1, k2_pay6 (F := Ideal) n k acc.1 acc.2))
    (k2_pay1 (F := Ideal) x, k2_pay3)

set_option maxRecDepth 8192 in
/-- Of the candidates of row `m`, word `k` of the result is the number of the candidate of rank `k`. -/
theorem sel2_at (x : Vec Ideal S1x128x1024 .f32) (n : Vec Ideal S1x128x1024 .i32) (hn : ∀ m l, ckey n m l < 2 ^ 31) (m : Fin 128)
    (hinj : Function.Injective (ckey n m))
    (hx : ∀ e, KMath.rank (cfam x m) (ckey n m) e < 32 → cfam x m e ≠ ⊥) (e : Fin 1024) (k : Fin 32)
    (he : KMath.rank (cfam x m) (ckey n m) e = k.val) : (sel2 x n).2 (ix2 m k) = n (ix3 0 m e) := by
  refine ((foldl_inv (n := k2_t1_loop.trips) _ (k2_pay1 (F := Ideal) x, k2_pay3)
    (fun r acc => (∀ l, acc.1 (ix2 m l) = KMath.masked (cfam x m) (ckey n m) r l)
      ∧ ∀ (k : Fin 32) e, k.val < r → KMath.rank (cfam x m) (ckey n m) e = k.val → acc.2 (ix2 m k) = n (ix3 0 m e)) ?_ ?_).2
    k e k.isLt he)
  · refine ⟨fun l => (k2_pay1_at x m l).trans (KMath.masked_zero (v := cfam x m) (n := ckey n m) l).symm, fun k e h => absurd h (Nat.not_lt_zero _)⟩
  · rintro r ⟨z, o⟩ ⟨hz, ho⟩
    have hr : r.val < 32 := r.isLt
    obtain ⟨e, her⟩ := KMath.exists_rank (v := cfam x m) hinj (r := r.val) (by rw [Fintype.card_fin]; omega)
    obtain ⟨h1, h2, h3, h4⟩ := KMath.round (v := cfam x m) hinj (hx e (by omega))
    rw [her] at h1 h2 h3 h4
    have h7 : k2_pay4 (F := Ideal) n z (ix2 m 0) = n (ix3 0 m e) :=
      k2_pay4_at z n hn m e (fun l => ((hz l).trans_le (h2 l)).trans_eq ((hz e).trans h1).symm)
        (fun l h => h3 l ((hz l).symm.trans (h.trans ((hz e).trans h1))))
    refine ⟨fun l => ?_, fun k e' hk he' => ?_⟩
    · dsimp only
      have h5 := k2_pay5_at z n m l
      rw [h7] at h5
      rw [← h4 l]
      refine h5.trans ?_
      exact if_congr ⟨fun h => congrArg BitVec.toNat h, fun h => BitVec.eq_of_toNat_eq h⟩ rfl (hz l)
    · refine (k2_pay6_at r z n o m k).trans ?_
      by_cases hkr : k.val = r.val
      · rw [if_pos hkr, h7, KMath.rank_inj (v := cfam x m) hinj (her.trans (hkr.symm.trans he'.symm))]
      · rw [if_neg hkr]
        exact ho k e' (by omega) he'

end Cert.Proof.KSc
-- ==== Proof.KLogits.lean ====
/-
  THE FIRST TENSORCORE CALL of the whole kernel, as a computation: the tile of logits one grid point computes, entry by
  entry, and its segment maxima.
-/
module

public import proofs.«01_k».proof.Proof.KSetup
public import proofs.«01_k».proof.Proof.KSelect

@[expose] public section

noncomputable section

namespace Cert.Proof.KSc

open Cert.KernelIdeal Cert.KernelIdeal.Gen

open Idealize.ShloMosaic

/-- The product of token `m`'s embedding with the two vectors of node `l`, one after the other. -/
def score (E : S128x64.Idx → EReal) (m : Fin 128) (x y : Fin 32 → EReal) : EReal :=
  (∑ k : Fin 32, E (ix2 m ⟨k.val, by omega⟩) * x k) + ∑ k : Fin 32, E (ix2 m ⟨32 + k.val, by omega⟩) * y k

/-- A tile of logits at token `m` and row `l`: the score of the row's node, and minus infinity past the last node. -/
theorem pay1_at (i : grid0.Coords) (X Y : Vec Ideal S1x2048x32 .f32) (E : Vec Ideal S128x64 .f32) (m : Fin 128) (l : Fin 2048) :
    k0_pay1 (F := Ideal) i X Y E (ix2 m l)
      = if 2048 * (i 1).val + l.val < 50000 then score E m (fun k => X (ix3 0 l k)) (fun k => Y (ix3 0 l k)) else ⊥ := by
  pointwise [k0_pay1, neg_inf]
  have h1 : (i 1).val < 25 := (i 1).isLt
  have hw : (IntOp.addi (Scalar.muli (BitVec.ofNat 32 (i 1).val) 2048#32) (BitVec.ofNat 32 l.val)).toInt = ((2048 * (i 1).val + l.val : ℕ) : ℤ) := by
    have hn : (IntOp.addi (Scalar.muli (BitVec.ofNat 32 (i 1).val) 2048#32) (BitVec.ofNat 32 l.val)).toNat = 2048 * (i 1).val + l.val := by
      show ((BitVec.ofNat 32 (i 1).val * 2048#32) + BitVec.ofNat 32 l.val).toNat = _
      simp only [BitVec.toNat_add, BitVec.toNat_mul, BitVec.toNat_ofNat]
      have := l.isLt
      omega
    rw [BitVec.toInt_eq_toNat_of_lt (by rw [hn]; have := l.isLt; omega), hn]
  unfold Scalar.select IntOp.cmpi
  show (if BitVec.ofBool (BitVec.slt _ _) = 1#1 then _ else _) = _
  rw [BitVec.slt, hw, show (50000#32).toInt = 50000 from rfl]
  by_cases h : 2048 * (i 1).val + l.val < 50000
  · rw [if_pos h, if_pos (by rw [decide_eq_true (by exact_mod_cast h)]; rfl)]; rfl
  · rw [if_neg h, if_neg (by rw [decide_eq_false (by exact_mod_cast h)]; decide)]

/-- The tile as it is stored has the same elements. -/
theorem pay2_at (i : grid0.Coords) (X Y : Vec Ideal S1x2048x32 .f32) (E : Vec Ideal S128x64 .f32) (m : Fin 128) (l : Fin 2048) :
    k0_pay2 (F := Ideal) i X Y E (ix4 0 0 m l) = k0_pay1 (F := Ideal) i X Y E (ix2 m l) := by
  pointwise [k0_pay2]

/-- The segment maxima start at minus infinity. -/
theorem pay3_at (y : S32x128x64.Idx) : k0_pay3 (F := Ideal) y = ⊥ := by
  pointwise [k0_pay3, neg_inf]

/-- The tile's segment maxima: the greatest of each 32 consecutive logits. -/
theorem pay4_at (i : grid0.Coords) (X Y : Vec Ideal S1x2048x32 .f32) (E : Vec Ideal S128x64 .f32) (m : Fin 128) (s : Fin 64) :
    k0_pay4 (F := Ideal) i X Y E (ix3 0 m s)
      = (Finset.univ : Finset (Fin 32)).fold max ⊥ fun q => k0_pay1 (F := Ideal) i X Y E (ix2 m ⟨s.val * 32 + q.val, by have := s.isLt; have := q.isLt; omega⟩) := by
  pointwise [k0_pay4, neg_inf]

/-- The chosen segments as they are stored are the same words. -/
theorem pay10_at (w : IVec S128x32 32) (m : Fin 128) (k : Fin 32) : k0_pay10 w (ix3 0 m k) = w (ix2 m k) := by
  pointwise [k0_pay10]

/-- A tile's maxima are stored at the tile's own place. -/
theorem off1_eq (i : grid0.Coords) : k0_off1 i = ![(i 1).val, 0, 0] := by
  unfold k0_off1
  have : (i 1).val < 25 := (i 1).isLt
  show ![(BitVec.ofNat 32 (i 1).val).toNat, 0, 0] = _
  rw [BitVec.toNat_ofNat, Nat.mod_eq_of_lt (by omega)]

/-- The test for the first tile of a batch holds there only. -/
theorem first_iff (i : grid0.Coords) :
    Scalar.cmpi .ne (Scalar.extui (Scalar.cmpi .eq (BitVec.ofNat 32 (i 1).val) 0#32) : BitVec 32) 0#32 = 1#1 ↔ (i 1).val = 0 :=
  (by decide : ∀ n : Fin 25, Scalar.cmpi .ne (Scalar.extui (Scalar.cmpi .eq (BitVec.ofNat 32 n.val) 0#32) : BitVec 32) 0#32 = 1#1 ↔ n.val = 0) (i 1)

/-- The test for the last tile of a batch holds there only. -/
theorem last_iff (i : grid0.Coords) : k0_cond2 i = 1#1 ↔ (i 1).val = 24 :=
  (by decide : ∀ n : Fin 25, Scalar.cmpi .ne (Scalar.extui (Scalar.cmpi .eq (BitVec.ofNat 32 n.val) 24#32) : BitVec 32) 0#32 = 1#1 ↔ n.val = 24) (i 1)

end Cert.Proof.KSc

end
-- ==== Proof.KRegion0.lean ====
/-
  THE FIRST TENSORCORE CALL of the whole kernel (`cc0__tc1_body`, pipeline 0 of @main), on the idealization: its body run at
  each kind of grid point, its proof data, and the region between two valuations of the arrays.
-/
module

public import proofs.«01_k».proof.Proof.KSetup
public import proofs.«01_k».proof.Proof.KLogits
public import Idealize.ShloMosaic.Lib.Pipeline.ValueKit
public import Idealize.ShloMosaic.Lib.WritesUnit
public import Idealize.ShloMosaic.Lib.VecWindow

@[expose] public section

noncomputable section

namespace Cert.Proof.KSc.R0

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig (HIx 2) (Elt Ideal) ℕ UU ℕ

section Body

variable (c : Dev nD) (i : grid0.Coords) (M0 : Memref sig .tc .vmem S1x2048x32 .f32) (h0 : M0.IsWhole) (M1 : Memref sig .tc .vmem S1x2048x32 .f32) (h1 : M1.IsWhole)
  (M2 : Memref sig .tc .vmem S128x64 .f32) (h2 : M2.IsWhole) (M3 : Memref sig .tc .vmem S1x1x128x2048 .f32) (h3 : M3.IsWhole)
  (M4 : Memref sig .tc .vmem S1x128x32 .i32) (h4 : M4.IsWhole) (M5 : Memref sig .tc .vmem S32x128x64 .f32) (h5 : M5.IsWhole)
  (X0 X1 : S1x2048x32.Idx → Elt Ideal .f32) (X2 : S128x64.Idx → Elt Ideal .f32) (X3 : S1x1x128x2048.Idx → Elt Ideal .f32)
  (X4 : S1x128x32.Idx → Elt Ideal .i32) (X5 : S32x128x64.Idx → Elt Ideal .f32)

/-- The segment maxima with the row of this point's tile replaced. -/
def put (g : S32x128x64.Idx → Elt Ideal .f32) (p : S1x128x64.Idx → Elt Ideal .f32) : S32x128x64.Idx → Elt Ideal .f32 :=
  fun y => if (y 0).val = (i 1).val then p (ix3 0 (y 1) (y 2)) else g y

/-- The selection loop issues nothing: it returns its fold. -/
theorem loop_eq (k0_h2 : k0_cond2 i = 1#1) (v : Vec Ideal S32x128x64 .f32) :
    Scf.Loop.for k0_t1_loop (k0_t1_ok i k0_h2) (v, k0_pay6) (k0_t1_body i M0 h0 M1 h1 M2 h2 M3 h3 M4 h4 M5 h5 k0_h2) = .ret (sel0 v) :=
  Scf.for_pure _ _ _ _ _ _ _ fun k acc => by obtain ⟨a, b⟩ := acc; rfl

/-- Writing one tile's maxima into the scratch buffer replaces that tile's and no other. -/
theorem row_put (f : M5.view.ty.Contents (Elt Ideal)) (p : S1x128x64.Idx → Elt Ideal .f32) (L : List (View.Piece (Elt Ideal) S32x128x64 .f32)) :
    M5.view.read (Elt Ideal) (M5.view.writes (Elt Ideal) f (⟨Rect.unit (k0_off1 i) S1x128x64.size (k0_off1_inb i), p⟩ :: L))
      = put i (M5.view.read (Elt Ideal) (M5.view.writes (Elt Ideal) f L)) p := by
  funext y
  unfold put
  split
  · rename_i h
    refine View.read_writes_cons_unit_of_mem _ _ _ _ _ y (ix3 0 (y 1) (y 2)) (off1_eq i) fun a => ?_
    fin_cases a
    · show (y 0).val = (i 1).val + 0; omega
    · show (y 1).val = 0 + (y 1).val; omega
    · show (y 2).val = 0 + (y 2).val; omega
  · rename_i h
    refine View.read_writes_cons_unit_of_not_mem _ _ _ _ _ y (off1_eq i) 0 ?_
    show (y 0).val < (i 1).val ∨ (i 1).val + 1 ≤ (y 0).val
    omega

set_option maxHeartbeats 2000000 in
/-- The first point of a batch: the segment maxima are cleared and the first row is set. -/
theorem body_first (hi : (i 1).val = 0) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ (iprop(owns (c : Thread nD τ) M0 fullShare X0 ∗ owns (c : Thread nD τ) M1 fullShare X1 ∗ owns (c : Thread nD τ) M2 fullShare X2
          ∗ owns (c : Thread nD τ) M3 fullShare (k0_pay2 i X0 X1 X2) ∗ owns (c : Thread nD τ) M4 fullShare X4
          ∗ owns (c : Thread nD τ) M5 fullShare (put i (k0_pay3 (F := Ideal)) (k0_pay4 i X0 X1 X2))) -∗ Q ⟨⟩))
      ⊢ wp frame (wpE (defs₀ (F := Ideal)) 𝒱₀ c none) Set.univ (cc0__tc1_body i M0 h0 M1 h1 M2 h2 M3 h3 M4 h4 M5 h5) Q := by
  simp only [cc0__tc1_body_eq_skeleton]; unfold cc0__tc1_body_skel
  simp only [dif_pos ((first_iff i).2 hi), dif_neg (fun h => absurd ((last_iff i).1 h) (by omega))]
  unfold owns
  rw [h0.set_eq_univ, h1.set_eq_univ, h2.set_eq_univ, h3.set_eq_univ, h4.set_eq_univ, h5.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec!
  sl_step
  iapply Hk
  have e0 := (View.readAt_eq_ld M0.view f0 (Rect.unit ![0, 0, 0] S1x2048x32.size inb_S1x2048x32_S1x2048x32_0_0_0)).trans (View.ld_unit_lit _ _ (by decide))
  have e1 := (View.readAt_eq_ld M1.view f1 (Rect.unit ![0, 0, 0] S1x2048x32.size inb_S1x2048x32_S1x2048x32_0_0_0)).trans (View.ld_unit_lit _ _ (by decide))
  have e2 := (View.readAt_eq_ld M2.view f2 (Rect.unit ![0, 0] S128x64.size inb_S128x64_S128x64_0_0)).trans (View.ld_unit_lit _ _ (by decide))
  rw [hf0] at e0; rw [hf1] at e1; rw [hf2] at e2
  have e3 := congr (congr (congrArg (k0_pay2 i) e0) e1) e2
  have e4 := congr (congr (congrArg (k0_pay4 i) e0) e1) e2
  have e5 := (row_put i M5 f5 (k0_pay4 i X0 X1 X2) [⟨Rect.unit ![0, 0, 0] S32x128x64.size inb_S32x128x64_S32x128x64_0_0_0, k0_pay3 (F := Ideal)⟩]).trans (congrArg (fun g => put i g (k0_pay4 i X0 X1 X2)) (View.read_writes_full _ _ _ _ _))
  rw [← e4] at e5
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro
    refine (View.read_writes_eq_canon _ _ _ fun y => ⟨_, List.mem_singleton_self _, View.mem_set_unit_zero (View.eq_zero_of_forall (by decide)) inb_S1x1x128x2048_S1x1x128x2048_0_0_0_0 y⟩).trans ?_
    refine (View.canon_unit_zero (View.eq_zero_of_forall (by decide)) _ _).trans ?_
    exact e3
  isplitl [H4]
  · iexists _; isplitr; swap; · iexact H4
    ipureintro
    exact hf4
  iexists _; isplitr; swap; · iexact H5
  ipureintro
  exact e5.trans (congrArg (put i (k0_pay3 (F := Ideal))) e4)

set_option maxHeartbeats 2000000 in
/-- A point inside a batch: one row of the segment maxima is set. -/
theorem body_mid (hi : (i 1).val ≠ 0) (hi' : (i 1).val ≠ 24) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ (iprop(owns (c : Thread nD τ) M0 fullShare X0 ∗ owns (c : Thread nD τ) M1 fullShare X1 ∗ owns (c : Thread nD τ) M2 fullShare X2
          ∗ owns (c : Thread nD τ) M3 fullShare (k0_pay2 i X0 X1 X2) ∗ owns (c : Thread nD τ) M4 fullShare X4
          ∗ owns (c : Thread nD τ) M5 fullShare (put i X5 (k0_pay4 i X0 X1 X2))) -∗ Q ⟨⟩))
      ⊢ wp frame (wpE (defs₀ (F := Ideal)) 𝒱₀ c none) Set.univ (cc0__tc1_body i M0 h0 M1 h1 M2 h2 M3 h3 M4 h4 M5 h5) Q := by
  simp only [cc0__tc1_body_eq_skeleton]; unfold cc0__tc1_body_skel
  simp only [dif_neg (fun h => hi ((first_iff i).1 h)), dif_neg (fun h => hi' ((last_iff i).1 h))]
  unfold owns
  rw [h0.set_eq_univ, h1.set_eq_univ, h2.set_eq_univ, h3.set_eq_univ, h4.set_eq_univ, h5.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec!
  sl_step
  iapply Hk
  have e0 := (View.readAt_eq_ld M0.view f0 (Rect.unit ![0, 0, 0] S1x2048x32.size inb_S1x2048x32_S1x2048x32_0_0_0)).trans (View.ld_unit_lit _ _ (by decide))
  have e1 := (View.readAt_eq_ld M1.view f1 (Rect.unit ![0, 0, 0] S1x2048x32.size inb_S1x2048x32_S1x2048x32_0_0_0)).trans (View.ld_unit_lit _ _ (by decide))
  have e2 := (View.readAt_eq_ld M2.view f2 (Rect.unit ![0, 0] S128x64.size inb_S128x64_S128x64_0_0)).trans (View.ld_unit_lit _ _ (by decide))
  rw [hf0] at e0; rw [hf1] at e1; rw [hf2] at e2
  have e3 := congr (congr (congrArg (k0_pay2 i) e0) e1) e2
  have e4 := congr (congr (congrArg (k0_pay4 i) e0) e1) e2
  have e5 := (row_put i M5 f5 (k0_pay4 i X0 X1 X2) []).trans (congrArg (fun g => put i g (k0_pay4 i X0 X1 X2)) hf5)
  rw [← e4] at e5
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro
    refine (View.read_writes_eq_canon _ _ _ fun y => ⟨_, List.mem_singleton_self _, View.mem_set_unit_zero (View.eq_zero_of_forall (by decide)) inb_S1x1x128x2048_S1x1x128x2048_0_0_0_0 y⟩).trans ?_
    refine (View.canon_unit_zero (View.eq_zero_of_forall (by decide)) _ _).trans ?_
    exact e3
  isplitl [H4]
  · iexists _; isplitr; swap; · iexact H4
    ipureintro
    exact hf4
  iexists _; isplitr; swap; · iexact H5
  ipureintro
  exact e5.trans (congrArg (put i X5) e4)

set_option maxHeartbeats 2000000 in
/-- The last point of a batch: the last row is set and the segments are selected. -/
theorem body_last (hi : (i 1).val = 24) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ (iprop(owns (c : Thread nD τ) M0 fullShare X0 ∗ owns (c : Thread nD τ) M1 fullShare X1 ∗ owns (c : Thread nD τ) M2 fullShare X2
          ∗ owns (c : Thread nD τ) M3 fullShare (k0_pay2 i X0 X1 X2) ∗ owns (c : Thread nD τ) M4 fullShare (k0_pay10 (sel0 (put i X5 (k0_pay4 i X0 X1 X2))).2)
          ∗ owns (c : Thread nD τ) M5 fullShare (put i X5 (k0_pay4 i X0 X1 X2))) -∗ Q ⟨⟩))
      ⊢ wp frame (wpE (defs₀ (F := Ideal)) 𝒱₀ c none) Set.univ (cc0__tc1_body i M0 h0 M1 h1 M2 h2 M3 h3 M4 h4 M5 h5) Q := by
  simp only [cc0__tc1_body_eq_skeleton]; unfold cc0__tc1_body_skel
  simp only [dif_neg (fun h => absurd ((first_iff i).1 h) (by omega)), dif_pos ((last_iff i).2 hi), loop_eq]
  unfold owns
  rw [h0.set_eq_univ, h1.set_eq_univ, h2.set_eq_univ, h3.set_eq_univ, h4.set_eq_univ, h5.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec!
  sl_step
  iapply Hk
  have e0 := (View.readAt_eq_ld M0.view f0 (Rect.unit ![0, 0, 0] S1x2048x32.size inb_S1x2048x32_S1x2048x32_0_0_0)).trans (View.ld_unit_lit _ _ (by decide))
  have e1 := (View.readAt_eq_ld M1.view f1 (Rect.unit ![0, 0, 0] S1x2048x32.size inb_S1x2048x32_S1x2048x32_0_0_0)).trans (View.ld_unit_lit _ _ (by decide))
  have e2 := (View.readAt_eq_ld M2.view f2 (Rect.unit ![0, 0] S128x64.size inb_S128x64_S128x64_0_0)).trans (View.ld_unit_lit _ _ (by decide))
  rw [hf0] at e0; rw [hf1] at e1; rw [hf2] at e2
  have e3 := congr (congr (congrArg (k0_pay2 i) e0) e1) e2
  have e4 := congr (congr (congrArg (k0_pay4 i) e0) e1) e2
  have e5 := (row_put i M5 f5 (k0_pay4 i X0 X1 X2) []).trans (congrArg (fun g => put i g (k0_pay4 i X0 X1 X2)) hf5)
  rw [← e4] at e5
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro
    refine (View.read_writes_eq_canon _ _ _ fun y => ⟨_, List.mem_singleton_self _, View.mem_set_unit_zero (View.eq_zero_of_forall (by decide)) inb_S1x1x128x2048_S1x1x128x2048_0_0_0_0 y⟩).trans ?_
    refine (View.canon_unit_zero (View.eq_zero_of_forall (by decide)) _ _).trans ?_
    exact e3
  isplitl [H4]
  · iexists _; isplitr; swap; · iexact H4
    ipureintro
    refine (View.read_writes_eq_canon _ _ _ fun y => ⟨_, List.mem_singleton_self _, View.mem_set_unit_zero (View.eq_zero_of_forall (by decide)) inb_S1x128x32_S1x128x32_0_0_0 y⟩).trans ?_
    refine (View.canon_unit_zero (View.eq_zero_of_forall (by decide)) _ _).trans ?_
    exact congrArg (fun a => k0_pay10 (sel0 a).2) (((View.readAt_eq_ld M5.view _ (Rect.unit ![0, 0, 0] S32x128x64.size inb_S32x128x64_S32x128x64_0_0_0)).trans (View.ld_unit_lit _ _ (by decide))).trans (e5.trans (congrArg (put i X5) e4)))
  iexists _; isplitr; swap; · iexact H5
  ipureintro
  exact e5.trans (congrArg (put i X5) e4)

end Body

/-! ## What the tiles hold -/

variable (V : (c : Dev nD) → (b : Ref sig .tc) → Buf (Elt Ideal) ((c : Thread nD τ).loc b))

/-- The logit of a batch at a token and a node number; past the nodes, −∞. -/
def wgt (c : Dev nD) (b : Fin 4) (m : Fin 128) (n : ℕ) : EReal :=
  if h : n < 50000 then
    score (V c main_arg2) m (fun k => V c main_arg0 (ix3 b ⟨n, h⟩ k)) (fun k => V c main_arg1 (ix3 b ⟨n, h⟩ k))
  else ⊥

/-- The largest of the 32 logits of a segment: segment `s` of tile `j`. -/
def top (c : Dev nD) (b : Fin 4) (m : Fin 128) (j s : ℕ) : EReal :=
  (Finset.univ : Finset (Fin 32)).fold max ⊥ fun q => wgt V c b m (2048 * j + (s * 32 + q.val))

/-- The first `n` rows of a batch's segment maxima, the others −∞. -/
def rows (c : Dev nD) (b : Fin 4) (n : ℕ) : S32x128x64.Idx → Elt Ideal .f32 :=
  fun y => if (y 0).val < n then top V c b (y 1) (y 0).val (y 2).val else (⊥ : EReal)

/-- A point's tile of logits. -/
def tile (c : Dev nD) (i : grid0.Coords) : S1x1x128x2048.Idx → Elt Ideal .f32 :=
  fun y => wgt V c (i 0) (y 2) (2048 * (i 1).val + (y 3).val)

section Values

variable (c : Dev nD) (i : grid0.Coords) (X0 X1 : S1x2048x32.Idx → Elt Ideal .f32)
  (hX0 : ∀ (l : Fin 2048) (k : Fin 32) (h : 2048 * (i 1).val + l.val < 50000), X0 (ix3 0 l k) = V c main_arg0 (ix3 (i 0) ⟨_, h⟩ k))
  (hX1 : ∀ (l : Fin 2048) (k : Fin 32) (h : 2048 * (i 1).val + l.val < 50000), X1 (ix3 0 l k) = V c main_arg1 (ix3 (i 0) ⟨_, h⟩ k))

include hX0 hX1

/-- The tile that a point computes holds the weights of the arrays it is given. -/
theorem pay1_wgt (m : Fin 128) (l : Fin 2048) : k0_pay1 (F := Ideal) i X0 X1 (V c main_arg2) (ix2 m l) = wgt V c (i 0) m (2048 * (i 1).val + l.val) := by
  rw [pay1_at]
  unfold wgt
  by_cases h : 2048 * (i 1).val + l.val < 50000
  · rw [if_pos h, dif_pos h]
    exact congr (congrArg (score (V c main_arg2) m) (funext fun k => hX0 l k h)) (funext fun k => hX1 l k h)
  · rw [if_neg h, dif_neg h]

/-- The tile that a point stores is its tile of the logits. -/
theorem pay2_tile : k0_pay2 (F := Ideal) i X0 X1 (V c main_arg2) = tile V c i := by
  funext y
  have hy : y = ix4 0 0 (y 2) (y 3) := by blk_ext
  rw [hy]
  exact (pay2_at i X0 X1 (V c main_arg2) (y 2) (y 3)).trans (pay1_wgt V c i X0 X1 hX0 hX1 (y 2) (y 3))

/-- Adding a tile's maxima to those of the tiles before it gives those of one tile more. -/
theorem put_rows : put i (rows V c (i 0) (i 1).val) (k0_pay4 (F := Ideal) i X0 X1 (V c main_arg2)) = rows V c (i 0) ((i 1).val + 1) := by
  funext y
  unfold put rows
  by_cases h : (y 0).val = (i 1).val
  · rw [if_pos h, if_pos (by omega)]
    refine (pay4_at i X0 X1 (V c main_arg2) (y 1) (y 2)).trans ?_
    unfold top
    rw [h]
    exact congrArg (fun g => (Finset.univ : Finset (Fin 32)).fold max ⊥ g) (funext fun q => pay1_wgt V c i X0 X1 hX0 hX1 _ _)
  · rw [if_neg h]
    by_cases h' : (y 0).val < (i 1).val
    · rw [if_pos h', if_pos (by omega)]
    · rw [if_neg h', if_neg (by omega)]

end Values

/-- Before the first tile no maximum is set. -/
theorem pay3_rows (c : Dev nD) (b : Fin 4) : k0_pay3 (F := Ideal) = rows V c b 0 := by
  funext y; rw [pay3_at]; unfold rows; rw [if_neg (by omega)]

/-! ## The proof data, at an entry valuation -/

/-- The block of the first array that a point is given. -/
abbrev blk0 (c : Dev nD) (t : Fin cfg0.N) := ((cfg0.win 0).blk t).view.read (Elt Ideal) (V c main_arg0)
/-- The block of the second array that a point is given. -/
abbrev blk1 (c : Dev nD) (t : Fin cfg0.N) := ((cfg0.win 1).blk t).view.read (Elt Ideal) (V c main_arg1)

/-- The buffers of the other TensorCore call, which this one leaves alone. -/
abbrev other (c : Dev nD) : sProp 𝕄 :=
  iprop((∃ f : Buf (Elt Ideal) ((c : Thread nD τ).loc cc2_stg0_0), ((c : Thread nD τ).loc cc2_stg0_0) ↦{fullShare} f) ∗ (∃ f : Buf (Elt Ideal) ((c : Thread nD τ).loc cc2_stg0_1), ((c : Thread nD τ).loc cc2_stg0_1) ↦{fullShare} f) ∗ (∃ f : Buf (Elt Ideal) ((c : Thread nD τ).loc cc2_stg1_0), ((c : Thread nD τ).loc cc2_stg1_0) ↦{fullShare} f) ∗ (∃ f : Buf (Elt Ideal) ((c : Thread nD τ).loc cc2_stg1_1), ((c : Thread nD τ).loc cc2_stg1_1) ↦{fullShare} f) ∗ (∃ f : Buf (Elt Ideal) ((c : Thread nD τ).loc cc2_stg2_0), ((c : Thread nD τ).loc cc2_stg2_0) ↦{fullShare} f) ∗ (∃ f : Buf (Elt Ideal) ((c : Thread nD τ).loc cc2_stg2_1), ((c : Thread nD τ).loc cc2_stg2_1) ↦{fullShare} f))

/-- Between the points: inside a batch the segment maxima are those of the tiles done. -/
def inv (c : Dev nD) (k : ℕ) : sProp 𝕄 :=
  iprop((∃ X : S32x128x64.Idx → Elt Ideal .f32, ⌜k % 25 ≠ 0 → ∀ b : Fin 4, b.val = k / 25 → X = rows V c b (k % 25)⌝
    ∗ owns (c : Thread nD τ) (Memref.whole cc0_scratch0) fullShare X) ∗ other c)

/-- The pipeline's proof data from the entry valuation `V`. -/
def dat (c : Dev nD) : Dat τ (Elt Ideal) (HIx 2) ℕ UU ℕ cfg0 c where
  A w := V c (Pipeline.arrRef spec0 w)
  after w t := match w with
    | ⟨0, _⟩ => win0_0.fill (grid0.coords t) (fun _ => (0 : EReal)) (blk0 V c t)
    | ⟨1, _⟩ => win0_1.fill (grid0.coords t) (fun _ => (0 : EReal)) (blk1 V c t)
    | ⟨2, _⟩ => V c main_arg2
    | ⟨3, _⟩ => tile V c (grid0.coords t)
    | ⟨4, _⟩ => k0_pay10 (sel0 (rows V c (grid0.coords t 0) 25)).2
  Φ k := inv V c k.val
  q _ := fullShare
  owed _ := (K (F := Ideal)).Otc c 0
  recorded _ := noted (F := Ideal) c 0

/-- Proof data for the call that is not the one at hand; nothing depends on it. -/
def junkDat {cfg : Cfg sig Λ₀} (c : Dev nD) : Dat τ (Elt Ideal) (HIx 2) ℕ UU ℕ cfg c where
  A _ := fun _ => Classical.arbitrary _
  after _ _ := fun _ => Classical.arbitrary _
  Φ _ := BI.emp
  q _ := fullShare
  owed _ := 0

/-- The proof data of both TensorCore calls, as the first one needs them. -/
def pdats : (p : Fin 2) → (c : Dev nD) → Dat τ (Elt Ideal) (HIx 2) ℕ UU ℕ (Pipeline.pin (pcfgs (F := Ideal)) adm p) c
  | ⟨0, _⟩ => fun c => dat V c
  | ⟨1, _⟩ => fun c => junkDat c

/-- A point's batch. -/
theorem coords0 : ∀ t : Fin cfg0.N, (grid0.coords t 0).val = t.val / 25 := (by decide +kernel : ∀ t : Fin grid0.N, (grid0.coords t 0).val = t.val / 25)
/-- A point's tile. -/
theorem coords1 : ∀ t : Fin cfg0.N, (grid0.coords t 1).val = t.val % 25 := (by decide +kernel : ∀ t : Fin grid0.N, (grid0.coords t 1).val = t.val % 25)
/-- The place of a point's block in the first array. -/
theorem e0 : ∀ t : Fin cfg0.N, win0_0.index t = ![(grid0.coords t 0).val, (grid0.coords t 1).val, 0] := (by decide +kernel : ∀ t : Fin grid0.N, win0_0.index t = ![(grid0.coords t 0).val, (grid0.coords t 1).val, 0])
/-- The place of a point's block in the second array. -/
theorem e1 : ∀ t : Fin cfg0.N, win0_1.index t = ![(grid0.coords t 0).val, (grid0.coords t 1).val, 0] := (by decide +kernel : ∀ t : Fin grid0.N, win0_1.index t = ![(grid0.coords t 0).val, (grid0.coords t 1).val, 0])
/-- Every point is given the embedding whole. -/
theorem e2 : ∀ t : Fin cfg0.N, win0_2.index t = ![0, 0] := (by decide +kernel : ∀ t : Fin grid0.N, win0_2.index t = ![0, 0])
/-- The place of a point's block in the logits. -/
theorem e3 : ∀ t : Fin cfg0.N, win0_3.index t = ![(grid0.coords t 0).val, (grid0.coords t 1).val, 0, 0] := (by decide +kernel : ∀ t : Fin grid0.N, win0_3.index t = ![(grid0.coords t 0).val, (grid0.coords t 1).val, 0, 0])
/-- The place of a point's block in the chosen segments. -/
theorem e4 : ∀ t : Fin cfg0.N, win0_4.index t = ![(grid0.coords t 0).val, 0, 0] := (by decide +kernel : ∀ t : Fin grid0.N, win0_4.index t = ![(grid0.coords t 0).val, 0, 0])

/-- What the first window holds when a point starts. -/
theorem before_0 (c : Dev nD) (t : Fin cfg0.N) (d : S1x2048x32.Idx → Elt Ideal .f32) : (dat V c).before 0 t d = win0_0.fill (grid0.coords t) d (blk0 V c t) := by
  unfold Dat.before; rw [if_pos (fetch0_0 t)]; rfl
/-- What the second window holds when a point starts. -/
theorem before_1 (c : Dev nD) (t : Fin cfg0.N) (d : S1x2048x32.Idx → Elt Ideal .f32) : (dat V c).before 1 t d = win0_1.fill (grid0.coords t) d (blk1 V c t) := by
  unfold Dat.before; rw [if_pos (fetch0_1 t)]; rfl
/-- The embedding's block is the embedding. -/
theorem blk2_eq (c : Dev nD) (t : Fin cfg0.N) : (dat V c).blockOf 2 t = V c main_arg2 := by
  funext y
  have he : ((cfg0.win 2).blk t).view.emb y = ix2 (y 0) (y 1) := by blk_ext [e2]
  exact (congrArg (V c main_arg2) he).trans (congrArg (V c main_arg2) (by blk_ext : ix2 (y 0) (y 1) = y))
/-- What the third window holds when a point starts. -/
theorem before_2 (c : Dev nD) (t : Fin cfg0.N) (d : S128x64.Idx → Elt Ideal .f32) : (dat V c).before 2 t d = V c main_arg2 :=
  ((dat V c).before_in_eq_fetched 2 rfl (fun _ => rfl) (fun _ _ _ => rfl) (fun t => (blk2_eq V c t).symm) t d).trans (blk2_eq V c t)

/-- The rows of a point's block inside the array. -/
theorem xs0 : ∀ t : Fin cfg0.N, win0_0.xsize (grid0.coords t) = ![1, min 2048 (50000 - 2048 * (t.val % 25)), 32] := (by decide +kernel : ∀ t : Fin grid0.N, win0_0.xsize (grid0.coords t) = ![1, min 2048 (50000 - 2048 * (t.val % 25)), 32])
/-- How much of a block is copied: the last tile's rows end with the array. -/
theorem xs1 : ∀ t : Fin cfg0.N, win0_1.xsize (grid0.coords t) = ![1, min 2048 (50000 - 2048 * (t.val % 25)), 32] := (by decide +kernel : ∀ t : Fin grid0.N, win0_1.xsize (grid0.coords t) = ![1, min 2048 (50000 - 2048 * (t.val % 25)), 32])

/-- The first window holds the first array's row, where there is one. -/
theorem fill_0 (c : Dev nD) (t : Fin cfg0.N) (d : S1x2048x32.Idx → Elt Ideal .f32) (l : Fin 2048) (k : Fin 32)
    (h : 2048 * (grid0.coords t 1).val + l.val < 50000) :
    win0_0.fill (grid0.coords t) d (blk0 V c t) (ix3 0 l k) = V c main_arg0 (ix3 (grid0.coords t 0) ⟨_, h⟩ k) := by
  have hm : win0_0.moved (grid0.coords t) (ix3 0 l k) = true := by
    rw [win0_0.moved_iff, xs0]
    have := coords1 t
    intro a
    fin_cases a
    · show (0 : ℕ) < 1; omega
    · show l.val < min 2048 (50000 - 2048 * (t.val % 25)); omega
    · show k.val < 32; omega
  unfold Window.fill
  rw [dif_pos hm]
  refine congrArg (V c main_arg0) ?_
  blk_ext [e0]

/-- The second window holds the second array's row, where there is one. -/
theorem fill_1 (c : Dev nD) (t : Fin cfg0.N) (d : S1x2048x32.Idx → Elt Ideal .f32) (l : Fin 2048) (k : Fin 32)
    (h : 2048 * (grid0.coords t 1).val + l.val < 50000) :
    win0_1.fill (grid0.coords t) d (blk1 V c t) (ix3 0 l k) = V c main_arg1 (ix3 (grid0.coords t 0) ⟨_, h⟩ k) := by
  have hm : win0_1.moved (grid0.coords t) (ix3 0 l k) = true := by
    rw [win0_1.moved_iff, xs1]
    have := coords1 t
    intro a
    fin_cases a
    · show (0 : ℕ) < 1; omega
    · show l.val < min 2048 (50000 - 2048 * (t.val % 25)); omega
    · show k.val < 32; omega
  unfold Window.fill
  rw [dif_pos hm]
  refine congrArg (V c main_arg1) ?_
  blk_ext [e1]

/-- The rows done before a point with its own row put in: the rows done after it. -/
theorem put_step (c : Dev nD) (t : Fin cfg0.N) (d0 d1 : S1x2048x32.Idx → Elt Ideal .f32) :
    put (grid0.coords t) (rows V c (grid0.coords t 0) (t.val % 25))
        (k0_pay4 (F := Ideal) (grid0.coords t) (win0_0.fill (grid0.coords t) d0 (blk0 V c t)) (win0_1.fill (grid0.coords t) d1 (blk1 V c t)) (V c main_arg2))
      = rows V c (grid0.coords t 0) (t.val % 25 + 1) := by
  have h := put_rows V c (grid0.coords t) _ _ (fill_0 V c t d0) (fill_1 V c t d1)
  rw [coords1 t] at h
  exact h

set_option maxHeartbeats 2000000 in
/-- One point of the call, from its invariant to the next point's, with its results as the proof data say. -/
theorem body_obligation (c : Dev nD) : BodyObligationLoose (dat V c) (defs₀ (F := Ideal)) 𝒱₀ none Set.univ := fun t => by
  rw [bigSep_W0, bigSep_W0]
  simp only
  rw [show (dat V c).Φ t.castSucc = inv V c t.val from rfl, show (dat V c).Φ t.succ = inv V c (t.val + 1) from rfl,
    show (dat V c).owesAt none t.succ = (dat V c).owesAt none t.castSucc from rfl]
  have c0 := coords0 t
  have c1 := coords1 t
  have hx0 : win0_0.cut (grid0.coords t) (win0_0.fill (grid0.coords t) (fun _ => (0 : EReal)) (blk0 V c t)) = blk0 V c t := win0_0.cut_fill _ _ _
  have hx1 : win0_1.cut (grid0.coords t) (win0_1.fill (grid0.coords t) (fun _ => (0 : EReal)) (blk1 V c t)) = blk1 V c t := win0_1.cut_fill _ _ _
  unfold inv
  iintro ⟨⟨⟨%X5, %hX5, H5⟩, HΦ⟩, Ho, ⟨%d0, H0⟩, ⟨%d1, H1⟩, ⟨%d2, H2⟩, ⟨%d3, H3⟩, ⟨%d4, H4⟩⟩
  ihave H0 := (Entails.of_eq (congrArg (fun X => owns (c : Thread nD τ) (win0_0.stage (cfg0.slots t 0)) fullShare X) (before_0 V c t d0))) $$ H0
  ihave H1 := (Entails.of_eq (congrArg (fun X => owns (c : Thread nD τ) (win0_1.stage (cfg0.slots t 1)) fullShare X) (before_1 V c t d1))) $$ H1
  ihave H2 := (Entails.of_eq (congrArg (fun X => owns (c : Thread nD τ) (win0_2.stage (cfg0.slots t 2)) fullShare X) (before_2 V c t d2))) $$ H2
  have hput := put_step V c t d0 d1
  rcases (by omega : t.val % 25 = 0 ∨ (t.val % 25 ≠ 0 ∧ t.val % 25 ≠ 24) ∨ t.val % 25 = 24) with h | ⟨h, h'⟩ | h
  · -- the first point of a batch
    have hidle : cfg0.idle 4 (cfg0.grid.coords t) = true := by
      show (!(k0_cond2 (grid0.coords t) == 1#1)) = true
      simp only [Bool.not_eq_true', beq_eq_false_iff_ne, ne_eq]
      exact fun h => absurd ((last_iff _).1 h) (by omega)
    have hflush : (cfg0.win 4).flush t = false := by
      rw [Bool.eq_false_iff]; exact fun h => absurd ((flush0_4 t).1 h) (by omega)
    have hidle' : idle0 4 (grid0.coords t) = true := hidle
    simp only [hidle', hflush]
    iapply (body_first c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (Memref.whole cc0_scratch0) (Memref.isWhole_whole _)
      (win0_0.fill (grid0.coords t) d0 (blk0 V c t)) (win0_1.fill (grid0.coords t) d1 (blk1 V c t)) (V c main_arg2) ((dat V c).before 3 t d3) ((dat V c).before 4 t d4) X5 (by omega) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [H5 HΦ]
    · isplitl [H5]
      · iexists _; isplitr; swap; · iexact H5
        ipureintro
        intro hn b hb
        obtain rfl : b = grid0.coords t 0 := Fin.ext (by omega)
        rw [show (t.val + 1) % 25 = t.val % 25 + 1 by omega, ← hput, h]
        exact congrArg (fun g => put (grid0.coords t) g _) (pay3_rows V c _)
      iexact HΦ
    isplitl [Ho]; · iexact Ho
    isplitl [H0]
    · iexists d0
      iapply (Entails.of_eq (congrArg (fun X => owns (c : Thread nD τ) (win0_0.stage (cfg0.slots t 0)) fullShare (win0_0.fill (grid0.coords t) d0 X)) hx0.symm)); iexact H0
    isplitl [H1]
    · iexists d1
      iapply (Entails.of_eq (congrArg (fun X => owns (c : Thread nD τ) (win0_1.stage (cfg0.slots t 1)) fullShare (win0_1.fill (grid0.coords t) d1 X)) hx1.symm)); iexact H1
    isplitl [H2]; · iexact H2
    isplitl [H3]
    · iapply (Entails.of_eq (congrArg (fun X => owns (c : Thread nD τ) (win0_3.stage (cfg0.slots t 3)) fullShare X) (pay2_tile V c (grid0.coords t) _ _ (fill_0 V c t d0) (fill_1 V c t d1)))); iexact H3
    iexists d4; iexact H4
  · -- a point inside a batch
    have hidle : cfg0.idle 4 (cfg0.grid.coords t) = true := by
      show (!(k0_cond2 (grid0.coords t) == 1#1)) = true
      simp only [Bool.not_eq_true', beq_eq_false_iff_ne, ne_eq]
      exact fun h => absurd ((last_iff _).1 h) (by omega)
    have hflush : (cfg0.win 4).flush t = false := by
      rw [Bool.eq_false_iff]; exact fun h => absurd ((flush0_4 t).1 h) (by omega)
    have hidle' : idle0 4 (grid0.coords t) = true := hidle
    simp only [hidle', hflush]
    iapply (body_mid c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (Memref.whole cc0_scratch0) (Memref.isWhole_whole _)
      (win0_0.fill (grid0.coords t) d0 (blk0 V c t)) (win0_1.fill (grid0.coords t) d1 (blk1 V c t)) (V c main_arg2) ((dat V c).before 3 t d3) ((dat V c).before 4 t d4) X5 (by omega) (by omega) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [H5 HΦ]
    · isplitl [H5]
      · iexists _; isplitr; swap; · iexact H5
        ipureintro
        intro hn b hb
        obtain rfl : b = grid0.coords t 0 := Fin.ext (by omega)
        rw [show (t.val + 1) % 25 = t.val % 25 + 1 by omega, ← hput]
        exact congrArg (fun g => put (grid0.coords t) g _) (hX5 h _ (by omega))
      iexact HΦ
    isplitl [Ho]; · iexact Ho
    isplitl [H0]
    · iexists d0
      iapply (Entails.of_eq (congrArg (fun X => owns (c : Thread nD τ) (win0_0.stage (cfg0.slots t 0)) fullShare (win0_0.fill (grid0.coords t) d0 X)) hx0.symm)); iexact H0
    isplitl [H1]
    · iexists d1
      iapply (Entails.of_eq (congrArg (fun X => owns (c : Thread nD τ) (win0_1.stage (cfg0.slots t 1)) fullShare (win0_1.fill (grid0.coords t) d1 X)) hx1.symm)); iexact H1
    isplitl [H2]; · iexact H2
    isplitl [H3]
    · iapply (Entails.of_eq (congrArg (fun X => owns (c : Thread nD τ) (win0_3.stage (cfg0.slots t 3)) fullShare X) (pay2_tile V c (grid0.coords t) _ _ (fill_0 V c t d0) (fill_1 V c t d1)))); iexact H3
    iexists d4; iexact H4
  · -- the last point of a batch
    have hidle : cfg0.idle 4 (cfg0.grid.coords t) = false := by
      show (!(k0_cond2 (grid0.coords t) == 1#1)) = false
      rw [(last_iff _).2 (by omega)]; rfl
    have hidle' : idle0 4 (grid0.coords t) = false := hidle
    simp only [hidle']
    have hnew := (congrArg (fun g => put (grid0.coords t) g (k0_pay4 (F := Ideal) (grid0.coords t) (win0_0.fill (grid0.coords t) d0 (blk0 V c t))
      (win0_1.fill (grid0.coords t) d1 (blk1 V c t)) (V c main_arg2))) (hX5 (by omega) (grid0.coords t 0) (by omega))).trans hput
    rw [h] at hnew
    iapply (body_last c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (Memref.whole cc0_scratch0) (Memref.isWhole_whole _)
      (win0_0.fill (grid0.coords t) d0 (blk0 V c t)) (win0_1.fill (grid0.coords t) d1 (blk1 V c t)) (V c main_arg2) ((dat V c).before 3 t d3) ((dat V c).before 4 t d4) X5 (by omega) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [H5 HΦ]
    · isplitl [H5]
      · iexists _; isplitr; swap; · iexact H5
        ipureintro
        intro hn b hb
        omega
      iexact HΦ
    isplitl [Ho]; · iexact Ho
    isplitl [H0]
    · iexists d0
      iapply (Entails.of_eq (congrArg (fun X => owns (c : Thread nD τ) (win0_0.stage (cfg0.slots t 0)) fullShare (win0_0.fill (grid0.coords t) d0 X)) hx0.symm)); iexact H0
    isplitl [H1]
    · iexists d1
      iapply (Entails.of_eq (congrArg (fun X => owns (c : Thread nD τ) (win0_1.stage (cfg0.slots t 1)) fullShare (win0_1.fill (grid0.coords t) d1 X)) hx1.symm)); iexact H1
    isplitl [H2]; · iexact H2
    isplitl [H3]
    · iapply (Entails.of_eq (congrArg (fun X => owns (c : Thread nD τ) (win0_3.stage (cfg0.slots t 3)) fullShare X) (pay2_tile V c (grid0.coords t) _ _ (fill_0 V c t d0) (fill_1 V c t d1)))); iexact H3
    have hw := congrArg (fun X => k0_pay10 (sel0 X).2) hnew
    ihave H4 := (Entails.of_eq (congrArg (fun X => owns (c : Thread nD τ) (win0_4.stage (cfg0.slots t 4)) fullShare X) hw)) $$ H4
    iexact H4

/-! ## The region over the thread state -/

/-- The results' arrays after the region: the logits tile by tile, and the chosen segments. -/
def logits (c : Dev nD) : Buf (Elt Ideal) ((c : Thread nD τ).loc main_v0_0) := (dat V c).arrAt 3 cfg0.N
/-- The chosen segments after the region. -/
def segs (c : Dev nD) : Buf (Elt Ideal) ((c : Thread nD τ).loc main_v0_1) := (dat V c).arrAt 4 cfg0.N

variable (Vp : (c : Dev nD) → (b : Ref sig .tc) → Buf (Elt Ideal) ((c : Thread nD τ).loc b))

set_option backward.isDefEq.respectTransparency.types false in
/-- The first TensorCore call between two valuations of the arrays: the second has its results at `logits` and `segs`
    and is the first elsewhere. -/
def reg (hVp_0 : ∀ c, Vp c main_v0_0 = logits V c) (hVp_1 : ∀ c, Vp c main_v0_1 = segs V c)
    (hVp_ne : ∀ c (b : Ref sig .tc), b ≠ main_v0_0 → b ≠ main_v0_1 → Vp c b = V c b) :
    Pipeline.RegionSeg (pcfgs (F := Ideal)) adm (pdats V) none defs₀ 𝒱₀ (K (F := Ideal)).L (K (F := Ideal)).lev 0 where
  win := launch0.win.to₀
  block_pos := launch0.block_pos
  stage_whole := launch0.stage_whole
  K := PEmpty
  osem k := k.elim
  ho := Pipeline.OwnSemFacts.none _
  hbody c := body_obligation V c
  hwaits c := Pipeline.cellsWaits_intro _ _ _ _ _ fun w s t => (K (F := Ideal)).mayWait_none _ fun g => Otc_none (F := Ideal) c 0 g
  pre c := iprop(unscopedBufs c (V c) ∗ debt (F := Ideal) c 0)
  post c := iprop(unscopedBufs c (Vp c) ∗ debt (F := Ideal) c 0)
  X _ := BI.emp
  Y _ := BI.emp
  Z c := Pipeline.unscopedRest (Ix := HIx 2) (Name := ℕ) (U := UU) (Lvl := ℕ) spec0 c (V c)
  hentry c := by
    rw [Pipeline.ownSems0_none]
    have hsplit := Pipeline.arrays_of_unscopedBufs (p := 0) (pcfgs (F := Ideal)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (debt_in (F := Ideal) c 0 (cfg0.waitPairs none)); iexact HO
    isplitr; · iempintro
    iexact Hrest
  hin c := by
    rw [show (pdats V 0 c).Φ 0 = inv V c 0 from rfl]
    iintro ⟨-, -, Hr⟩
    ihave Hr := (Entails.of_eq (scopedRest0_eq (Ix := HIx 2) (Name := ℕ) (U := UU) (Lvl := ℕ) (Val := Elt Ideal) c)) $$ Hr
    icases Hr with ⟨⟨%f, Hf⟩, Hr⟩
    unfold inv
    isplitl [Hf]
    · iexists ((Memref.whole cc0_scratch0).view.read (Elt Ideal) f)
      isplitr; · ipureintro; intro h; exact absurd rfl h
      unfold owns
      iexists f
      isplitr; · ipureintro; rfl
      rw [(Memref.isWhole_whole (sig := sig) cc0_scratch0).set_eq_univ]
      iexact Hf
    iexact Hr
  hout c := by
    rw [Pipeline.ownSems0_none, show (pdats V 0 c).Φ (Fin.last _) = inv V c cfg0.N from rfl]
    unfold inv
    iintro ⟨⟨%X, -, Hf⟩, Hr⟩
    isplitr; · iempintro
    isplitr; · iempintro
    iapply (Entails.of_eq (scopedRest0_eq (Ix := HIx 2) (Name := ℕ) (U := UU) (Lvl := ℕ) (Val := Elt Ideal) c).symm)
    isplitl [Hf]
    · unfold owns
      icases Hf with ⟨%f, -, Hf⟩
      rw [(Memref.isWhole_whole (sig := sig) cc0_scratch0).set_eq_univ]
      iexists f; iexact Hf
    iexact Hr
  hexit c := by
    have hjoin := Pipeline.unscopedBufs_of_arrays (p := 0) (pcfgs (F := Ideal)) adm (Ix := HIx 2) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_arg0 (by decide) (by decide)).symm
        · exact ((pdats V 0 c).arrAt_in 1 rfl _).trans (hVp_ne c main_arg1 (by decide) (by decide)).symm
        · exact ((pdats V 0 c).arrAt_in 2 rfl _).trans (hVp_ne c main_arg2 (by decide) (by decide)).symm
        · exact (hVp_0 c).symm
        · exact (hVp_1 c).symm)
      (fun b hb => hVp_ne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    iapply (debt_out (F := Ideal) c 0 (cfg0.waitPairs none) (fun p ⟨_, _, h⟩ => by rw [h])); iexact HO

/-! ## The results' arrays -/

/-- The logits at a batch, a tile, a token and a lane. -/
theorem logits_at (c : Dev nD) (b : Fin 4) (j : Fin 25) (m : Fin 128) (l : Fin 2048) :
    logits V c (ix4 b j m l) = wgt V c b m (2048 * j.val + l.val) := by
  have hG : logits V c = fun i : S4x25x128x2048.Idx => wgt V c (i 0) (i 2) (2048 * (i 1).val + (i 3).val) := by
    refine (dat V c).arrAt_eq_of_covers 3 _ (by decide +kernel) fun t _ y => ?_
    blk_simp
    have he : ((cfg0.win 3).blk t).view.emb y = ix4 (grid0.coords t 0) (grid0.coords t 1) (y 2) (y 3) := by blk_ext [e3]
    rw [he]
    have h1 : win0_3.index t 1 = (grid0.coords t 1).val := by rw [e3]; rfl
    have h3 : win0_3.index t 3 = 0 := by rw [e3]; rfl
    refine congrArg (wgt V c (grid0.coords t 0) (y 2)) ?_
    rw [h1, h3]
    show 2048 * (grid0.coords t 1).val + (y 3).val = _
    omega
  rw [hG]
  rfl

/-- The chosen segments at a batch, a token and a place. -/
theorem segs_at (c : Dev nD) (b : Fin 4) (m : Fin 128) (k : Fin 32) :
    segs V c (ix3 b m k) = (sel0 (rows V c b 25)).2 (ix2 m k) := by
  have hG : segs V c = fun i : S4x128x32.Idx => (sel0 (rows V c (i 0) 25)).2 (ix2 (i 1) (i 2)) := by
    refine (dat V c).arrAt_eq_of_covers 4 _ (by decide +kernel) fun t _ y => ?_
    blk_simp
    have hy : y = ix3 0 (y 1) (y 2) := by blk_ext
    have he : ((cfg0.win 4).blk t).view.emb y = ix3 (grid0.coords t 0) (y 1) (y 2) := by blk_ext [e4]
    refine (congrArg (k0_pay10 (sel0 (rows V c (grid0.coords t 0) 25)).2) hy).trans ((pay10_at _ _ _).trans ?_)
    rw [he]
    rfl
  rw [hG]
  rfl

end Cert.Proof.KSc.R0

end
-- ==== Proof.KRegion2.lean ====
/-
  THE SECOND TENSORCORE CALL of the whole kernel (`cc2__tc2_body`, pipeline 1 of @main), on the idealization.
-/
module

public import proofs.«01_k».proof.Proof.KSetup
public import proofs.«01_k».proof.Proof.KSelect
public import Idealize.ShloMosaic.Lib.Pipeline.ValueKit

@[expose] public section

noncomputable section

namespace Cert.Proof.KSc.R2

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig (HIx 2) (Elt Ideal) ℕ UU ℕ

/-- The selection loop issues nothing: it returns its fold. -/
theorem loop_eq (i : grid2.Coords) (M0 : Memref sig .tc .vmem S1x128x1024 .f32) (h0 : M0.IsWhole) (M1 : Memref sig .tc .vmem S1x128x1024 .i32) (h1 : M1.IsWhole)
    (M2 : Memref sig .tc .vmem S1x128x32 .i32) (h2 : M2.IsWhole) (v0 : Vec Ideal S1x128x1024 .f32) (v2 : Vec Ideal S1x128x1024 .i32) :
    Scf.Loop.for k2_t1_loop k2_t1_ok (k2_pay1 v0, k2_pay3) (k2_t1_body i M0 h0 M1 h1 M2 h2 v2) = .ret (sel2 v0 v2) :=
  Scf.for_pure _ _ _ _ _ _ _ fun k acc => by obtain ⟨a, b⟩ := acc; rfl

set_option maxHeartbeats 1000000 in
/-- The call's body at a grid point: it reads the two candidate blocks and writes the words its selection leaves. -/
theorem body (c : Dev nD) (i : grid2.Coords) (M0 : Memref sig .tc .vmem S1x128x1024 .f32) (h0 : M0.IsWhole) (M1 : Memref sig .tc .vmem S1x128x1024 .i32) (h1 : M1.IsWhole)
    (M2 : Memref sig .tc .vmem S1x128x32 .i32) (h2 : M2.IsWhole) (X0 : S1x128x1024.Idx → Elt Ideal .f32) (X1 : S1x128x1024.Idx → Elt Ideal .i32) (X2 : S1x128x32.Idx → Elt Ideal .i32)
    (Q : PUnit → sProp 𝕄) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1 ∗ owns (c : Thread nD τ) M2 fullShare (k2_pay7 (sel2 X0 X1).2)) -∗ Q ⟨⟩))
      ⊢ wp frame (wpE (defs₀ (F := Ideal)) 𝒱₀ c none) Set.univ (cc2__tc2_body i M0 h0 M1 h1 M2 h2) Q := by
  simp only [cc2__tc2_body_eq_skeleton]; unfold cc2__tc2_body_skel
  simp only [loop_eq]
  unfold owns
  rw [h0.set_eq_univ, h1.set_eq_univ, h2.set_eq_univ]
  iintro ⟨⟨%f0, %hf0, H0⟩, ⟨%f1, %hf1, H1⟩, ⟨%f2, %hf2, H2⟩, Hk⟩
  sl_exec!
  sl_step
  iapply Hk
  isplitl [H0]
  · iexists f0; isplitr; · ipureintro; exact hf0
    iexact H0
  isplitl [H1]
  · iexists f1; isplitr; · ipureintro; exact hf1
    iexact H1
  iexists _; isplitr
  swap; · iexact H2
  ipureintro
  subst hf0 hf1
  refine (View.read_writes_eq_canon _ _ _ fun y => ⟨_, List.mem_singleton_self _, View.mem_set_unit_zero (View.eq_zero_of_forall (by decide)) inb_S1x128x32_S1x128x32_0_0_0 y⟩).trans ?_
  refine (View.canon_unit_zero (View.eq_zero_of_forall (by decide)) _ _).trans ?_
  have e0 := (View.readAt_eq_ld M0.view f0 (Rect.unit ![0, 0, 0] S1x128x1024.size inb_S1x128x1024_S1x128x1024_0_0_0)).trans (View.ld_unit_lit _ _ (by decide))
  have e1 := (View.readAt_eq_ld M1.view f1 (Rect.unit ![0, 0, 0] S1x128x1024.size inb_S1x128x1024_S1x128x1024_0_0_0)).trans (View.ld_unit_lit _ _ (by decide))
  exact congrArg₂ (fun a b => k2_pay7 (sel2 a b).2) e0 e1

/-! ## The proof data, at an entry valuation -/

variable (V : (c : Dev nD) → (b : Ref sig .tc) → Buf (Elt Ideal) ((c : Thread nD τ).loc b))

/-- The blocks of candidate values and words a point works on. -/
abbrev blkV (c : Dev nD) (t : Fin cfg2.N) : S1x128x1024.Idx → Elt Ideal .f32 := ((cfg2.win 0).blk t).view.read (Elt Ideal) (V c main_v23)
/-- The block of candidate words that a point works on. -/
abbrev blkN (c : Dev nD) (t : Fin cfg2.N) : S1x128x1024.Idx → Elt Ideal .i32 := ((cfg2.win 1).blk t).view.read (Elt Ideal) (V c main_v32)

/-- The call's scoped buffers other than its windows, which its points leave alone. -/
abbrev Φc (c : Dev nD) : sProp 𝕄 := Pipeline.scopedRest (Ix := HIx 2) (Name := ℕ) (U := UU) (Lvl := ℕ) (Val := Elt Ideal) spec2 c

/-- The pipeline's proof data from the entry valuation `V`. -/
def dat (c : Dev nD) : Dat τ (Elt Ideal) (HIx 2) ℕ UU ℕ cfg2 c where
  A w := V c (Pipeline.arrRef spec2 w)
  after w t := match w with
    | ⟨0, _⟩ => blkV V c t
    | ⟨1, _⟩ => blkN V c t
    | ⟨2, _⟩ => k2_pay7 (sel2 (blkV V c t) (blkN V c t)).2
  Φ _ := Φc c
  q _ := fullShare
  owed _ := (K (F := Ideal)).Otc c 1
  recorded _ := noted (F := Ideal) c 1

/-- Proof data for the call that is not the one at hand; nothing depends on it. -/
def junkDat {cfg : Cfg sig Λ₀} (c : Dev nD) : Dat τ (Elt Ideal) (HIx 2) ℕ UU ℕ cfg c where
  A _ := fun _ => Classical.arbitrary _
  after _ _ := fun _ => Classical.arbitrary _
  Φ _ := BI.emp
  q _ := fullShare
  owed _ := 0

/-- The proof data of both TensorCore calls, as the second one needs them. -/
def pdats : (p : Fin 2) → (c : Dev nD) → Dat τ (Elt Ideal) (HIx 2) ℕ UU ℕ (Pipeline.pin (pcfgs (F := Ideal)) adm p) c
  | ⟨0, _⟩ => fun c => junkDat c
  | ⟨1, _⟩ => fun c => dat V c

/-- What the first window holds when a point starts. -/
theorem before_0 (c : Dev nD) (t : Fin cfg2.N) (d : S1x128x1024.Idx → Elt Ideal .f32) : (dat V c).before 0 t d = blkV V c t := by
  unfold Dat.before; rw [if_pos (fetch2_0 t)]; rfl

/-- What the second window holds when a point starts. -/
theorem before_1 (c : Dev nD) (t : Fin cfg2.N) (d : S1x128x1024.Idx → Elt Ideal .i32) : (dat V c).before 1 t d = blkN V c t := by
  unfold Dat.before; rw [if_pos (fetch2_1 t)]; rfl

/-- One point of the call, with its result as the proof data say. -/
theorem body_obligation (c : Dev nD) : BodyObligation (dat V c) (defs₀ (F := Ideal)) 𝒱₀ none Set.univ := fun t => by
  rw [bigSep_W2, bigSep_W2]
  rw [show (dat V c).Φ t.castSucc = Φc c from rfl, show (dat V c).Φ t.succ = Φc c from rfl,
    show (dat V c).owesAt none t.succ = (dat V c).owesAt none t.castSucc from rfl]
  iintro ⟨HΦ, Howes, ⟨%d0, H0⟩, ⟨%d1, H1⟩, ⟨%d2, H2⟩⟩
  ihave H0 := (Entails.of_eq (congrArg (fun X => owns (c : Thread nD τ) (win2_0.stage (cfg2.slots t 0)) fullShare X) (before_0 V c t d0))) $$ H0
  ihave H1 := (Entails.of_eq (congrArg (fun X => owns (c : Thread nD τ) (win2_1.stage (cfg2.slots t 1)) fullShare X) (before_1 V c t d1))) $$ H1
  iapply (body c (grid2.coords t) (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (blkV V c t) (blkN V c t) ((dat V c).before 2 t d2) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The region over the thread state -/

/-- The result's array after the region. -/
def indices (c : Dev nD) : Buf (Elt Ideal) ((c : Thread nD τ).loc main_v33) := (dat V c).arrAt 2 cfg2.N

variable (Vp : (c : Dev nD) → (b : Ref sig .tc) → Buf (Elt Ideal) ((c : Thread nD τ).loc b))

set_option backward.isDefEq.respectTransparency.types false in
/-- The second TensorCore call between two valuations of the arrays: the second has its result at `indices` and is the
    first elsewhere. -/
def reg (hVp_out : ∀ c, Vp c main_v33 = indices V c) (hVp_ne : ∀ c (b : Ref sig .tc), b ≠ main_v33 → Vp c b = V c b) :
    Pipeline.RegionSeg (pcfgs (F := Ideal)) adm (pdats V) none defs₀ 𝒱₀ (K (F := Ideal)).L (K (F := Ideal)).lev 1 where
  win := launch2.win.to₀
  block_pos := launch2.block_pos
  stage_whole := launch2.stage_whole
  K := PEmpty
  osem k := k.elim
  ho := Pipeline.OwnSemFacts.none _
  hbody c := (body_obligation V c).loose
  hwaits c := Pipeline.cellsWaits_intro _ _ _ _ _ fun w s t => (K (F := Ideal)).mayWait_none _ fun g => Otc_none (F := Ideal) c 1 g
  pre c := iprop(unscopedBufs c (V c) ∗ debt (F := Ideal) c 1)
  post c := iprop(unscopedBufs c (Vp c) ∗ debt (F := Ideal) c 1)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 1) (pcfgs (F := Ideal)) adm (pdats V) launch2.win launch2.arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (debt_in (F := Ideal) c 1 (cfg2.waitPairs none)); iexact HO
    isplitr; · iempintro
    iexact Hrest
  hin c := by
    rw [show (pdats V 1 c).Φ 0 = Φc c from rfl]
    iintro ⟨-, -, Hr⟩; iexact Hr
  hout c := by
    rw [Pipeline.ownSems0_none, show (pdats V 1 c).Φ (Fin.last _) = Φc c from rfl]
    iintro Hr
    isplitr; · iempintro
    isplitr; · iempintro
    iexact Hr
  hexit c := by
    have hjoin := Pipeline.unscopedBufs_of_arrays (p := 1) (pcfgs (F := Ideal)) adm (Ix := HIx 2) (Name := ℕ) (U := UU) (Lvl := ℕ) launch2.win launch2.arr_whole c
      (pdats V) ((pdats V 1 c).share_full fun _ => rfl) (V c) (Vp c) ((pdats V 1 c).arrAt · cfg2.N)
      (fun w => by
        fin_cases w
        · exact ((pdats V 1 c).arrAt_in 0 rfl _).trans (hVp_ne c main_v23 (by decide)).symm
        · exact ((pdats V 1 c).arrAt_in 1 rfl _).trans (hVp_ne c main_v32 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    iapply (debt_out (F := Ideal) c 1 (cfg2.waitPairs none) (fun p ⟨_, _, h⟩ => by rw [h])); iexact HO

/-! ## The result's array -/

/-- The place of a point's block of candidate values. -/
theorem e0 : ∀ t : Fin cfg2.N, win2_0.index t = ![(grid2.coords t 0).val, 0, 0] := (by decide +kernel : ∀ t : Fin grid2.N, win2_0.index t = ![(grid2.coords t 0).val, 0, 0])
/-- The place of a point's block of candidate words. -/
theorem e1 : ∀ t : Fin cfg2.N, win2_1.index t = ![(grid2.coords t 0).val, 0, 0] := (by decide +kernel : ∀ t : Fin grid2.N, win2_1.index t = ![(grid2.coords t 0).val, 0, 0])
/-- The place of a point's block of the result. -/
theorem e2 : ∀ t : Fin cfg2.N, win2_2.index t = ![(grid2.coords t 0).val, 0, 0] := (by decide +kernel : ∀ t : Fin grid2.N, win2_2.index t = ![(grid2.coords t 0).val, 0, 0])

/-- A batch's block of candidate values, and of candidate words. -/
abbrev vals (c : Dev nD) (b : Fin 4) : S1x128x1024.Idx → Elt Ideal .f32 := fun y => V c main_v23 (ix3 b (y 1) (y 2))
/-- A batch's block of candidate words. -/
abbrev words (c : Dev nD) (b : Fin 4) : S1x128x1024.Idx → Elt Ideal .i32 := fun y => V c main_v32 (ix3 b (y 1) (y 2))

/-- A point's candidate values are its batch's. -/
theorem blkV_eq (c : Dev nD) (t : Fin cfg2.N) : blkV V c t = vals V c (grid2.coords t 0) := by
  funext y
  have he : ((cfg2.win 0).blk t).view.emb y = ix3 (grid2.coords t 0) (y 1) (y 2) := by blk_ext [e0]
  exact congrArg (V c main_v23) he

/-- A point's candidate words are its batch's. -/
theorem blkN_eq (c : Dev nD) (t : Fin cfg2.N) : blkN V c t = words V c (grid2.coords t 0) := by
  funext y
  have he : ((cfg2.win 1).blk t).view.emb y = ix3 (grid2.coords t 0) (y 1) (y 2) := by blk_ext [e1]
  exact congrArg (V c main_v32) he

/-- The selected words as they are stored are the same words. -/
theorem pay7_out (w : IVec S128x32 32) (m : Fin 128) (k : Fin 32) : k2_pay7 w (ix3 0 m k) = w (ix2 m k) := by
  pointwise [k2_pay7]

/-- The result at a batch and token: the words the selection over that batch's candidates leaves. -/
theorem indices_at (c : Dev nD) (b : Fin 4) (m : Fin 128) (k : Fin 32) :
    indices V c (ix3 b m k) = (sel2 (vals V c b) (words V c b)).2 (ix2 m k) := by
  have hG : indices V c = fun i : S4x128x32.Idx => (sel2 (vals V c (i 0)) (words V c (i 0))).2 (ix2 (i 1) (i 2)) := by
    refine (dat V c).arrAt_eq_of_covers 2 _ (by decide +kernel) fun t _ y => ?_
    blk_simp
    have hy : y = ix3 0 (y 1) (y 2) := by blk_ext
    have he : ((cfg2.win 2).blk t).view.emb y = ix3 (grid2.coords t 0) (y 1) (y 2) := by blk_ext [e2]
    refine (congrArg (k2_pay7 (sel2 (blkV V c t) (blkN V c t)).2) hy).trans ((pay7_out _ _ _).trans ?_)
    rw [he, blkV_eq, blkN_eq]
    rfl
  rw [hG]
  rfl

end Cert.Proof.KSc.R2

end
-- ==== Proof.KHost.lean ====
/-
  @main of the whole kernel's program (`KernelIdeal`), as its lines of host operations between the two TensorCore calls
  and the two SparseCore calls, and the contents of the TensorCore's buffers between them. `main_eq` states that @main is
  these lines and calls in order; `U0 … U9` are the contents, from the launch to the end.
-/
module

public import proofs.«01_k».proof.Proof.KTile1
public import proofs.«01_k».proof.Proof.KTile2
public import proofs.«01_k».proof.Proof.KRegion0
public import proofs.«01_k».proof.Proof.KRegion2
public import Idealize.ShloMosaic.Lib.StableHlo.RunRead
public import Idealize.ShloMosaic.Lib.Pipeline.Frame

@[expose] public section

noncomputable section

namespace Cert.Proof.KSc

open Cert.KernelIdeal Cert.KernelIdeal.Gen

open Idealize.ShloMosaic
open Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The lines of host operations -/

/-- The batch and the query numbers, and the numbers that the segments are divided by. -/
abbrev opsSeg : List (HloOp τ sig (Elt F)) :=
  [ nullary main_v1 (iotaInDim S4 32 0),
    unary main_v1 main_v2 (broadcastInDim S4x1x1 ![0] bcast_S4_S4x1x1_0 : (⟨S4, .i32⟩ : BufTy).Contents (Elt F) → (⟨S4x1x1, .i32⟩ : BufTy).Contents (Elt F)),
    nullary main_v3 (iotaInDim S128 32 0),
    unary main_v3 main_v4 (broadcastInDim S1x128x1 ![1] bcast_S128_S1x128x1_1 : (⟨S128, .i32⟩ : BufTy).Contents (Elt F) → (⟨S1x128x1, .i32⟩ : BufTy).Contents (Elt F)),
    nullary main_c (constantI S_ 32 25#32),
    unary main_c main_v5 (broadcastInDim S4x1x1 ![] bcast_S_S4x1x1 : (⟨S_, .i32⟩ : BufTy).Contents (Elt F) → (⟨S4x1x1, .i32⟩ : BufTy).Contents (Elt F)),
    binary main_v2 main_v5 main_v6 (muli : (⟨S4x1x1, .i32⟩ : BufTy).Contents (Elt F) → (⟨S4x1x1, .i32⟩ : BufTy).Contents (Elt F) → (⟨S4x1x1, .i32⟩ : BufTy).Contents (Elt F)),
    nullary main_c_0 (constantI S_ 32 64#32) ]

/-- The chosen segments' quotient by 64, rounded down: the tile of each. -/
abbrev opsDiv : List (HloOp τ sig (Elt F)) :=
  [ TRef.unary (.of main_c_0 : TRef sig ⟨S_, .i32⟩) main_call0.v0 id,
    TRef.unary main_call0.v0 main_call0.v1 (broadcastInDim S4x128x32 ![] bcast_S_S4x128x32),
    TRef.binary (.of main_v0_1 : TRef sig ⟨S4x128x32, .i32⟩) main_call0.v1 main_call0.v2 Host.divsi,
    TRef.unary (.of main_v0_1 : TRef sig ⟨S4x128x32, .i32⟩) main_call0.v3 signi,
    TRef.unary main_call0.v0 main_call0.v4 signi,
    TRef.unary main_call0.v4 main_call0.v5 (broadcastInDim S4x128x32 ![] bcast_S_S4x128x32),
    TRef.binary main_call0.v3 main_call0.v5 main_call0.v6 (cmpi .ne),
    TRef.unary main_call0.v0 main_call0.v7 (broadcastInDim S4x128x32 ![] bcast_S_S4x128x32),
    TRef.binary (.of main_v0_1 : TRef sig ⟨S4x128x32, .i32⟩) main_call0.v7 main_call0.v8 Host.remsi,
    TRef.nullary main_call0.c (constantI S_ 32 0#32),
    TRef.unary main_call0.c main_call0.v9 (broadcastInDim S4x128x32 ![] bcast_S_S4x128x32),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4x128x32 ![] bcast_S_S4x128x32),
    TRef.binary main_call0.v2 main_call0.v12 main_call0.v13 subi,
    TRef.ternary main_call0.v11 main_call0.v13 main_call0.v2 main_call0_call0.v0 select ]

/-- The first part of the row number: batch, tile and query. -/
abbrev opsRow : List (HloOp τ sig (Elt F)) :=
  [ unary main_v6 main_v8 (broadcastInDim S4x128x32 ![0, 1, 2] bcast_S4x1x1_S4x128x32_0_1_2 : (⟨S4x1x1, .i32⟩ : BufTy).Contents (Elt F) → (⟨S4x128x32, .i32⟩ : BufTy).Contents (Elt F)),
    binary main_v8 main_v7 main_v9 (addi : (⟨S4x128x32, .i32⟩ : BufTy).Contents (Elt F) → (⟨S4x128x32, .i32⟩ : BufTy).Contents (Elt F) → (⟨S4x128x32, .i32⟩ : BufTy).Contents (Elt F)),
    nullary main_c_1 (constantI S_ 32 128#32),
    unary main_c_1 main_v10 (broadcastInDim S4x128x32 ![] bcast_S_S4x128x32 : (⟨S_, .i32⟩ : BufTy).Contents (Elt F) → (⟨S4x128x32, .i32⟩ : BufTy).Contents (Elt F)),
    binary main_v9 main_v10 main_v11 (muli : (⟨S4x128x32, .i32⟩ : BufTy).Contents (Elt F) → (⟨S4x128x32, .i32⟩ : BufTy).Contents (Elt F) → (⟨S4x128x32, .i32⟩ : BufTy).Contents (Elt F)),
    unary main_v4 main_v12 (broadcastInDim S4x128x32 ![0, 1, 2] bcast_S1x128x1_S4x128x32_0_1_2 : (⟨S1x128x1, .i32⟩ : BufTy).Contents (Elt F) → (⟨S4x128x32, .i32⟩ : BufTy).Contents (Elt F)),
    binary main_v11 main_v12 main_v13 (addi : (⟨S4x128x32, .i32⟩ : BufTy).Contents (Elt F) → (⟨S4x128x32, .i32⟩ : BufTy).Contents (Elt F) → (⟨S4x128x32, .i32⟩ : BufTy).Contents (Elt F)),
    nullary main_c_2 (constantI S_ 32 64#32),
    unary main_c_2 main_v14 (broadcastInDim S4x128x32 ![] bcast_S_S4x128x32 : (⟨S_, .i32⟩ : BufTy).Contents (Elt F) → (⟨S4x128x32, .i32⟩ : BufTy).Contents (Elt F)),
    binary main_v13 main_v14 main_v15 (muli : (⟨S4x128x32, .i32⟩ : BufTy).Contents (Elt F) → (⟨S4x128x32, .i32⟩ : BufTy).Contents (Elt F) → (⟨S4x128x32, .i32⟩ : BufTy).Contents (Elt F)),
    nullary main_c_3 (constantI S_ 32 64#32) ]

/-- The chosen segments' remainder by 64: the place of each in its tile. -/
abbrev opsRem : List (HloOp τ sig (Elt F)) :=
  [ TRef.unary (.of main_c_3 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1_call0.v0 select,
    TRef.unary main_call1_call0.v0 main_call1.v3 (broadcastInDim S4x128x32 ![] bcast_S_S4x128x32),
    TRef.binary (.of main_v0_1 : TRef sig ⟨S4x128x32, .i32⟩) main_call1.v3 main_call1.v4 Host.remsi,
    TRef.nullary main_call1.c_1 (constantI S_ 32 0#32),
    TRef.unary main_call1.c_1 main_call1.v5 (broadcastInDim S4x128x32 ![] bcast_S_S4x128x32),
    TRef.binary main_call1.v4 main_call1.v5 main_call1.v6 (cmpi .ne),
    TRef.nullary main_call1.c_2 (constantI S_ 32 0#32),
    TRef.unary main_call1.c_2 main_call1.v7 (broadcastInDim S4x128x32 ![] bcast_S_S4x128x32),
    TRef.binary main_call1.v4 main_call1.v7 main_call1.v8 (cmpi .slt),
    TRef.nullary main_call1.c_3 (constantI S_ 32 0#32),
    TRef.binary main_call1_call0.v0 main_call1.c_3 main_call1.v9 (cmpi .slt),
    TRef.unary main_call1.v9 main_call1.v10 (broadcastInDim S4x128x32 ![] bcast_S_S4x128x32),
    TRef.binary main_call1.v8 main_call1.v10 main_call1.v11 (cmpi .ne),
    TRef.binary main_call1.v11 main_call1.v6 main_call1.v12 andi,
    TRef.unary main_call1_call0.v0 main_call1.v13 (broadcastInDim S4x128x32 ![] bcast_S_S4x128x32),
    TRef.binary main_call1.v4 main_call1.v13 main_call1.v14 addi,
    TRef.ternary main_call1.v12 main_call1.v14 main_call1.v4 main_call1.v15 select ]

/-- The list of row numbers and the padded table of segments. -/
abbrev opsTable : List (HloOp τ sig (Elt F)) :=
  [ binary main_v15 main_v16 main_v17 (addi : (⟨S4x128x32, .i32⟩ : BufTy).Contents (Elt F) → (⟨S4x128x32, .i32⟩ : BufTy).Contents (Elt F) → (⟨S4x128x32, .i32⟩ : BufTy).Contents (Elt F)),
    reshape main_v17 main_v18 (rfl : (.i32 : EltTy) = .i32) shapeCasts_S4x128x32_S16384,
    reshape main_v0_0 main_v19 (rfl : (.f32 : EltTy) = .f32) shapeCasts_S4x25x128x2048_S819200x32,
    nullary main_c_4 (constantI S_ 32 0#32),
    TRef.unary (.of main_c_4 : TRef sig ⟨S_, .i32⟩) main_call2.v0 (sitofp .f32),
    TRef.binary (.of main_v19 : TRef sig ⟨S819200x32, .f32⟩) main_call2.v0 main_call2.v1 (fun x v => pad S819200x128 ![0, 0] ![0, 96] ![0, 0] x v pads_S819200x32_S819200x128_000_0960 h_S_) ]

/-- The candidates, cut out of the gathered rows, and the candidates' numbers. -/
abbrev opsCand : List (HloOp τ sig (Elt F)) :=
  [ unary main_v21 main_v22 ((extractStridedSlice S16384x32 ![0, 0] · slices_S16384x128_S16384x32_0_0) : (⟨S16384x128, .f32⟩ : BufTy).Contents (Elt F) → (⟨S16384x32, .f32⟩ : BufTy).Contents (Elt F)),
    reshape main_v22 main_v23 (rfl : (.f32 : EltTy) = .f32) shapeCasts_S16384x32_S4x128x1024,
    unary main_v0_1 main_v24 (broadcastInDim S4x128x32x1 ![0, 1, 2] bcast_S4x128x32_S4x128x32x1_0_1_2 : (⟨S4x128x32, .i32⟩ : BufTy).Contents (Elt F) → (⟨S4x128x32x1, .i32⟩ : BufTy).Contents (Elt F)),
    nullary main_c_5 (constantI S_ 32 32#32),
    unary main_c_5 main_v25 (broadcastInDim S4x128x32x1 ![] bcast_S_S4x128x32x1 : (⟨S_, .i32⟩ : BufTy).Contents (Elt F) → (⟨S4x128x32x1, .i32⟩ : BufTy).Contents (Elt F)),
    binary main_v24 main_v25 main_v26 (muli : (⟨S4x128x32x1, .i32⟩ : BufTy).Contents (Elt F) → (⟨S4x128x32x1, .i32⟩ : BufTy).Contents (Elt F) → (⟨S4x128x32x1, .i32⟩ : BufTy).Contents (Elt F)),
    nullary main_v27 (iotaInDim S32 32 0),
    unary main_v27 main_v28 (broadcastInDim S1x1x1x32 ![3] bcast_S32_S1x1x1x32_3 : (⟨S32, .i32⟩ : BufTy).Contents (Elt F) → (⟨S1x1x1x32, .i32⟩ : BufTy).Contents (Elt F)),
    unary main_v26 main_v29 (broadcastInDim S4x128x32x32 ![0, 1, 2, 3] bcast_S4x128x32x1_S4x128x32x32_0_1_2_3 : (⟨S4x128x32x1, .i32⟩ : BufTy).Contents (Elt F) → (⟨S4x128x32x32, .i32⟩ : BufTy).Contents (Elt F)),
    unary main_v28 main_v30 (broadcastInDim S4x128x32x32 ![0, 1, 2, 3] bcast_S1x1x1x32_S4x128x32x32_0_1_2_3 : (⟨S1x1x1x32, .i32⟩ : BufTy).Contents (Elt F) → (⟨S4x128x32x32, .i32⟩ : BufTy).Contents (Elt F)),
    binary main_v29 main_v30 main_v31 (addi : (⟨S4x128x32x32, .i32⟩ : BufTy).Contents (Elt F) → (⟨S4x128x32x32, .i32⟩ : BufTy).Contents (Elt F) → (⟨S4x128x32x32, .i32⟩ : BufTy).Contents (Elt F)),
    reshape main_v31 main_v32 (rfl : (.i32 : EltTy) = .i32) shapeCasts_S4x128x32x32_S4x128x1024 ]

/-- The list of row numbers in the two arrays, and the two padded arrays. -/
abbrev opsList : List (HloOp τ sig (Elt F)) :=
  [ nullary main_v34 (iotaInDim S4 32 0),
    unary main_v34 main_v35 (broadcastInDim S4x1x1 ![0] bcast_S4_S4x1x1_0 : (⟨S4, .i32⟩ : BufTy).Contents (Elt F) → (⟨S4x1x1, .i32⟩ : BufTy).Contents (Elt F)),
    nullary main_c_6 (constantI S_ 32 50000#32),
    unary main_c_6 main_v36 (broadcastInDim S4x1x1 ![] bcast_S_S4x1x1 : (⟨S_, .i32⟩ : BufTy).Contents (Elt F) → (⟨S4x1x1, .i32⟩ : BufTy).Contents (Elt F)),
    binary main_v35 main_v36 main_v37 (muli : (⟨S4x1x1, .i32⟩ : BufTy).Contents (Elt F) → (⟨S4x1x1, .i32⟩ : BufTy).Contents (Elt F) → (⟨S4x1x1, .i32⟩ : BufTy).Contents (Elt F)),
    unary main_v37 main_v38 (broadcastInDim S4x128x32 ![0, 1, 2] bcast_S4x1x1_S4x128x32_0_1_2 : (⟨S4x1x1, .i32⟩ : BufTy).Contents (Elt F) → (⟨S4x128x32, .i32⟩ : BufTy).Contents (Elt F)),
    binary main_v33 main_v38 main_v39 (addi : (⟨S4x128x32, .i32⟩ : BufTy).Contents (Elt F) → (⟨S4x128x32, .i32⟩ : BufTy).Contents (Elt F) → (⟨S4x128x32, .i32⟩ : BufTy).Contents (Elt F)),
    reshape main_v39 main_v40 (rfl : (.i32 : EltTy) = .i32) shapeCasts_S4x128x32_S16384,
    reshape main_arg0 main_v41 (rfl : (.f32 : EltTy) = .f32) shapeCasts_S4x50000x32_S200000x32,
    reshape main_arg1 main_v42 (rfl : (.f32 : EltTy) = .f32) shapeCasts_S4x50000x32_S200000x32,
    nullary main_c_7 (constantI S_ 32 0#32),
    TRef.unary (.of main_c_7 : TRef sig ⟨S_, .i32⟩) main_call3.v0 (sitofp .f32),
    TRef.binary (.of main_v41 : TRef sig ⟨S200000x32, .f32⟩) main_call3.v0 main_call3.v1 (fun x v => pad S200000x128 ![0, 0] ![0, 96] ![0, 0] x v pads_S200000x32_S200000x128_000_0960 h_S_),
    nullary main_c_8 (constantI S_ 32 0#32),
    TRef.unary (.of main_c_8 : TRef sig ⟨S_, .i32⟩) main_call4.v0 (sitofp .f32),
    TRef.binary (.of main_v42 : TRef sig ⟨S200000x32, .f32⟩) main_call4.v0 main_call4.v1 (fun x v => pad S200000x128 ![0, 0] ![0, 96] ![0, 0] x v pads_S200000x32_S200000x128_000_0960 h_S_) ]

/-- The results, cut out of the gathered rows, and the batch numbers. -/
abbrev opsOut : List (HloOp τ sig (Elt F)) :=
  [ unary main_v45_0 main_v46 ((extractStridedSlice S16384x32 ![0, 0] · slices_S16384x128_S16384x32_0_0) : (⟨S16384x128, .f32⟩ : BufTy).Contents (Elt F) → (⟨S16384x32, .f32⟩ : BufTy).Contents (Elt F)),
    unary main_v45_1 main_v47 ((extractStridedSlice S16384x32 ![0, 0] · slices_S16384x128_S16384x32_0_0) : (⟨S16384x128, .f32⟩ : BufTy).Contents (Elt F) → (⟨S16384x32, .f32⟩ : BufTy).Contents (Elt F)),
    reshape main_v46 main_v48 (rfl : (.f32 : EltTy) = .f32) shapeCasts_S16384x32_S4x128x32x32,
    reshape main_v47 main_v49 (rfl : (.f32 : EltTy) = .f32) shapeCasts_S16384x32_S4x128x32x32,
    nullary main_v50 (iotaInDim S4 32 0),
    unary main_v50 main_v51 (broadcastInDim S4x1x1 ![0] bcast_S4_S4x1x1_0 : (⟨S4, .i32⟩ : BufTy).Contents (Elt F) → (⟨S4x1x1, .i32⟩ : BufTy).Contents (Elt F)),
    unary main_v51 main_v52 (broadcastInDim S4x128x32 ![0, 1, 2] bcast_S4x1x1_S4x128x32_0_1_2 : (⟨S4x1x1, .i32⟩ : BufTy).Contents (Elt F) → (⟨S4x128x32, .i32⟩ : BufTy).Contents (Elt F)) ]

set_option maxHeartbeats 4000000 in
set_option maxRecDepth 16384 in
/-- The program is its four calls with the host's lists of operations before, between and after them. -/
theorem main_eq (d : Dev nD) :
    main (F := F) d = (Prog.lift (.customCall (SparseCore.inner (Pipeline.entry 0)) ()) >>= fun _ =>
      seq opsSeg >>= fun _ => seq opsDiv >>= fun _ => seq opsRow >>= fun _ => seq opsRem >>= fun _ => seq opsTable >>= fun _ =>
      (K (F := F)).run d 0 >>= fun _ => seq opsCand >>= fun _ =>
      Prog.lift (.customCall (SparseCore.inner (Pipeline.entry 1)) ()) >>= fun _ => seq opsList >>= fun _ =>
      (K (F := F)).run d 1 >>= fun _ => seq opsOut >>= fun _ => pure ⟨⟩) := rfl

/-- The first list of operations works on the TensorCore's buffers. -/
theorem opsSeg_sub : ∀ op ∈ (opsSeg : List (HloOp τ sig (Elt F))), op.bufs ⊆ Pipeline.ucRefs τ sig := fun op h =>
  Pipeline.sub_ucRefs op (List.forall_iff_forall_mem.1 (show (opsSeg : List (HloOp τ sig (Elt F))).Forall fun op => op.bufs ⊆ tcRefs τ sig by
    refine ⟨?_, ?_, ?_, ?_, ?_, ?_, ?_, ?_⟩ <;> simp [TRef.nullary, TRef.unary, TRef.binary, TRef.ternary]) op h)
/-- The first list of operations allocates nothing. -/
theorem opsSeg_fresh : ∀ op ∈ (opsSeg : List (HloOp τ sig (Elt F))), op.fresh = ∅ := List.forall_iff_forall_mem.1 (forall_fresh_of_map rfl)

/-- The division by 64 works on the TensorCore's buffers. -/
theorem opsDiv_sub : ∀ op ∈ (opsDiv : List (HloOp τ sig (Elt F))), op.bufs ⊆ Pipeline.ucRefs τ sig := fun op h =>
  Pipeline.sub_ucRefs op (List.forall_iff_forall_mem.1 (show (opsDiv : List (HloOp τ sig (Elt F))).Forall fun op => op.bufs ⊆ tcRefs τ sig by
    refine ⟨?_, ?_, ?_, ?_, ?_, ?_, ?_, ?_, ?_, ?_, ?_, ?_, ?_, ?_, ?_, ?_, ?_⟩ <;> simp [TRef.nullary, TRef.unary, TRef.binary, TRef.ternary]) op h)
/-- The division by 64 allocates nothing. -/
theorem opsDiv_fresh : ∀ op ∈ (opsDiv : List (HloOp τ sig (Elt F))), op.fresh = ∅ := List.forall_iff_forall_mem.1 (forall_fresh_of_map rfl)

/-- The operations on the quotient work on the TensorCore's buffers. -/
theorem opsRow_sub : ∀ op ∈ (opsRow : List (HloOp τ sig (Elt F))), op.bufs ⊆ Pipeline.ucRefs τ sig := fun op h =>
  Pipeline.sub_ucRefs op (List.forall_iff_forall_mem.1 (show (opsRow : List (HloOp τ sig (Elt F))).Forall fun op => op.bufs ⊆ tcRefs τ sig by
    refine ⟨?_, ?_, ?_, ?_, ?_, ?_, ?_, ?_, ?_, ?_, ?_⟩ <;> simp [TRef.nullary, TRef.unary, TRef.binary, TRef.ternary]) op h)
/-- The operations on the quotient allocate nothing. -/
theorem opsRow_fresh : ∀ op ∈ (opsRow : List (HloOp τ sig (Elt F))), op.fresh = ∅ := List.forall_iff_forall_mem.1 (forall_fresh_of_map rfl)

/-- The remainder by 64 works on the TensorCore's buffers. -/
theorem opsRem_sub : ∀ op ∈ (opsRem : List (HloOp τ sig (Elt F))), op.bufs ⊆ Pipeline.ucRefs τ sig := fun op h =>
  Pipeline.sub_ucRefs op (List.forall_iff_forall_mem.1 (show (opsRem : List (HloOp τ sig (Elt F))).Forall fun op => op.bufs ⊆ tcRefs τ sig by
    refine ⟨?_, ?_, ?_, ?_, ?_, ?_, ?_, ?_, ?_, ?_, ?_, ?_, ?_, ?_, ?_, ?_, ?_, ?_, ?_, ?_, ?_⟩ <;> simp [TRef.nullary, TRef.unary, TRef.binary, TRef.ternary]) op h)
/-- The remainder by 64 allocates nothing. -/
theorem opsRem_fresh : ∀ op ∈ (opsRem : List (HloOp τ sig (Elt F))), op.fresh = ∅ := List.forall_iff_forall_mem.1 (forall_fresh_of_map rfl)

/-- The operations on the first SparseCore call's list and table work on the TensorCore's buffers. -/
theorem opsTable_sub : ∀ op ∈ (opsTable : List (HloOp τ sig (Elt F))), op.bufs ⊆ Pipeline.ucRefs τ sig := fun op h =>
  Pipeline.sub_ucRefs op (List.forall_iff_forall_mem.1 (show (opsTable : List (HloOp τ sig (Elt F))).Forall fun op => op.bufs ⊆ tcRefs τ sig by
    refine ⟨?_, ?_, ?_, ?_, ?_, ?_⟩ <;> simp [TRef.nullary, TRef.unary, TRef.binary, TRef.ternary]) op h)
/-- The operations on the first SparseCore call's list and table allocate nothing. -/
theorem opsTable_fresh : ∀ op ∈ (opsTable : List (HloOp τ sig (Elt F))), op.fresh = ∅ := List.forall_iff_forall_mem.1 (forall_fresh_of_map rfl)

/-- The operations on the candidates work on the TensorCore's buffers. -/
theorem opsCand_sub : ∀ op ∈ (opsCand : List (HloOp τ sig (Elt F))), op.bufs ⊆ Pipeline.ucRefs τ sig := fun op h =>
  Pipeline.sub_ucRefs op (List.forall_iff_forall_mem.1 (show (opsCand : List (HloOp τ sig (Elt F))).Forall fun op => op.bufs ⊆ tcRefs τ sig by
    refine ⟨?_, ?_, ?_, ?_, ?_, ?_, ?_, ?_, ?_, ?_, ?_, ?_⟩ <;> simp [TRef.nullary, TRef.unary, TRef.binary, TRef.ternary]) op h)
/-- The operations on the candidates allocate nothing. -/
theorem opsCand_fresh : ∀ op ∈ (opsCand : List (HloOp τ sig (Elt F))), op.fresh = ∅ := List.forall_iff_forall_mem.1 (forall_fresh_of_map rfl)

/-- The operations on the second SparseCore call's list and tables work on the TensorCore's buffers. -/
theorem opsList_sub : ∀ op ∈ (opsList : List (HloOp τ sig (Elt F))), op.bufs ⊆ Pipeline.ucRefs τ sig := fun op h =>
  Pipeline.sub_ucRefs op (List.forall_iff_forall_mem.1 (show (opsList : List (HloOp τ sig (Elt F))).Forall fun op => op.bufs ⊆ tcRefs τ sig by
    refine ⟨?_, ?_, ?_, ?_, ?_, ?_, ?_, ?_, ?_, ?_, ?_, ?_, ?_, ?_, ?_, ?_⟩ <;> simp [TRef.nullary, TRef.unary, TRef.binary, TRef.ternary]) op h)
/-- The operations on the second SparseCore call's list and tables allocate nothing. -/
theorem opsList_fresh : ∀ op ∈ (opsList : List (HloOp τ sig (Elt F))), op.fresh = ∅ := List.forall_iff_forall_mem.1 (forall_fresh_of_map rfl)

/-- The operations on the results work on the TensorCore's buffers. -/
theorem opsOut_sub : ∀ op ∈ (opsOut : List (HloOp τ sig (Elt F))), op.bufs ⊆ Pipeline.ucRefs τ sig := fun op h =>
  Pipeline.sub_ucRefs op (List.forall_iff_forall_mem.1 (show (opsOut : List (HloOp τ sig (Elt F))).Forall fun op => op.bufs ⊆ tcRefs τ sig by
    refine ⟨?_, ?_, ?_, ?_, ?_, ?_, ?_⟩ <;> simp [TRef.nullary, TRef.unary, TRef.binary, TRef.ternary]) op h)
/-- The operations on the results allocate nothing. -/
theorem opsOut_fresh : ∀ op ∈ (opsOut : List (HloOp τ sig (Elt F))), op.fresh = ∅ := List.forall_iff_forall_mem.1 (forall_fresh_of_map rfl)

/-! ## The contents of the TensorCore's buffers -/

variable (m : (ℓ : Loc nD τ sig) → Buf (Elt Ideal) ℓ)

/-- A valuation read at the TensorCore's own references. -/
abbrev atTc (U : Dev nD → Valuation τ sig (Elt Ideal)) (c : Dev nD) (b : Ref sig .tc) : Buf (Elt Ideal) ((c.tc : Thread nD τ).loc b) := U c (Proc.devRef .tc b)

/-- At the launch. -/
def U0 (d : Dev nD) : Valuation τ sig (Elt Ideal) := launchContents m d
/-- After the first TensorCore call. -/
def U1 (d : Dev nD) : Valuation τ sig (Elt Ideal) :=
  Function.update (Function.update (U0 m d) (Proc.devRef .tc main_v0_0) (R0.logits (atTc (U0 m)) d)) (Proc.devRef .tc main_v0_1) (R0.segs (atTc (U0 m)) d)
/-- After the first list of operations. -/
def U2 (d : Dev nD) : Valuation τ sig (Elt Ideal) := after opsSeg (U1 m d)
/-- After the division by 64. -/
def U3 (d : Dev nD) : Valuation τ sig (Elt Ideal) := after opsDiv (U2 m d)
/-- After the operations on the quotient. -/
def U4 (d : Dev nD) : Valuation τ sig (Elt Ideal) := after opsRow (U3 m d)
/-- After the remainder by 64. -/
def U5 (d : Dev nD) : Valuation τ sig (Elt Ideal) := after opsRem (U4 m d)
/-- Before the first SparseCore call, and after it. -/
def U6 (d : Dev nD) : Valuation τ sig (Elt Ideal) := after opsTable (U5 m d)
/-- After the first SparseCore call. -/
def U7 (d : Dev nD) : Valuation τ sig (Elt Ideal) := Function.update (U6 m d) (Proc.devRef .tc main_v21) (G1.gP (U6 m) d)
/-- Before the second TensorCore call, and after it. -/
def U8 (d : Dev nD) : Valuation τ sig (Elt Ideal) := after opsCand (U7 m d)
/-- After the second TensorCore call. -/
def U9 (d : Dev nD) : Valuation τ sig (Elt Ideal) := Function.update (U8 m d) (Proc.devRef .tc main_v33) (R2.indices (atTc (U8 m)) d)
/-- Before the second SparseCore call, and after it. -/
def U10 (d : Dev nD) : Valuation τ sig (Elt Ideal) := after opsList (U9 m d)
/-- After the second SparseCore call. -/
def U11 (d : Dev nD) : Valuation τ sig (Elt Ideal) :=
  Function.update (Function.update (U10 m d) (Proc.devRef .tc main_v45_0) (G2.gP (U10 m) d)) (Proc.devRef .tc main_v45_1) (G2.gQ (U10 m) d)
/-- At the end. -/
def U12 (d : Dev nD) : Valuation τ sig (Elt Ideal) := after opsOut (U11 m d)

/-- The logits after the first TensorCore call. -/
theorem U1_0 (d : Dev nD) : U1 m d (Proc.devRef .tc main_v0_0) = R0.logits (atTc (U0 m)) d := by
  unfold U1; rw [Function.update_of_ne (by decide), Function.update_self]
/-- The chosen segments after the first TensorCore call. -/
theorem U1_1 (d : Dev nD) : U1 m d (Proc.devRef .tc main_v0_1) = R0.segs (atTc (U0 m)) d := by
  unfold U1; rw [Function.update_self]
/-- The first TensorCore call leaves every other buffer as it was. -/
theorem U1_other (d : Dev nD) (b : DevRef τ sig) (h0 : b ≠ Proc.devRef .tc main_v0_0) (h1 : b ≠ Proc.devRef .tc main_v0_1) : U1 m d b = U0 m d b := by
  unfold U1; rw [Function.update_of_ne h1, Function.update_of_ne h0]
/-- The gathered segments after the first SparseCore call. -/
theorem U7_p (d : Dev nD) : U7 m d (Proc.devRef .tc main_v21) = G1.gP (U6 m) d := by
  unfold U7; rw [Function.update_self]
/-- The first SparseCore call leaves every other buffer as it was. -/
theorem U7_other (d : Dev nD) (b : DevRef τ sig) (h : b ≠ Proc.devRef .tc main_v21) : U7 m d b = U6 m d b := by
  unfold U7; rw [Function.update_of_ne h]
/-- The indices after the second TensorCore call. -/
theorem U9_p (d : Dev nD) : U9 m d (Proc.devRef .tc main_v33) = R2.indices (atTc (U8 m)) d := by
  unfold U9; rw [Function.update_self]
/-- The second TensorCore call leaves every other buffer as it was. -/
theorem U9_other (d : Dev nD) (b : DevRef τ sig) (h : b ≠ Proc.devRef .tc main_v33) : U9 m d b = U8 m d b := by
  unfold U9; rw [Function.update_of_ne h]
/-- The first gathered rows after the second SparseCore call. -/
theorem U11_p (d : Dev nD) : U11 m d (Proc.devRef .tc main_v45_0) = G2.gP (U10 m) d := by
  unfold U11; rw [Function.update_of_ne (by decide), Function.update_self]
/-- The second gathered rows after the second SparseCore call. -/
theorem U11_q (d : Dev nD) : U11 m d (Proc.devRef .tc main_v45_1) = G2.gQ (U10 m) d := by
  unfold U11; rw [Function.update_self]
/-- The second SparseCore call leaves every other buffer as it was. -/
theorem U11_other (d : Dev nD) (b : DevRef τ sig) (hp : b ≠ Proc.devRef .tc main_v45_0) (hq : b ≠ Proc.devRef .tc main_v45_1) : U11 m d b = U10 m d b := by
  unfold U11; rw [Function.update_of_ne hq, Function.update_of_ne hp]

end Cert.Proof.KSc

end
-- ==== Proof.KRun.lean ====
/-
  THE RUN of the whole kernel's program (`KernelIdeal`), with its VALUES, over the reals. @main enters the first TensorCore
  call, computes the list of row numbers and the padded table, makes the first SparseCore call, enters the second
  TensorCore call on the candidates, computes the second list and the two padded arrays, makes the second SparseCore
  call, and cuts out the results. Each TensorCore call takes every buffer of the TensorCore and gives it back with the
  call's results written (`region_run`); each SparseCore call takes its inputs, in shares, and its outputs, in the
  tasks' blocks, and brings them back with the outputs at `picked`. `run_main` states that every execution ends with
  every buffer of the TensorCore at `U12` and every semaphore at zero.
-/
module

public import proofs.«01_k».proof.Proof.KHost

@[expose] public section

noncomputable section

namespace Cert.Proof.KSc

open Cert.KernelIdeal Cert.KernelIdeal.Gen

open Idealize.ShloMosaic
open Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.ShareLeaves

local notation "𝕄" => MT nD τ sig (HIx 2) (Elt Ideal) ℕ UU ℕ
local notation "KI" => K (F := Ideal)
local notation "DI" => D (F := Ideal)

/-! ## A TensorCore call on every buffer of the TensorCore -/

/-- The pipelines' ghost state is a part of the whole that ownership can speak of. -/
instance EP_lands : (EP : Emb UP 𝕄).LandsIn (upEmb : UEmb _ 𝕄) := by unfold EP; infer_instance

/-- The TensorCore call `p`, from every buffer at `U` to every buffer at `U'`, what the TensorCore owes before SparseCore
    call `n` kept. -/
theorem region_run {p : Fin 2} {pdats : (p : Fin 2) → (c : Dev nD) → Pipeline.Dat τ (Elt Ideal) (HIx 2) ℕ UU ℕ (Pipeline.pin (pcfgs (F := Ideal)) adm p) c}
    (R : Pipeline.RegionSeg (pcfgs (F := Ideal)) adm pdats none defs₀ 𝒱₀ (K (F := Ideal)).L (K (F := Ideal)).lev p) (d : Dev nD) (n : ℕ) (U U' : Valuation τ sig (Elt Ideal))
    (hpre : R.pre d = iprop(unscopedBufs d (fun b => U (Proc.devRef .tc b)) ∗ debt (F := Ideal) d n))
    (hpost : R.post d = iprop(unscopedBufs d (fun b => U' (Proc.devRef .tc b)) ∗ debt (F := Ideal) d n))
    {α : Type} (k : PUnit → Prog (TpuEff nD τ sig (Elt Ideal) (SparseCore.Sig (ΛP (F := Ideal)) 2) .tc) α) (Q : α → sProp 𝕄) :
    iprop(levAts (K (F := Ideal)).L (K (F := Ideal)).lev ∗ boundary (d.tc : Thread nD τ) ∗ held (d.tc : Thread nD τ) (Pipeline.ucRefs τ sig) U ∗ debt (F := Ideal) d n
        ∗ Pipeline.cellsGhost (Pipeline.pin (pcfgs (F := Ideal)) adm) EP p d ∗ Pipeline.toksInit (Pipeline.pin (pcfgs (F := Ideal)) adm) EP p d
        ∗ (iprop(boundary (d.tc : Thread nD τ) ∗ held (d.tc : Thread nD τ) (Pipeline.ucRefs τ sig) U' ∗ debt (F := Ideal) d n)
            -∗ wp frame (wpE ((K (F := Ideal)).defs DI) 𝒱 (SparseCore.T d) none) Set.univ (k ⟨⟩) Q))
      ⊢ wp frame (wpE ((K (F := Ideal)).defs DI) 𝒱 (SparseCore.T d) none) Set.univ (Prog.lift (.customCall (SparseCore.inner (Pipeline.entry p)) ()) >>= k) Q := by
  rw [wp_bind]
  refine BI.Entails.trans ?_ ((K (F := Ideal)).wp_liftProg DI 𝒱 (SparseCore.T d) Set.univ none (.op (.customCall (Pipeline.entry p) ()) fun a => .ret a) _)
  refine BI.Entails.trans ?_ (R.wp (pcfgs (F := Ideal)) adm pdats none cellOf_inj EP defs₀ 𝒱₀ (K (F := Ideal)).L (K (F := Ideal)).lev d none (fun u hu => nomatch hu) (fun a => pure a) _)
  rw [hpre, hpost]
  rw [show (unscopedBufs d (fun b => U (Proc.devRef .tc b)) : sProp 𝕄) = held (d.tc : Thread nD τ) (Pipeline.ucRefs τ sig) U from Pipeline.unscopedBufs_held d U,
    show (unscopedBufs d (fun b => U' (Proc.devRef .tc b)) : sProp 𝕄) = held (d.tc : Thread nD τ) (Pipeline.ucRefs τ sig) U' from Pipeline.unscopedBufs_held d U']
  show (_ : sProp 𝕄) ⊢ _
  iintro ⟨#Hlev, Hb, Hh, HO, Hg, Ht, Hk⟩
  isplitl [Hk]
  · iintro ⟨Hb, Hh, HO⟩
    rw [wp_pure]; imodintro
    iapply Hk
    isplitl [Hb]; · iexact Hb
    isplitl [Hh]; · iexact Hh
    iexact HO
  isplitl [Hb]; · iexact Hb
  isplitl [Hh HO]
  · isplitl [Hh]; · iexact Hh
    iexact HO
  isplitr; · iexact Hlev
  isplitl [Hg]; · iexact Hg
  iexact Ht

variable (m : (ℓ : Loc nD τ sig) → Buf (Elt Ideal) ℓ) (ρ : Dev nD → PrngReg)

/-- The first TensorCore call. -/
def reg0 := R0.reg (atTc (U0 m)) (atTc (U1 m)) (U1_0 m) (U1_1 m) fun c b h0 h1 =>
  U1_other m c _ (fun e => h0 (Proc.devRef_injective _ e)) (fun e => h1 (Proc.devRef_injective _ e))
/-- The second TensorCore call. -/
def reg1 := R2.reg (atTc (U8 m)) (atTc (U9 m)) (U9_p m) fun c b h => U9_other m c _ fun e => h (Proc.devRef_injective _ e)

/-! ## What the handshakes carry -/

/-- The task of subcore `s` of SparseCore `c`, the same in both calls. -/
def tN (c : Fin 2) (s : Fin 16) : Fin 32 := ⟨2 * s.val + c.val, by omega⟩

/-- Each call of a SparseCore takes its tasks' inputs and brings back its tasks' outputs. -/
def P : (K (F := Ideal)).Pay (nD := nD) (Val := Elt Ideal) (Name := ℕ) (U := UU) where
  st := fun q d c => match q with
    | 0 => bigSep Finset.univ fun s : Fin ((K (F := Ideal)).nSub 0) => G1.taskIn (U6 m) d (tN c s)
    | 1 => bigSep Finset.univ fun s : Fin ((K (F := Ideal)).nSub 1) => G2.taskIn (U10 m) d (tN c s)
  dn := fun q d c => match q with
    | 0 => bigSep Finset.univ fun s : Fin ((K (F := Ideal)).nSub 0) => G1.taskOut (U6 m) d (tN c s)
    | 1 => bigSep Finset.univ fun s : Fin ((K (F := Ideal)).nSub 1) => G2.taskOut (U10 m) d (tN c s)
  go := fun q d c i => match q with
    | 0 => G1.taskIn (U6 m) d (tN c i)
    | 1 => G2.taskIn (U10 m) d (tN c i)
  td := fun q d c i => match q with
    | 0 => G1.taskOut (U6 m) d (tN c i)
    | 1 => G2.taskOut (U10 m) d (tN c i)
  x := fun _ _ => iprop(emp)

/-- What the handshakes carry can be stored in an invariant. -/
instance P_storable : (P m).IsStorable where
  st q d c := match q with
    | 0 => (inferInstance : BI.Storable (upEmb : UEmb _ 𝕄) (bigSep Finset.univ fun s : Fin ((K (F := Ideal)).nSub 0) => G1.taskIn (U6 m) d (tN c s)))
    | 1 => (inferInstance : BI.Storable (upEmb : UEmb _ 𝕄) (bigSep Finset.univ fun s : Fin ((K (F := Ideal)).nSub 1) => G2.taskIn (U10 m) d (tN c s)))
  dn q d c := match q with
    | 0 => (inferInstance : BI.Storable (upEmb : UEmb _ 𝕄) (bigSep Finset.univ fun s : Fin ((K (F := Ideal)).nSub 0) => G1.taskOut (U6 m) d (tN c s)))
    | 1 => (inferInstance : BI.Storable (upEmb : UEmb _ 𝕄) (bigSep Finset.univ fun s : Fin ((K (F := Ideal)).nSub 1) => G2.taskOut (U10 m) d (tN c s)))
  go q d c i := match q with
    | 0 => (inferInstance : BI.Storable (upEmb : UEmb _ 𝕄) (G1.taskIn (U6 m) d (tN c i)))
    | 1 => (inferInstance : BI.Storable (upEmb : UEmb _ 𝕄) (G2.taskIn (U10 m) d (tN c i)))
  td q d c i := match q with
    | 0 => (inferInstance : BI.Storable (upEmb : UEmb _ 𝕄) (G1.taskOut (U6 m) d (tN c i)))
    | 1 => (inferInstance : BI.Storable (upEmb : UEmb _ 𝕄) (G2.taskOut (U10 m) d (tN c i)))

/-! ## The tasks' obligations -/

/-- The first SparseCore call's grid point of subcore `s` of SparseCore `c`. -/
def coords1 (c : Fin (grid1.bound 0)) (s : Fin (grid1.bound 1)) : grid1.Coords :=
  fun | 0 => c | 1 => s | ⟨_ + 2, h⟩ => absurd h (Nat.not_lt.2 (Nat.le_add_left _ _))
/-- The second SparseCore call's grid point of subcore `s` of SparseCore `c`. -/
def coords3 (c : Fin (grid3.bound 0)) (s : Fin (grid3.bound 1)) : grid3.Coords :=
  fun | 0 => c | 1 => s | ⟨_ + 2, h⟩ => absurd h (Nat.not_lt.2 (Nat.le_add_left _ _))

/-- What a subcore runs in the first call is the task at its grid point. -/
theorem defs₀_first (c : Fin τ.nSC) (s : Fin τ.nSub) :
    defs₀ (F := Ideal) (.scVector c s) 1 ()
      = SparseCore.onTile hcore1 hsub1 (fun c s => cc1_gk (coords1 c s)
          (Memref.whole main_v20_scv) (Memref.isWhole_whole _) (Memref.whole main_v18_scv) (Memref.isWhole_whole _) (Memref.whole main_v21_scv) (Memref.isWhole_whole _)
            (Memref.whole cc1_scratch0) (Memref.isWhole_whole _) (Memref.whole cc1_scratch1) (Memref.isWhole_whole _) cc1_scratch2 cc1_scoped0 cc1_scoped1) ⟨⟩ c s := rfl

/-- What a subcore runs in the second call is the task at its grid point. -/
theorem defs₀_second (c : Fin τ.nSC) (s : Fin τ.nSub) :
    defs₀ (F := Ideal) (.scVector c s) 3 ()
      = SparseCore.onTile hcore3 hsub3 (fun c s => cc3_gk (coords3 c s)
          (Memref.whole main_v43_scv) (Memref.isWhole_whole _) (Memref.whole main_v44_scv) (Memref.isWhole_whole _) (Memref.whole main_v40_scv) (Memref.isWhole_whole _)
            (Memref.whole main_v45_0_scv) (Memref.isWhole_whole _) (Memref.whole main_v45_1_scv) (Memref.isWhole_whole _)
            (Memref.whole cc3_scratch0) (Memref.isWhole_whole _) (Memref.whole cc3_scratch1) (Memref.isWhole_whole _) (Memref.whole cc3_scratch2) (Memref.isWhole_whole _)
            cc3_scratch3 cc3_scoped0 cc3_scoped1 cc3_scoped2 cc3_scoped3 cc3_scoped4 cc3_scoped5) ⟨⟩ c s := rfl

/-- A task's recorded waits, each from before or its own, are also each from before, its own or the call's. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the first call meets its obligation, where the list's numbers are in range. -/
theorem tileObl0 (hF : (K (F := Ideal)).Facts) (hin : G1.InRange (U6 m)) : (K (F := Ideal)).TileObl DI 𝒱 (P m) v₀ 0 := by
  intro d c i O W hO _ _
  simp only [show (P m).ox = fun _ _ => 0 from rfl, add_zero]
  have hci : ((K (F := Ideal)).core 0 c).val < grid1.bound 0 ∧ ((K (F := Ideal)).sub 0 i).val < grid1.bound 1 := ⟨c.isLt, i.isLt⟩
  change _ ⊢ wp _ _ _ (Pipeline.liftProg (defs₀ (F := Ideal) (.scVector ((K (F := Ideal)).core 0 c) ((K (F := Ideal)).sub 0 i)) 1 ())) _
  refine BI.Entails.trans ?_ (Pipeline.wp_liftProg DI (Pipeline.defs_kernel pcfgs defs₀) 𝒱₀ _ Set.univ none _ _)
  rw [defs₀_first]; simp only [SparseCore.onTile, hci, and_self, ↓reduceDIte]
  exact (G1.tile_body (U6 m) d (coords1 ⟨_, hci.1⟩ ⟨_, hci.2⟩) hF hin O W hO).trans (wp_mono frame _ _ fun _ => obl_post)

set_option maxRecDepth 16384 in
/-- Every task of the second call meets its obligation, where the list's numbers are in range. -/
theorem tileObl1 (hF : (K (F := Ideal)).Facts) (hin : G2.InRange (U10 m)) : (K (F := Ideal)).TileObl DI 𝒱 (P m) v₀ 1 := by
  intro d c i O W hO _ _
  simp only [show (P m).ox = fun _ _ => 0 from rfl, add_zero]
  have hci : ((K (F := Ideal)).core 1 c).val < grid3.bound 0 ∧ ((K (F := Ideal)).sub 1 i).val < grid3.bound 1 := ⟨c.isLt, i.isLt⟩
  change _ ⊢ wp _ _ _ (Pipeline.liftProg (defs₀ (F := Ideal) (.scVector ((K (F := Ideal)).core 1 c) ((K (F := Ideal)).sub 1 i)) 3 ())) _
  refine BI.Entails.trans ?_ (Pipeline.wp_liftProg DI (Pipeline.defs_kernel pcfgs defs₀) 𝒱₀ _ Set.univ none _ _)
  rw [defs₀_second]; simp only [SparseCore.onTile, hci, and_self, ↓reduceDIte]
  exact (G2.tile_body (U10 m) d (coords3 ⟨_, hci.1⟩ ⟨_, hci.2⟩) hF hin O W hO).trans (wp_mono frame _ _ fun _ => obl_post)

/-- What the first call of a SparseCore takes and brings back is what its tasks take and bring back. -/
theorem vecSplit0 : (K (F := Ideal)).VecSplit' (P m) 0 := by
  intro d c
  show (bigSep Finset.univ fun s : Fin ((K (F := Ideal)).nSub 0) => G1.taskIn (U6 m) d (tN c s)) ⊢ |={Set.univ}=> iprop(
      (bigSep Finset.univ fun s : Fin ((K (F := Ideal)).nSub 0) => G1.taskIn (U6 m) d (tN c s))
      ∗ ((bigSep Finset.univ fun s : Fin ((K (F := Ideal)).nSub 0) => G1.taskOut (U6 m) d (tN c s)) -∗ bigSep Finset.univ fun s : Fin ((K (F := Ideal)).nSub 0) => G1.taskOut (U6 m) d (tN c s)))
  iintro H; imodintro
  isplitl [H]; · iexact H
  iintro H; iexact H

/-- What the second call of a SparseCore takes and brings back is what its tasks take and bring back. -/
theorem vecSplit1 : (K (F := Ideal)).VecSplit' (P m) 1 := by
  intro d c
  show (bigSep Finset.univ fun s : Fin ((K (F := Ideal)).nSub 1) => G2.taskIn (U10 m) d (tN c s)) ⊢ |={Set.univ}=> iprop(
      (bigSep Finset.univ fun s : Fin ((K (F := Ideal)).nSub 1) => G2.taskIn (U10 m) d (tN c s))
      ∗ ((bigSep Finset.univ fun s : Fin ((K (F := Ideal)).nSub 1) => G2.taskOut (U10 m) d (tN c s)) -∗ bigSep Finset.univ fun s : Fin ((K (F := Ideal)).nSub 1) => G2.taskOut (U10 m) d (tN c s)))
  iintro H; imodintro
  isplitl [H]; · iexact H
  iintro H; iexact H

/-! ## The calls' buffers and their tasks -/

/-- Pairs of a subcore and a SparseCore are the tasks. -/
def taskEquiv : Fin 2 × Fin 16 ≃ Fin 32 where
  toFun x := ⟨2 * x.2.val + x.1.val, by omega⟩
  invFun t := (⟨t.val % 2, by omega⟩, ⟨t.val / 2, by omega⟩)
  left_inv x := by ext <;> simp <;> omega
  right_inv t := by ext; simp; omega

/-- A resource for each task, SparseCore by SparseCore and subcore by subcore, is a resource for each of the 32 tasks. -/
theorem bySubcore (Φ : Fin 32 → sProp 𝕄) :
    (bigSep Finset.univ fun c : Fin 2 => bigSep Finset.univ fun s : Fin 16 => Φ (tN c s)) = bigSep Finset.univ Φ := by
  rw [bigSep_univ_equiv taskEquiv Φ, bigSep_univ_prod (fun x => Φ (taskEquiv x))]
  rfl

section First

/-- Two tasks of the first call have no row of its output in common. -/
theorem first_disjoint : ∀ t ∈ (Finset.univ : Finset (Fin 32)), ∀ t' ∈ (Finset.univ : Finset (Fin 32)), t ≠ t' → Disjoint (G1.blk t) (G1.blk t') :=
  fun t _ t' _ h => Finset.disjoint_left.mpr fun x h0 h1 => by
    rw [G1.mem_blk] at h0 h1
    have : t.val ≠ t'.val := fun e => h (Fin.ext e)
    omega

/-- Every row of the first call's output is a task's. -/
theorem first_cover : (Finset.univ : Finset (Fin 32)).biUnion (fun t => G1.blk t) = Finset.univ := by
  ext x
  have hx : (x 0).val < 16384 := (x 0).isLt
  simp only [Finset.mem_biUnion, Finset.mem_univ, true_and, G1.mem_blk, iff_true]
  refine ⟨⟨(x 0).val / 512, by omega⟩, ?_⟩
  simp; omega

/-- The first call's three buffers are its 32 tasks' shares and blocks. -/
theorem first_eq (W : Dev nD → Valuation τ sig (Elt Ideal)) (d : Dev nD) (f : Buf (Elt Ideal) (G1.pLoc d)) :
    (bigSep Finset.univ fun t : Fin 32 => iprop(G1.reads W d t ∗ (G1.pLoc d ↦[G1.blk t]{fullShare} f)) : sProp 𝕄)
      = iprop(((G1.aLoc d ↦{fullShare} G1.wA W d) ∗ (G1.lLoc d ↦{fullShare} G1.wL W d)) ∗ (G1.pLoc d ↦{fullShare} f)) := by
  have hp : (G1.pLoc d ↦{fullShare} f : sProp 𝕄) = bigSep Finset.univ fun t : Fin 32 => iprop(G1.pLoc d ↦[G1.blk t]{fullShare} f) := by
    rw [← first_cover, pointsTo_biUnion (ℓ := G1.pLoc d) Finset.univ (fun t : Fin 32 => G1.blk t) first_disjoint]
  rw [bigSep_sep', bigSep_sep', ← hp, pointsTo_leaves Finset.univ (G1.wA W d) 5 fullShare, pointsTo_leaves Finset.univ (G1.wL W d) 5 fullShare]
  rfl

/-- What the first call takes is its buffers at their contents before it. -/
theorem st0_eq (d : Dev nD) :
    (bigSep Finset.univ fun c : Fin ((K (F := Ideal)).nCore 0) => (P m).st 0 d c)
      = iprop(((G1.aLoc d ↦{fullShare} G1.wA (U6 m) d) ∗ (G1.lLoc d ↦{fullShare} G1.wL (U6 m) d)) ∗ (G1.pLoc d ↦{fullShare} G1.wP (U6 m) d)) :=
  (bySubcore (fun t => G1.taskIn (U6 m) d t)).trans (first_eq (U6 m) d _)
/-- What the first call brings back is its buffers, the output with the rows that the list names. -/
theorem dn0_eq (d : Dev nD) :
    (bigSep Finset.univ fun c : Fin ((K (F := Ideal)).nCore 0) => (P m).dn 0 d c)
      = iprop(((G1.aLoc d ↦{fullShare} G1.wA (U6 m) d) ∗ (G1.lLoc d ↦{fullShare} G1.wL (U6 m) d)) ∗ (G1.pLoc d ↦{fullShare} G1.gP (U6 m) d)) :=
  (bySubcore (fun t => G1.taskOut (U6 m) d t)).trans (first_eq (U6 m) d _)

/-- The first call's buffers among the TensorCore's. -/
abbrev firstRefs : Finset (DevRef τ sig) := {Proc.devRef .tc main_v20, Proc.devRef .tc main_v18, Proc.devRef .tc main_v21}

/-- The first call's buffers are among the TensorCore's. -/
theorem firstRefs_sub : firstRefs ⊆ Pipeline.ucRefs τ sig := by
  intro b hb
  simp only [Finset.mem_insert, Finset.mem_singleton] at hb
  rcases hb with rfl | rfl | rfl <;> exact Finset.mem_filter.mpr ⟨devRef_mem_tcRefs _, by decide⟩

/-- Holding the first call's buffers is owning each of them. -/
theorem held_first (d : Dev nD) (V : Valuation τ sig (Elt Ideal)) :
    (held (d.tc : Thread nD τ) firstRefs V : sProp 𝕄)
      = iprop((G1.aLoc d ↦{fullShare} V (Proc.devRef .tc main_v20)) ∗ (G1.lLoc d ↦{fullShare} V (Proc.devRef .tc main_v18))
          ∗ (G1.pLoc d ↦{fullShare} V (Proc.devRef .tc main_v21))) := by
  unfold held firstRefs
  rw [SparseCore.bigSep_insert' (by decide), SparseCore.bigSep_insert' (by decide), bigSep_singleton]

/-- The first call's buffers after it, with the rest of the TensorCore's, are all of them at `U7`. -/
theorem first_back (d : Dev nD) :
    (iprop(((G1.aLoc d ↦{fullShare} G1.wA (U6 m) d) ∗ (G1.lLoc d ↦{fullShare} G1.wL (U6 m) d) ∗ (G1.pLoc d ↦{fullShare} G1.gP (U6 m) d))
        ∗ held (d.tc : Thread nD τ) (Pipeline.ucRefs τ sig \ firstRefs) (U6 m d)) : sProp 𝕄)
      = held (d.tc : Thread nD τ) (Pipeline.ucRefs τ sig) (U7 m d) := by
  rw [held_sub_split (d.tc : Thread nD τ) firstRefs_sub (U7 m d), held_first, U7_p,
    U7_other m d (Proc.devRef .tc main_v20) (by decide), U7_other m d (Proc.devRef .tc main_v18) (by decide),
    held_congr (d.tc : Thread nD τ) (S := Pipeline.ucRefs τ sig \ firstRefs) (V := U7 m d) (V' := U6 m d) fun b hb => U7_other m d b
      (fun e => (Finset.mem_sdiff.mp hb).2 (by rw [e]; decide))]

end First

section Second

/-- The two parts of a task's rows have no row in common. -/
theorem second_halves (t : Fin 32) : Disjoint (G2.blk t 0) (G2.blk t 1) :=
  Finset.disjoint_left.mpr fun x h0 h1 => by
    rw [G2.mem_blk] at h0 h1
    simp at h0 h1; omega

/-- Two tasks of the second call have no row of an output in common. -/
theorem second_disjoint : ∀ t ∈ (Finset.univ : Finset (Fin 32)), ∀ t' ∈ (Finset.univ : Finset (Fin 32)), t ≠ t' →
    Disjoint (G2.blk t 0 ∪ G2.blk t 1) (G2.blk t' 0 ∪ G2.blk t' 1) := fun t _ t' _ h =>
  Finset.disjoint_left.mpr fun x h0 h1 => by
    rw [Finset.mem_union, G2.mem_blk, G2.mem_blk] at h0 h1
    have : t.val ≠ t'.val := fun e => h (Fin.ext e)
    simp at h0 h1; omega

/-- Every row of the second call's outputs is a task's. -/
theorem second_cover : (Finset.univ : Finset (Fin 32)).biUnion (fun t => G2.blk t 0 ∪ G2.blk t 1) = Finset.univ := by
  ext x
  have hx : (x 0).val < 16384 := (x 0).isLt
  simp only [Finset.mem_biUnion, Finset.mem_univ, true_and, Finset.mem_union, G2.mem_blk, iff_true]
  refine ⟨⟨(x 0).val / 512, by omega⟩, ?_⟩
  simp; omega

/-- The second call's five buffers are its 32 tasks' shares and blocks. -/
theorem second_eq (W : Dev nD → Valuation τ sig (Elt Ideal)) (d : Dev nD) (f : Buf (Elt Ideal) (G2.pLoc d)) (g : Buf (Elt Ideal) (G2.qLoc d)) :
    (bigSep Finset.univ fun t : Fin 32 => iprop(G2.reads W d t ∗ G2.blocks d t f g) : sProp 𝕄)
      = iprop(((G2.aLoc d ↦{fullShare} G2.wA W d) ∗ (G2.bLoc d ↦{fullShare} G2.wB W d) ∗ (G2.lLoc d ↦{fullShare} G2.wL W d))
          ∗ (G2.pLoc d ↦{fullShare} f) ∗ (G2.qLoc d ↦{fullShare} g)) := by
  have hp : (G2.pLoc d ↦{fullShare} f : sProp 𝕄)
      = bigSep Finset.univ fun t : Fin 32 => iprop((G2.pLoc d ↦[G2.blk t 0]{fullShare} f) ∗ (G2.pLoc d ↦[G2.blk t 1]{fullShare} f)) := by
    rw [← second_cover, pointsTo_biUnion (ℓ := G2.pLoc d) Finset.univ (fun t : Fin 32 => G2.blk t 0 ∪ G2.blk t 1) second_disjoint]
    exact bigSep_congr fun t _ => BI.Entails.antisymm (pointsTo_union (second_halves t)).1 (pointsTo_union (second_halves t)).2
  have hq : (G2.qLoc d ↦{fullShare} g : sProp 𝕄)
      = bigSep Finset.univ fun t : Fin 32 => iprop((G2.qLoc d ↦[G2.blk t 0]{fullShare} g) ∗ (G2.qLoc d ↦[G2.blk t 1]{fullShare} g)) := by
    rw [← second_cover, pointsTo_biUnion (ℓ := G2.qLoc d) Finset.univ (fun t : Fin 32 => G2.blk t 0 ∪ G2.blk t 1) second_disjoint]
    exact bigSep_congr fun t _ => BI.Entails.antisymm (pointsTo_union (second_halves t)).1 (pointsTo_union (second_halves t)).2
  have hb : ∀ t : Fin 32, (G2.blocks d t f g : sProp 𝕄)
      = iprop(((G2.pLoc d ↦[G2.blk t 0]{fullShare} f) ∗ (G2.pLoc d ↦[G2.blk t 1]{fullShare} f))
          ∗ ((G2.qLoc d ↦[G2.blk t 0]{fullShare} g) ∗ (G2.qLoc d ↦[G2.blk t 1]{fullShare} g))) := fun t => by
    refine BI.Entails.antisymm ?_ ?_
    · show (_ : sProp 𝕄) ⊢ _
      iintro ⟨H1, H2, H3, H4⟩
      isplitl [H1 H2]
      · isplitl [H1] <;> iassumption
      isplitl [H3] <;> iassumption
    · show (_ : sProp 𝕄) ⊢ _
      iintro ⟨⟨H1, H2⟩, H3, H4⟩
      isplitl [H1]; · iexact H1
      isplitl [H2]; · iexact H2
      isplitl [H3] <;> iassumption
  rw [bigSep_congr fun t _ => congrArg (fun z => iprop(G2.reads W d t ∗ z)) (hb t)]
  rw [bigSep_sep', bigSep_sep', bigSep_sep', bigSep_sep', ← hp, ← hq,
    pointsTo_leaves Finset.univ (G2.wA W d) 5 fullShare, pointsTo_leaves Finset.univ (G2.wB W d) 5 fullShare,
    pointsTo_leaves Finset.univ (G2.wL W d) 5 fullShare]
  rfl

/-- What the second call takes is its buffers at their contents before it. -/
theorem st1_eq (d : Dev nD) :
    (bigSep Finset.univ fun c : Fin ((K (F := Ideal)).nCore 1) => (P m).st 1 d c)
      = iprop(((G2.aLoc d ↦{fullShare} G2.wA (U10 m) d) ∗ (G2.bLoc d ↦{fullShare} G2.wB (U10 m) d) ∗ (G2.lLoc d ↦{fullShare} G2.wL (U10 m) d))
          ∗ (G2.pLoc d ↦{fullShare} G2.wP (U10 m) d) ∗ (G2.qLoc d ↦{fullShare} G2.wQ (U10 m) d)) :=
  (bySubcore (fun t => G2.taskIn (U10 m) d t)).trans (second_eq (U10 m) d _ _)
/-- What the second call brings back is its buffers, the outputs with the rows that the list names. -/
theorem dn1_eq (d : Dev nD) :
    (bigSep Finset.univ fun c : Fin ((K (F := Ideal)).nCore 1) => (P m).dn 1 d c)
      = iprop(((G2.aLoc d ↦{fullShare} G2.wA (U10 m) d) ∗ (G2.bLoc d ↦{fullShare} G2.wB (U10 m) d) ∗ (G2.lLoc d ↦{fullShare} G2.wL (U10 m) d))
          ∗ (G2.pLoc d ↦{fullShare} G2.gP (U10 m) d) ∗ (G2.qLoc d ↦{fullShare} G2.gQ (U10 m) d)) :=
  (bySubcore (fun t => G2.taskOut (U10 m) d t)).trans (second_eq (U10 m) d _ _)

/-- The second call's buffers among the TensorCore's. -/
abbrev secondRefs : Finset (DevRef τ sig) :=
  {Proc.devRef .tc main_v43, Proc.devRef .tc main_v44, Proc.devRef .tc main_v40, Proc.devRef .tc main_v45_0, Proc.devRef .tc main_v45_1}

/-- The second call's buffers are among the TensorCore's. -/
theorem secondRefs_sub : secondRefs ⊆ Pipeline.ucRefs τ sig := by
  intro b hb
  simp only [Finset.mem_insert, Finset.mem_singleton] at hb
  rcases hb with rfl | rfl | rfl | rfl | rfl <;> exact Finset.mem_filter.mpr ⟨devRef_mem_tcRefs _, by decide⟩

/-- Holding the second call's buffers is owning each of them. -/
theorem held_second (d : Dev nD) (V : Valuation τ sig (Elt Ideal)) :
    (held (d.tc : Thread nD τ) secondRefs V : sProp 𝕄)
      = iprop((G2.aLoc d ↦{fullShare} V (Proc.devRef .tc main_v43)) ∗ (G2.bLoc d ↦{fullShare} V (Proc.devRef .tc main_v44))
          ∗ (G2.lLoc d ↦{fullShare} V (Proc.devRef .tc main_v40)) ∗ (G2.pLoc d ↦{fullShare} V (Proc.devRef .tc main_v45_0))
          ∗ (G2.qLoc d ↦{fullShare} V (Proc.devRef .tc main_v45_1))) := by
  unfold held secondRefs
  rw [SparseCore.bigSep_insert' (by decide), SparseCore.bigSep_insert' (by decide), SparseCore.bigSep_insert' (by decide),
    SparseCore.bigSep_insert' (by decide), bigSep_singleton]

/-- The second call's buffers after it, with the rest of the TensorCore's, are all of them at `U11`. -/
theorem second_back (d : Dev nD) :
    (iprop(((G2.aLoc d ↦{fullShare} G2.wA (U10 m) d) ∗ (G2.bLoc d ↦{fullShare} G2.wB (U10 m) d) ∗ (G2.lLoc d ↦{fullShare} G2.wL (U10 m) d)
          ∗ (G2.pLoc d ↦{fullShare} G2.gP (U10 m) d) ∗ (G2.qLoc d ↦{fullShare} G2.gQ (U10 m) d))
        ∗ held (d.tc : Thread nD τ) (Pipeline.ucRefs τ sig \ secondRefs) (U10 m d)) : sProp 𝕄)
      = held (d.tc : Thread nD τ) (Pipeline.ucRefs τ sig) (U11 m d) := by
  rw [held_sub_split (d.tc : Thread nD τ) secondRefs_sub (U11 m d), held_second, U11_p, U11_q,
    U11_other m d (Proc.devRef .tc main_v43) (by decide) (by decide), U11_other m d (Proc.devRef .tc main_v44) (by decide) (by decide),
    U11_other m d (Proc.devRef .tc main_v40) (by decide) (by decide),
    held_congr (d.tc : Thread nD τ) (S := Pipeline.ucRefs τ sig \ secondRefs) (V := U11 m d) (V' := U10 m d) fun b hb => U11_other m d b
      (fun e => (Finset.mem_sdiff.mp hb).2 (by rw [e]; decide)) (fun e => (Finset.mem_sdiff.mp hb).2 (by rw [e]; decide))]

end Second

/-! ## The launch element of the certificate's ghost state -/

/-- Any number of empty resources are empty. -/
theorem emps {I : Type} (s : Finset I) : (bigSep s fun _ => iprop(emp)) = (iprop(emp) : sProp 𝕄) := bigSep_emp_const s

/-- The launch's ghost state deals out the handshakes' tokens and what the TensorCores start with. -/
theorem hu₀ : (ownU (u₀ (F := Ideal)) : sProp 𝕄)
    ⊢ |={Set.univ}=> iprop(BI.own (EH (initOf (K (F := Ideal)).hsCells (K (F := Ideal)).hsToks)) ∗ (bigSep Finset.univ fun d : Dev nD => ghost (F := Ideal) d)
        ∗ bigSep Finset.univ fun thr : Thread nD τ => bigSep Finset.univ fun q : Fin 2 => (P m).x q thr) := by
  iintro Hu
  imod (deal (F := Ideal)) $$ Hu with ⟨HH, HG⟩
  imodintro
  isplitl [HH]; · iexact HH
  isplitl [HG]; · iexact HG
  rw [show (bigSep Finset.univ fun thr : Thread nD τ => bigSep Finset.univ fun q : Fin 2 => (P m).x q thr) = bigSep Finset.univ fun _ => iprop(emp) from
    bigSep_congr fun _ _ => emps _, emps]
  iempintro

/-! ## @main on the TensorCore -/

/-- The TensorCore before call `n`, with what it owes apart from its place among the calls. -/
theorem tcSt_split (d : Dev nD) (n : ℕ) : ∃ A : sProp 𝕄, (K (F := Ideal)).tcSt EH d n = iprop(debt (F := Ideal) d n ∗ A) := ⟨_, rfl⟩

/-- What the TensorCore of `d` holds at the end. -/
abbrev FIN (d : Dev nD) : sProp 𝕄 := held (d.tc : Thread nD τ) (Pipeline.ucRefs τ sig) (U12 m d)

/-- @main on device `d`'s TensorCore: every buffer is kept, at `U12` in the end. -/
theorem hmain (κ : GSem nD τ sig → ℕ) (d : Dev nD) :
    iprop((K (F := Ideal)).ctx EH (P m) κ ∗ (K (F := Ideal)).tcSt EH d 0 ∗ (K (F := Ideal)).tcRes m ρ d ∗ ghost (F := Ideal) d)
      ⊢ wp frame (wpE ((K (F := Ideal)).defs DI) 𝒱 (SparseCore.T d) none) Set.univ (main d)
          fun _ => iprop((K (F := Ideal)).tcSt EH d 2 ∗ FIN m d ∗ (K (F := Ideal)).tcEnd d) := by
  obtain ⟨A0, hA0⟩ := tcSt_split d 0
  obtain ⟨A1, hA1⟩ := tcSt_split d 1
  have hg : (ghost (F := Ideal) d : sProp 𝕄)
      = iprop((Pipeline.cellsGhost (Pipeline.pin (pcfgs (F := Ideal)) adm) EP 0 d ∗ Pipeline.toksInit (Pipeline.pin (pcfgs (F := Ideal)) adm) EP 0 d)
        ∗ (Pipeline.cellsGhost (Pipeline.pin (pcfgs (F := Ideal)) adm) EP 1 d ∗ Pipeline.toksInit (Pipeline.pin (pcfgs (F := Ideal)) adm) EP 1 d)) := BI.bigSep_fin_two _
  unfold SparseCore.Cfg.tcRes SparseCore.Cfg.tcEnd
  rw [show (unscopedBufs d fun b => m ((SparseCore.T d).loc b) : sProp 𝕄) = held (d.tc : Thread nD τ) (Pipeline.ucRefs τ sig) (U0 m d) from
    Pipeline.unscopedBufs_held d (launchContents m d), main_eq, hA0, hg]
  iintro ⟨#Hctx, ⟨HO, HA⟩, ⟨Hb, Hh, Hts, -⟩, ⟨Hg0, Ht0⟩, Hg1, Ht1⟩
  ihave #Hlev := ((K (F := Ideal)).ctx_levAts (EH := EH) (P := P m) κ) $$ Hctx
  iapply (region_run (reg0 m) d 0 (U0 m d) (U1 m d) rfl rfl)
  isplitr; · iexact Hlev
  isplitl [Hb]; · iexact Hb
  isplitl [Hh]; · iexact Hh
  isplitl [HO]; · iexact HO
  isplitl [Hg0]; · iexact Hg0
  isplitl [Ht0]; · iexact Ht0
  iintro ⟨Hb, Hh, HO⟩
  iapply (wp_seq 𝒱 none Set.univ d (Pipeline.ucRefs τ sig) _ opsSeg opsSeg_sub opsSeg_fresh (U1 m d)) $$ [Hb Hh]
  · isplitl [Hb]; · iexact Hb
    iexact Hh
  iintro ⟨Hb, Hh⟩
  iapply (wp_seq 𝒱 none Set.univ d (Pipeline.ucRefs τ sig) _ opsDiv opsDiv_sub opsDiv_fresh (U2 m d)) $$ [Hb Hh]
  · isplitl [Hb]; · iexact Hb
    iexact Hh
  iintro ⟨Hb, Hh⟩
  iapply (wp_seq 𝒱 none Set.univ d (Pipeline.ucRefs τ sig) _ opsRow opsRow_sub opsRow_fresh (U3 m d)) $$ [Hb Hh]
  · isplitl [Hb]; · iexact Hb
    iexact Hh
  iintro ⟨Hb, Hh⟩
  iapply (wp_seq 𝒱 none Set.univ d (Pipeline.ucRefs τ sig) _ opsRem opsRem_sub opsRem_fresh (U4 m d)) $$ [Hb Hh]
  · isplitl [Hb]; · iexact Hb
    iexact Hh
  iintro ⟨Hb, Hh⟩
  iapply (wp_seq 𝒱 none Set.univ d (Pipeline.ucRefs τ sig) _ opsTable opsTable_sub opsTable_fresh (U5 m d)) $$ [Hb Hh]
  · isplitl [Hb]; · iexact Hb
    iexact Hh
  iintro ⟨Hb, Hh⟩
  ihave Hh' := (Entails.of_eq ((show (held (d.tc : Thread nD τ) (Pipeline.ucRefs τ sig) (after opsTable (U5 m d)) : sProp 𝕄)
    = held (d.tc : Thread nD τ) (Pipeline.ucRefs τ sig) (U6 m d) from rfl).trans <| (held_sub_split (d.tc : Thread nD τ) firstRefs_sub (U6 m d)).trans
    (congrArg (fun z => iprop(z ∗ held (d.tc : Thread nD τ) (Pipeline.ucRefs τ sig \ firstRefs) (U6 m d))) (held_first d (U6 m d))))) $$ Hh
  icases Hh' with ⟨⟨Ha, Hl, Hp⟩, Hrest⟩
  rw [wp_bind]
  iapply ((K (F := Ideal)).wp_run DI 𝒱 (EH := EH) (P := P m) κ d 0) $$ [HO HA Ha Hl Hp Hb Hts Hrest Hg1 Ht1]
  isplitr; · iexact Hctx
  isplitl [HO HA]
  · iapply (Entails.of_eq hA0.symm)
    isplitl [HO] <;> iassumption
  isplitl [Ha Hl Hp]
  · rw [st0_eq]
    isplitl [Ha Hl]
    · isplitl [Ha]; · iexact Ha
      iexact Hl
    iexact Hp
  iintro ⟨Hst, Hdn⟩
  ihave Hdn' := (Entails.of_eq (dn0_eq m d)) $$ Hdn
  icases Hdn' with ⟨⟨Ha, Hl⟩, Hp⟩
  iapply (wp_seq 𝒱 none Set.univ d (Pipeline.ucRefs τ sig) _ opsCand opsCand_sub opsCand_fresh (U7 m d)) $$ [Hb Ha Hl Hp Hrest]
  · isplitl [Hb]; · iassumption
    iapply (Entails.of_eq (first_back m d))
    isplitl [Ha Hl Hp]
    · isplitl [Ha]; · iexact Ha
      isplitl [Hl]; · iexact Hl
      iexact Hp
    iexact Hrest
  iintro ⟨Hb, Hh⟩
  ihave Hst' := (Entails.of_eq (show ((K (F := Ideal)).tcSt EH d ((0 : Fin 2).val + 1) : sProp 𝕄) = iprop(debt (F := Ideal) d 1 ∗ A1) from hA1)) $$ Hst
  icases Hst' with ⟨HO, HA⟩
  iapply (region_run (reg1 m) d 1 (U8 m d) (U9 m d) rfl rfl)
  isplitr; · iexact Hlev
  isplitl [Hb]; · iexact Hb
  isplitl [Hh]; · iexact Hh
  isplitl [HO]; · iexact HO
  isplitl [Hg1]; · iexact Hg1
  isplitl [Ht1]; · iexact Ht1
  iintro ⟨Hb, Hh, HO⟩
  iapply (wp_seq 𝒱 none Set.univ d (Pipeline.ucRefs τ sig) _ opsList opsList_sub opsList_fresh (U9 m d)) $$ [Hb Hh]
  · isplitl [Hb]; · iexact Hb
    iexact Hh
  iintro ⟨Hb, Hh⟩
  ihave Hh' := (Entails.of_eq ((show (held (d.tc : Thread nD τ) (Pipeline.ucRefs τ sig) (after opsList (U9 m d)) : sProp 𝕄)
    = held (d.tc : Thread nD τ) (Pipeline.ucRefs τ sig) (U10 m d) from rfl).trans <| (held_sub_split (d.tc : Thread nD τ) secondRefs_sub (U10 m d)).trans
    (congrArg (fun z => iprop(z ∗ held (d.tc : Thread nD τ) (Pipeline.ucRefs τ sig \ secondRefs) (U10 m d))) (held_second d (U10 m d))))) $$ Hh
  icases Hh' with ⟨⟨Ha, Hbb, Hl, Hp, Hq⟩, Hrest⟩
  rw [wp_bind]
  iapply ((K (F := Ideal)).wp_run DI 𝒱 (EH := EH) (P := P m) κ d 1) $$ [HO HA Ha Hbb Hl Hp Hq Hb Hts Hrest]
  isplitr; · iexact Hctx
  isplitl [HO HA]
  · iapply (Entails.of_eq hA1.symm)
    isplitl [HO] <;> iassumption
  isplitl [Ha Hbb Hl Hp Hq]
  · rw [st1_eq]
    isplitl [Ha Hbb Hl]
    · isplitl [Ha]; · iexact Ha
      isplitl [Hbb]; · iexact Hbb
      iexact Hl
    isplitl [Hp]; · iexact Hp
    iexact Hq
  iintro ⟨Hst, Hdn⟩
  ihave Hdn' := (Entails.of_eq (dn1_eq m d)) $$ Hdn
  icases Hdn' with ⟨⟨Ha, Hbb, Hl⟩, Hp, Hq⟩
  iapply (wp_seq 𝒱 none Set.univ d (Pipeline.ucRefs τ sig) _ opsOut opsOut_sub opsOut_fresh (U11 m d)) $$ [Hb Ha Hbb Hl Hp Hq Hrest]
  · isplitl [Hb]; · iassumption
    iapply (Entails.of_eq (second_back m d))
    isplitl [Ha Hbb Hl Hp Hq]
    · isplitl [Ha]; · iexact Ha
      isplitl [Hbb]; · iexact Hbb
      isplitl [Hl]; · iexact Hl
      isplitl [Hp]; · iexact Hp
      iexact Hq
    iexact Hrest
  iintro ⟨Hb, Hh⟩
  rw [wp_pure]
  imodintro
  isplitl [Hst]; · iexact Hst
  isplitl [Hh]; · iexact Hh
  isplitl [Hb] <;> iassumption

/-! ## The end -/

/-- Every buffer of the TensorCore of `d` has the contents of the end. -/
def fq (d : Dev nD) (s' : Phys nD τ sig (Elt Ideal)) : Prop := ∀ b ∈ Pipeline.ucRefs τ sig, s'.mem.mem (d, b) = U12 m d b

/-- What the TensorCore holds at the end fixes the contents of its buffers. -/
theorem hfin (d : Dev nD) (s' : Phys nD τ sig (Elt Ideal)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro; exact h

/-- Every buffer of the TensorCore ends at `U12`, and every semaphore at zero. -/
def QC : PUnit × MemSt nD τ sig (Elt Ideal) → Prop := fun r =>
  (∀ c : Dev nD, ∀ b ∈ Pipeline.ucRefs τ sig, r.2.mem (c, b) = U12 m c b) ∧ r.2.sem = fun _ => 0

/-- THE RUN: both lists in range, every execution of the program ends at `QC`. -/
theorem run_main (h1 : G1.InRange (U6 m)) (h2 : G2.InRange (U10 m)) :
    θ_run (Cert.KernelIdeal.defs (F := Ideal)) (Cert.KernelIdeal.threads (F := Ideal)) ⟨m, fun _ => 0, ρ⟩ (QC m) :=
  SparseCore.Cfg.θ_run_sc_quiescent (K := KI) (D := DI) (𝒱 := 𝒱) (EH := EH) (P := P m) (A := ∅) facts v₀
    (fun q hq => match q with | 0 => nomatch hq | 1 => nomatch hq)
    (fun q _ => match q with | 0 => tileObl0 m facts h1 | 1 => tileObl1 m facts h2)
    (fun q _ => match q with | 0 => SparseCore.Cfg.VecSplit.of_plain (vecSplit0 m) | 1 => SparseCore.Cfg.VecSplit.of_plain (vecSplit1 m))
    m ρ main (fun d => ghost (F := Ideal) d) (FIN m) (u₀ (F := Ideal)) (sep_elim_left.trans (hu₀ m)) (hmain m ρ) (fq m) (hfin m) (QC m) (fun _ h hz => ⟨h, hz⟩)

end Cert.Proof.KSc

end
-- ==== Proof.KSeg.lean ====
/-
  WHAT THE HOST COMPUTES BETWEEN THE CALLS of the whole kernel's program, at the contents `U1 … U12`: the list of row
  numbers and the padded table of the first SparseCore call, the candidates and their numbers that the second TensorCore
  call reads, the list and the padded arrays of the second SparseCore call, and the results.
-/
module

public import proofs.«01_k».proof.Proof.KHost
public import Idealize.ShloMosaic.Lib.Pipeline.Value

@[expose] public section

noncomputable section

namespace Cert.Proof.KSc

open Cert.KernelIdeal Cert.KernelIdeal.Gen

open Idealize.ShloMosaic
open Idealize.ShloMosaic.StableHlo
open Idealize.SL.Sem

variable (m : (ℓ : Loc nD τ sig) → Buf (Elt Ideal) ℓ)

/-! ## The words -/

/-- The word 64 everywhere. -/
abbrev six4 : IVec S4x128x32 32 := broadcastInDim S4x128x32 ![] bcast_S_S4x128x32 (constantI S_ 32 64#32)
/-- The word 0 everywhere. -/
abbrev zeros : IVec S4x128x32 32 := broadcastInDim S4x128x32 ![] bcast_S_S4x128x32 (constantI S_ 32 0#32)
/-- The word 1 everywhere. -/
abbrev ones : IVec S4x128x32 32 := broadcastInDim S4x128x32 ![] bcast_S_S4x128x32 (constantI S_ 32 1#32)

/-- The quotient by 64, rounded down, as the host computes it. -/
def quotA (sg : IVec S4x128x32 32) : IVec S4x128x32 32 :=
  select (andi (cmpi .ne (signi sg) (broadcastInDim S4x128x32 ![] bcast_S_S4x128x32 (signi (constantI S_ 32 64#32)))) (cmpi .ne (Host.remsi sg six4) zeros))
    (subi (Host.divsi sg six4) ones) (Host.divsi sg six4)

/-- The divisor of the remainder: 64, since 64 is not zero. -/
abbrev modulus : IVec S_ 32 := select (cmpi .eq (constantI S_ 32 64#32) (constantI S_ 32 0#32)) (constantI S_ 32 1#32) (constantI S_ 32 64#32)
/-- The remainder by 64 before its sign is mended. -/
abbrev remRaw (sg : IVec S4x128x32 32) : IVec S4x128x32 32 := Host.remsi sg (broadcastInDim S4x128x32 ![] bcast_S_S4x128x32 modulus)

/-- The remainder by 64, as the host computes it. -/
def remA (sg : IVec S4x128x32 32) : IVec S4x128x32 32 :=
  select (andi (cmpi .ne (cmpi .slt (remRaw sg) zeros) (broadcastInDim S4x128x32 ![] bcast_S_S4x128x32 (cmpi .slt modulus (constantI S_ 32 0#32)))) (cmpi .ne (remRaw sg) zeros))
    (addi (remRaw sg) (broadcastInDim S4x128x32 ![] bcast_S_S4x128x32 modulus)) (remRaw sg)

/-- At a segment number below 2048 the host's quotient is the number over 64, rounded down. -/
theorem quotA_at (sg : IVec S4x128x32 32) (j : S4x128x32.Idx) (s : ℕ) (hs : s < 2048) (h : sg j = BitVec.ofNat 32 s) : quotA sg j = BitVec.ofNat 32 (s / 64) := by
  have e : quotA sg j = quotA (fun _ => sg j) (ix3 0 0 0) := rfl
  rw [e, h]
  exact (by decide +kernel : ∀ n : Fin 2048, quotA (fun _ => BitVec.ofNat 32 n.val) (ix3 0 0 0) = BitVec.ofNat 32 (n.val / 64)) ⟨s, hs⟩
/-- At a segment number below 2048 the host's remainder is the number's remainder by 64. -/
theorem remA_at (sg : IVec S4x128x32 32) (j : S4x128x32.Idx) (s : ℕ) (hs : s < 2048) (h : sg j = BitVec.ofNat 32 s) : remA sg j = BitVec.ofNat 32 (s % 64) := by
  have e : remA sg j = remA (fun _ => sg j) (ix3 0 0 0) := rfl
  rw [e, h]
  exact (by decide +kernel : ∀ n : Fin 2048, remA (fun _ => BitVec.ofNat 32 n.val) (ix3 0 0 0) = BitVec.ofNat 32 (n.val % 64)) ⟨s, hs⟩

/-- The row number of a chosen segment in the table of segments. -/
def rowA (sg : IVec S4x128x32 32) : IVec S4x128x32 32 := fun j =>
  ((BitVec.ofNat 32 (j 0).val * 25#32 + quotA sg j) * 128#32 + BitVec.ofNat 32 (j 1).val) * 64#32 + remA sg j

/-- The number of each candidate. -/
def candA (sg : IVec S4x128x32 32) : IVec S4x128x32x32 32 := fun j => sg (ix3 (j 0) (j 1) (j 2)) * 32#32 + BitVec.ofNat 32 (j 3).val

/-- The row number of each result in the two arrays. -/
def flatA (ix : IVec S4x128x32 32) : IVec S4x128x32 32 := fun j => ix j + BitVec.ofNat 32 (j 0).val * 50000#32

/-! ## The contents, list by list -/

/-- The chosen segments that the first TensorCore call leaves. -/
abbrev sgs (d : Dev nD) : IVec S4x128x32 32 := R0.segs (atTc (U0 m)) d

/-- The chosen segments, after the first list of operations. -/
theorem U2_v0_1 (d : Dev nD) : U2 m d (Proc.devRef .tc main_v0_1) = sgs m d := by
  refine Eq.trans (b := U1 m d (Proc.devRef .tc main_v0_1)) ?_ (U1_1 m d)
  unfold U2; after_results_simp <;> rfl
/-- The logits, after the first list of operations. -/
theorem U2_v0_0 (d : Dev nD) : U2 m d (Proc.devRef .tc main_v0_0) = R0.logits (atTc (U0 m)) d := by
  refine Eq.trans (b := U1 m d (Proc.devRef .tc main_v0_0)) ?_ (U1_0 m d)
  unfold U2; after_results_simp <;> rfl
/-- The token numbers. -/
theorem U2_v4 (d : Dev nD) : U2 m d (Proc.devRef .tc main_v4) = broadcastInDim S1x128x1 ![1] bcast_S128_S1x128x1_1 (iotaInDim S128 32 0) := by
  unfold U2; after_results_simp <;> rfl
/-- 25 times the batch numbers. -/
theorem U2_v6 (d : Dev nD) : U2 m d (Proc.devRef .tc main_v6) = muli (broadcastInDim S4x1x1 ![0] bcast_S4_S4x1x1_0 (iotaInDim S4 32 0)) (broadcastInDim S4x1x1 ![] bcast_S_S4x1x1 (constantI S_ 32 25#32)) := by
  unfold U2; after_results_simp <;> rfl
/-- The divisor of the quotient. -/
theorem U2_c_0 (d : Dev nD) : U2 m d (Proc.devRef .tc main_c_0) = constantI S_ 32 64#32 := by
  unfold U2; after_results_simp <;> rfl

set_option maxHeartbeats 4000000 in
/-- The tile of each chosen segment: its number's quotient by 64. -/
theorem U3_v7 (d : Dev nD) : U3 m d (Proc.devRef .tc main_v7) = quotA (sgs m d) := by
  unfold quotA
  rw [← U2_v0_1 m d, ← U2_c_0 m d]
  unfold U3; after_results_simp
  simp only [TRef.ofBuf_toBuf, id_eq]
  rfl
/-- The chosen segments, after the division. -/
theorem U3_v0_1 (d : Dev nD) : U3 m d (Proc.devRef .tc main_v0_1) = sgs m d := by
  refine Eq.trans (b := U2 m d (Proc.devRef .tc main_v0_1)) ?_ (U2_v0_1 m d)
  unfold U3; after_results_simp <;> rfl
/-- The logits, after the division. -/
theorem U3_v0_0 (d : Dev nD) : U3 m d (Proc.devRef .tc main_v0_0) = R0.logits (atTc (U0 m)) d := by
  refine Eq.trans (b := U2 m d (Proc.devRef .tc main_v0_0)) ?_ (U2_v0_0 m d)
  unfold U3; after_results_simp <;> rfl
/-- The token numbers are kept through the division. -/
theorem U3_v4 (d : Dev nD) : U3 m d (Proc.devRef .tc main_v4) = U2 m d (Proc.devRef .tc main_v4) := by
  unfold U3; after_results_simp <;> rfl
/-- The multiples of the batch numbers are kept through the division. -/
theorem U3_v6 (d : Dev nD) : U3 m d (Proc.devRef .tc main_v6) = U2 m d (Proc.devRef .tc main_v6) := by
  unfold U3; after_results_simp <;> rfl

/-- The number of the first segment of the tile and token that a chosen segment is of. -/
theorem U4_v15 (d : Dev nD) : U4 m d (Proc.devRef .tc main_v15) = fun j : S4x128x32.Idx =>
    ((BitVec.ofNat 32 (j 0).val * 25#32 + quotA (sgs m d) j) * 128#32 + BitVec.ofNat 32 (j 1).val) * 64#32 := by
  have h : U4 m d (Proc.devRef .tc main_v15) = muli (addi (muli (addi
        (broadcastInDim S4x128x32 ![0, 1, 2] bcast_S4x1x1_S4x128x32_0_1_2 (U3 m d (Proc.devRef .tc main_v6) : IVec S4x1x1 32)) (U3 m d (Proc.devRef .tc main_v7) : IVec S4x128x32 32))
        (broadcastInDim S4x128x32 ![] bcast_S_S4x128x32 (constantI S_ 32 128#32)))
        (broadcastInDim S4x128x32 ![0, 1, 2] bcast_S1x128x1_S4x128x32_0_1_2 (U3 m d (Proc.devRef .tc main_v4) : IVec S1x128x1 32))) six4 := by
    unfold U4; after_results_simp <;> rfl
  rw [h, U3_v7, U3_v6, U3_v4, U2_v6, U2_v4]
  rfl
/-- The chosen segments, after the operations on the quotient. -/
theorem U4_v0_1 (d : Dev nD) : U4 m d (Proc.devRef .tc main_v0_1) = sgs m d := by
  refine Eq.trans (b := U3 m d (Proc.devRef .tc main_v0_1)) ?_ (U3_v0_1 m d)
  unfold U4; after_results_simp <;> rfl
/-- The logits, after the operations on the quotient. -/
theorem U4_v0_0 (d : Dev nD) : U4 m d (Proc.devRef .tc main_v0_0) = R0.logits (atTc (U0 m)) d := by
  refine Eq.trans (b := U3 m d (Proc.devRef .tc main_v0_0)) ?_ (U3_v0_0 m d)
  unfold U4; after_results_simp <;> rfl
/-- The divisor of the remainder. -/
theorem U4_c_3 (d : Dev nD) : U4 m d (Proc.devRef .tc main_c_3) = constantI S_ 32 64#32 := by
  unfold U4; after_results_simp <;> rfl

set_option maxHeartbeats 4000000 in
/-- The place of each chosen segment in its tile: its number's remainder by 64. -/
theorem U5_v16 (d : Dev nD) : U5 m d (Proc.devRef .tc main_v16) = remA (sgs m d) := by
  unfold remA remRaw modulus
  rw [← U4_v0_1 m d, ← U4_c_3 m d]
  unfold U5; after_results_simp
  simp only [TRef.ofBuf_toBuf, id_eq]
  rfl
/-- The first segments' numbers are kept through the remainder. -/
theorem U5_v15 (d : Dev nD) : U5 m d (Proc.devRef .tc main_v15) = U4 m d (Proc.devRef .tc main_v15) := by
  unfold U5; after_results_simp <;> rfl
/-- The chosen segments, after the remainder. -/
theorem U5_v0_1 (d : Dev nD) : U5 m d (Proc.devRef .tc main_v0_1) = sgs m d := by
  refine Eq.trans (b := U4 m d (Proc.devRef .tc main_v0_1)) ?_ (U4_v0_1 m d)
  unfold U5; after_results_simp <;> rfl
/-- The logits, after the remainder. -/
theorem U5_v0_0 (d : Dev nD) : U5 m d (Proc.devRef .tc main_v0_0) = R0.logits (atTc (U0 m)) d := by
  refine Eq.trans (b := U4 m d (Proc.devRef .tc main_v0_0)) ?_ (U4_v0_0 m d)
  unfold U5; after_results_simp <;> rfl

/-- The first SparseCore call's list. -/
theorem U6_list (d : Dev nD) : G1.wL (U6 m) d = shapeCast S16384 (rowA (sgs m d)) shapeCasts_S4x128x32_S16384 := by
  have h : G1.wL (U6 m) d = shapeCast S16384 (addi (U5 m d (Proc.devRef .tc main_v15) : IVec S4x128x32 32) (U5 m d (Proc.devRef .tc main_v16) : IVec S4x128x32 32)) shapeCasts_S4x128x32_S16384 := by
    unfold U6; after_results_simp <;> rfl
  rw [h, U5_v16, U5_v15, U4_v15]
  rfl
/-- The first SparseCore call's table. -/
theorem U6_table (d : Dev nD) : G1.wA (U6 m) d = pad S819200x128 ![0, 0] ![0, 96] ![0, 0] (shapeCast S819200x32 (R0.logits (atTc (U0 m)) d) shapeCasts_S4x25x128x2048_S819200x32)
      (sitofp (F := Ideal) .f32 (constantI S_ 32 0#32)) pads_S819200x32_S819200x128_000_0960 h_S_ := by
  rw [← U5_v0_0 m d]
  unfold U6; after_results_simp <;> rfl
/-- The chosen segments, before the first SparseCore call. -/
theorem U6_v0_1 (d : Dev nD) : U6 m d (Proc.devRef .tc main_v0_1) = sgs m d := by
  refine Eq.trans (b := U5 m d (Proc.devRef .tc main_v0_1)) ?_ (U5_v0_1 m d)
  unfold U6; after_results_simp <;> rfl

/-- The candidates that the second TensorCore call reads. -/
theorem U8_v23 (d : Dev nD) : U8 m d (Proc.devRef .tc main_v23) = shapeCast S4x128x1024 (extractStridedSlice S16384x32 ![0, 0]
    (G1.gP (U6 m) d : S16384x128.Idx → Elt Ideal .f32) slices_S16384x128_S16384x32_0_0) shapeCasts_S16384x32_S4x128x1024 := by
  rw [← U7_p m d]
  unfold U8; after_results_simp <;> rfl
/-- Their numbers. -/
theorem U8_v32 (d : Dev nD) : U8 m d (Proc.devRef .tc main_v32) = shapeCast S4x128x1024 (candA (sgs m d)) shapeCasts_S4x128x32x32_S4x128x1024 := by
  have h : U8 m d (Proc.devRef .tc main_v32) = shapeCast S4x128x1024 (addi
      (broadcastInDim S4x128x32x32 ![0, 1, 2, 3] bcast_S4x128x32x1_S4x128x32x32_0_1_2_3
        (muli (broadcastInDim S4x128x32x1 ![0, 1, 2] bcast_S4x128x32_S4x128x32x1_0_1_2 (U7 m d (Proc.devRef .tc main_v0_1) : IVec S4x128x32 32))
          (broadcastInDim S4x128x32x1 ![] bcast_S_S4x128x32x1 (constantI S_ 32 32#32))))
      (broadcastInDim S4x128x32x32 ![0, 1, 2, 3] bcast_S1x1x1x32_S4x128x32x32_0_1_2_3 (broadcastInDim S1x1x1x32 ![3] bcast_S32_S1x1x1x32_3 (iotaInDim S32 32 0))))
      shapeCasts_S4x128x32x32_S4x128x1024 := by
    unfold U8; after_results_simp <;> rfl
  rw [h, U7_other m d _ (by decide), U6_v0_1]
  refine congrArg (fun x => shapeCast S4x128x1024 x shapeCasts_S4x128x32x32_S4x128x1024) (funext fun j => ?_)
  exact congrArg (fun i => sgs m d i * 32#32 + BitVec.ofNat 32 (j 3).val) (funext fun a => match a with | ⟨0, _⟩ => rfl | ⟨1, _⟩ => rfl | ⟨2, _⟩ => rfl)

/-- The arguments keep their contents through the calls and the host's lines before the second list. -/
theorem U9_arg0 (d : Dev nD) : U9 m d (Proc.devRef .tc main_arg0) = m ((d.tc : Thread nD τ).loc main_arg0) := by
  rw [U9_other m d _ (by decide)]
  have h8 : U8 m d (Proc.devRef .tc main_arg0) = U7 m d (Proc.devRef .tc main_arg0) := by unfold U8; after_results_simp <;> rfl
  have h6 : U6 m d (Proc.devRef .tc main_arg0) = U5 m d (Proc.devRef .tc main_arg0) := by unfold U6; after_results_simp <;> rfl
  have h5 : U5 m d (Proc.devRef .tc main_arg0) = U4 m d (Proc.devRef .tc main_arg0) := by unfold U5; after_results_simp <;> rfl
  have h4 : U4 m d (Proc.devRef .tc main_arg0) = U3 m d (Proc.devRef .tc main_arg0) := by unfold U4; after_results_simp <;> rfl
  have h3 : U3 m d (Proc.devRef .tc main_arg0) = U2 m d (Proc.devRef .tc main_arg0) := by unfold U3; after_results_simp <;> rfl
  have h2 : U2 m d (Proc.devRef .tc main_arg0) = U1 m d (Proc.devRef .tc main_arg0) := by unfold U2; after_results_simp <;> rfl
  rw [h8, U7_other m d _ (by decide), h6, h5, h4, h3, h2, U1_other m d _ (by decide) (by decide)]
  rfl
/-- The second argument is unchanged before the second list. -/
theorem U9_arg1 (d : Dev nD) : U9 m d (Proc.devRef .tc main_arg1) = m ((d.tc : Thread nD τ).loc main_arg1) := by
  rw [U9_other m d _ (by decide)]
  have h8 : U8 m d (Proc.devRef .tc main_arg1) = U7 m d (Proc.devRef .tc main_arg1) := by unfold U8; after_results_simp <;> rfl
  have h6 : U6 m d (Proc.devRef .tc main_arg1) = U5 m d (Proc.devRef .tc main_arg1) := by unfold U6; after_results_simp <;> rfl
  have h5 : U5 m d (Proc.devRef .tc main_arg1) = U4 m d (Proc.devRef .tc main_arg1) := by unfold U5; after_results_simp <;> rfl
  have h4 : U4 m d (Proc.devRef .tc main_arg1) = U3 m d (Proc.devRef .tc main_arg1) := by unfold U4; after_results_simp <;> rfl
  have h3 : U3 m d (Proc.devRef .tc main_arg1) = U2 m d (Proc.devRef .tc main_arg1) := by unfold U3; after_results_simp <;> rfl
  have h2 : U2 m d (Proc.devRef .tc main_arg1) = U1 m d (Proc.devRef .tc main_arg1) := by unfold U2; after_results_simp <;> rfl
  rw [h8, U7_other m d _ (by decide), h6, h5, h4, h3, h2, U1_other m d _ (by decide) (by decide)]
  rfl
/-- The third argument is unchanged before the second list. -/
theorem U9_arg2 (d : Dev nD) : U9 m d (Proc.devRef .tc main_arg2) = m ((d.tc : Thread nD τ).loc main_arg2) := by
  rw [U9_other m d _ (by decide)]
  have h8 : U8 m d (Proc.devRef .tc main_arg2) = U7 m d (Proc.devRef .tc main_arg2) := by unfold U8; after_results_simp <;> rfl
  have h6 : U6 m d (Proc.devRef .tc main_arg2) = U5 m d (Proc.devRef .tc main_arg2) := by unfold U6; after_results_simp <;> rfl
  have h5 : U5 m d (Proc.devRef .tc main_arg2) = U4 m d (Proc.devRef .tc main_arg2) := by unfold U5; after_results_simp <;> rfl
  have h4 : U4 m d (Proc.devRef .tc main_arg2) = U3 m d (Proc.devRef .tc main_arg2) := by unfold U4; after_results_simp <;> rfl
  have h3 : U3 m d (Proc.devRef .tc main_arg2) = U2 m d (Proc.devRef .tc main_arg2) := by unfold U3; after_results_simp <;> rfl
  have h2 : U2 m d (Proc.devRef .tc main_arg2) = U1 m d (Proc.devRef .tc main_arg2) := by unfold U2; after_results_simp <;> rfl
  rw [h8, U7_other m d _ (by decide), h6, h5, h4, h3, h2, U1_other m d _ (by decide) (by decide)]
  rfl

/-- The indices that the second TensorCore call leaves. -/
abbrev inds (d : Dev nD) : IVec S4x128x32 32 := R2.indices (atTc (U8 m)) d

/-- The second SparseCore call's list and tables. -/
theorem U10_list (d : Dev nD) : G2.wL (U10 m) d = shapeCast S16384 (flatA (inds m d)) shapeCasts_S4x128x32_S16384 := by
  have h : G2.wL (U10 m) d = shapeCast S16384 (addi (U9 m d (Proc.devRef .tc main_v33) : IVec S4x128x32 32) (broadcastInDim S4x128x32 ![0, 1, 2] bcast_S4x1x1_S4x128x32_0_1_2
      (muli (broadcastInDim S4x1x1 ![0] bcast_S4_S4x1x1_0 (iotaInDim S4 32 0)) (broadcastInDim S4x1x1 ![] bcast_S_S4x1x1 (constantI S_ 32 50000#32)))))
      shapeCasts_S4x128x32_S16384 := by
    unfold U10; after_results_simp <;> rfl
  rw [h, U9_p]
  rfl
/-- The second SparseCore call's first table: the first argument's rows, 96 zero columns after them. -/
theorem U10_a (d : Dev nD) : G2.wA (U10 m) d = pad S200000x128 ![0, 0] ![0, 96] ![0, 0] (shapeCast S200000x32 (m ((d.tc : Thread nD τ).loc main_arg0) : S4x50000x32.Idx → Elt Ideal .f32) shapeCasts_S4x50000x32_S200000x32)
      (sitofp (F := Ideal) .f32 (constantI S_ 32 0#32)) pads_S200000x32_S200000x128_000_0960 h_S_ := by
  rw [← U9_arg0 m d]
  unfold U10; after_results_simp <;> rfl
/-- The second SparseCore call's second table: the second argument's rows, 96 zero columns after them. -/
theorem U10_b (d : Dev nD) : G2.wB (U10 m) d = pad S200000x128 ![0, 0] ![0, 96] ![0, 0] (shapeCast S200000x32 (m ((d.tc : Thread nD τ).loc main_arg1) : S4x50000x32.Idx → Elt Ideal .f32) shapeCasts_S4x50000x32_S200000x32)
      (sitofp (F := Ideal) .f32 (constantI S_ 32 0#32)) pads_S200000x32_S200000x128_000_0960 h_S_ := by
  rw [← U9_arg1 m d]
  unfold U10; after_results_simp <;> rfl

/-- The results. -/
theorem U12_v48 (d : Dev nD) : U12 m d (Proc.devRef .tc main_v48) = shapeCast S4x128x32x32 (extractStridedSlice S16384x32 ![0, 0]
      (G2.gP (U10 m) d : S16384x128.Idx → Elt Ideal .f32) slices_S16384x128_S16384x32_0_0) shapeCasts_S16384x32_S4x128x32x32 := by
  rw [← U11_p m d]
  unfold U12; after_results_simp <;> rfl
/-- The gathered rows of the second argument among the results, without the added columns. -/
theorem U12_v49 (d : Dev nD) : U12 m d (Proc.devRef .tc main_v49) = shapeCast S4x128x32x32 (extractStridedSlice S16384x32 ![0, 0]
      (G2.gQ (U10 m) d : S16384x128.Idx → Elt Ideal .f32) slices_S16384x128_S16384x32_0_0) shapeCasts_S16384x32_S4x128x32x32 := by
  rw [← U11_q m d]
  unfold U12; after_results_simp <;> rfl
/-- The batch numbers among the results. -/
theorem U12_v52 (d : Dev nD) : U12 m d (Proc.devRef .tc main_v52) = broadcastInDim S4x128x32 ![0, 1, 2] bcast_S4x1x1_S4x128x32_0_1_2
      (broadcastInDim S4x1x1 ![0] bcast_S4_S4x1x1_0 (iotaInDim S4 32 0)) := by
  unfold U12; after_results_simp <;> rfl
/-- The indices among the results are what the second TensorCore call leaves. -/
theorem U12_v33 (d : Dev nD) : U12 m d (Proc.devRef .tc main_v33) = inds m d := by
  have h12 : U12 m d (Proc.devRef .tc main_v33) = U11 m d (Proc.devRef .tc main_v33) := by unfold U12; after_results_simp <;> rfl
  have h10 : U10 m d (Proc.devRef .tc main_v33) = U9 m d (Proc.devRef .tc main_v33) := by unfold U10; after_results_simp <;> rfl
  rw [h12, U11_other m d _ (by decide) (by decide), h10, U9_p]
/-- The first argument is unchanged at the end. -/
theorem U12_arg0 (d : Dev nD) : U12 m d (Proc.devRef .tc main_arg0) = m ((d.tc : Thread nD τ).loc main_arg0) := by
  have h12 : U12 m d (Proc.devRef .tc main_arg0) = U11 m d (Proc.devRef .tc main_arg0) := by unfold U12; after_results_simp <;> rfl
  have h10 : U10 m d (Proc.devRef .tc main_arg0) = U9 m d (Proc.devRef .tc main_arg0) := by unfold U10; after_results_simp <;> rfl
  rw [h12, U11_other m d _ (by decide) (by decide), h10, U9_arg0]
/-- The second argument is unchanged at the end. -/
theorem U12_arg1 (d : Dev nD) : U12 m d (Proc.devRef .tc main_arg1) = m ((d.tc : Thread nD τ).loc main_arg1) := by
  have h12 : U12 m d (Proc.devRef .tc main_arg1) = U11 m d (Proc.devRef .tc main_arg1) := by unfold U12; after_results_simp <;> rfl
  have h10 : U10 m d (Proc.devRef .tc main_arg1) = U9 m d (Proc.devRef .tc main_arg1) := by unfold U10; after_results_simp <;> rfl
  rw [h12, U11_other m d _ (by decide) (by decide), h10, U9_arg1]
/-- The third argument is unchanged at the end. -/
theorem U12_arg2 (d : Dev nD) : U12 m d (Proc.devRef .tc main_arg2) = m ((d.tc : Thread nD τ).loc main_arg2) := by
  have h12 : U12 m d (Proc.devRef .tc main_arg2) = U11 m d (Proc.devRef .tc main_arg2) := by unfold U12; after_results_simp <;> rfl
  have h10 : U10 m d (Proc.devRef .tc main_arg2) = U9 m d (Proc.devRef .tc main_arg2) := by unfold U10; after_results_simp <;> rfl
  rw [h12, U11_other m d _ (by decide) (by decide), h10, U9_arg2]

end Cert.Proof.KSc

end
-- ==== Proof.KPick.lean ====
/-
  THE TWO-LEVEL SELECTION on 50000 extended reals, none of them the least: they are laid out in 2048 segments of 32, the
  32 greatest segments are chosen by their maxima, and the 32 greatest of the chosen segments' elements are, in order, the
  32 greatest of all. `pick_at` states it for what the two extraction loops leave.
-/
module

public import proofs.«01_k».proof.Proof.KSelect

@[expose] public section

noncomputable section

namespace Cert.Proof.KMath

/-- Renaming the members of a family renames their ranks. -/
theorem rank_equiv {ι κ : Type} [Fintype ι] [Fintype κ] (f : ι ≃ κ) (v : κ → EReal) (n : κ → ℕ) (e : ι) :
    rank (fun i => v (f i)) (fun i => n (f i)) e = rank v n (f e) := by
  classical
  unfold rank
  refine (Finset.card_image_of_injective _ f.injective).symm.trans (congrArg Finset.card ?_)
  ext x
  simp only [Finset.mem_image, Finset.mem_filter, Finset.mem_univ, true_and]
  constructor
  · rintro ⟨i, hi, rfl⟩; exact hi
  · intro h
    exact ⟨f.symm x, by unfold Prec at h ⊢; simpa only [Equiv.apply_symm_apply] using h, f.apply_symm_apply x⟩

variable (L : Fin 50000 → EReal)

/-- The 50000 in their segments, the least extended real after them. -/
def wide (x : Fin 2048 × Fin 32) : EReal := if h : key x < 50000 then L ⟨key x, h⟩ else ⊥

/-- A segment's maximum. -/
def segMax (s : Fin 2048) : EReal := (Finset.univ : Finset (Fin 32)).fold max ⊥ fun l => wide L (s, l)

/-- An element is at most its segment's maximum. -/
theorem wide_le (s : Fin 2048) (l : Fin 32) : wide L (s, l) ≤ segMax L s :=
  (Finset.le_fold_max _).2 (.inr ⟨l, Finset.mem_univ l, le_rfl⟩)

/-- Some element of a segment is its maximum. -/
theorem wide_at (s : Fin 2048) : ∃ l, wide L (s, l) = segMax L s := by
  obtain ⟨l, -, hl⟩ := Finset.exists_max_image (Finset.univ : Finset (Fin 32)) (fun l => wide L (s, l)) ⟨0, Finset.mem_univ 0⟩
  exact ⟨l, (KSc.fold_max_eq _ _ (fun i => hl i (Finset.mem_univ i)) ⟨l, rfl⟩).symm⟩

/-- At the place of node `i` the segments hold the value of `i`. -/
theorem wide_place (i : Fin 50000) : wide L (place i) = L i := by
  have h : key (place i) < 50000 := by rw [key_place]; exact i.isLt
  unfold wide
  rw [dif_pos h]
  exact congrArg L (Fin.ext (key_place i))

/-- Past the 50000 the segments hold the least extended real. -/
theorem wide_bot (x : Fin 2048 × Fin 32) (h : 50000 ≤ key x) : wide L x = ⊥ := dif_neg (by omega)

/-- The segment of each of the 32 greatest maxima. -/
def chosen (k : Fin 32) : Fin 2048 := (exists_rank (v := segMax L) (n := Fin.val) Fin.val_injective (r := k.val) (by have := k.isLt; simp; omega)).choose

/-- The `k`-th chosen segment is of rank `k` among the maxima. -/
theorem chosen_rank (k : Fin 32) : rank (segMax L) Fin.val (chosen L k) = k.val :=
  (exists_rank (v := segMax L) (n := Fin.val) Fin.val_injective (r := k.val) (by have := k.isLt; simp; omega)).choose_spec

/-- The chosen segments' elements and their positions. -/
abbrev cand (c : Fin 32 × Fin 32) : EReal := wide L (chosen L c.1, c.2)
/-- The positions of the chosen segments' elements. -/
abbrev candKey (c : Fin 32 × Fin 32) : ℕ := key (chosen L c.1, c.2)

/-- Two candidates at one position are one. -/
theorem candKey_inj : Function.Injective (candKey L) := fun a b h => by
  have h' := key_inj h
  have h1 := (Prod.ext_iff.mp h').1; have h2 := (Prod.ext_iff.mp h').2
  refine Prod.ext (Fin.ext ?_) h2
  have e : chosen L a.1 = chosen L b.1 := h1
  rw [← chosen_rank L a.1, ← chosen_rank L b.1, e]

/-- A candidate's position is below 65536. -/
theorem candKey_lt (c : Fin 32 × Fin 32) : candKey L c < 65536 := by
  have h1 := (chosen L c.1).isLt; have h2 := c.2.isLt
  show 32 * (chosen L c.1).val + c.2.val < 65536
  omega

variable (hL : ∀ i, L i ≠ ⊥)
include hL

/-- One of the 32 greatest is not the least extended real. -/
theorem wide_ne_bot (x : Fin 2048 × Fin 32) (hx : rank (wide L) key x < 32) : wide L x ≠ ⊥ := by
  classical
  have hinj : Function.Injective place := fun a b h => Fin.ext (by rw [← key_place a, h, key_place])
  refine value_ne_bot (n := key) (Finset.univ.image place) (fun j hj => ?_) (lt_of_lt_of_le hx ?_)
  · obtain ⟨i, -, rfl⟩ := Finset.mem_image.mp hj
    rw [wide_place]; exact hL i
  · rw [Finset.card_image_of_injective _ hinj, Finset.card_univ, Fintype.card_fin]; omega

/-- One of the 32 greatest maxima is not the least extended real. -/
theorem segMax_ne_bot (s : Fin 2048) (hs : rank (segMax L) Fin.val s < 32) : segMax L s ≠ ⊥ := by
  classical
  let f : Fin 32 → Fin 2048 := fun k => ⟨k.val, by have := k.isLt; omega⟩
  have hf : Function.Injective f := fun a b h => Fin.ext (Fin.ext_iff.mp h :)
  refine value_ne_bot (n := Fin.val) (Finset.univ.image f) (fun j hj => ?_) (lt_of_lt_of_le hs ?_)
  · obtain ⟨k, -, rfl⟩ := Finset.mem_image.mp hj
    have hk : 32 * k.val < 50000 := by have := k.isLt; omega
    have e : wide L ((⟨k.val, by have := k.isLt; omega⟩ : Fin 2048), (0 : Fin 32)) = L ⟨32 * k.val, hk⟩ := dif_pos (show 32 * k.val + 0 < 50000 by omega)
    have h := wide_le L ⟨k.val, by have := k.isLt; omega⟩ 0
    rw [e] at h
    exact fun h' => hL _ (le_bot_iff.mp (h' ▸ h))
  · rw [Finset.card_image_of_injective _ hf, Finset.card_univ, Fintype.card_fin]

/-- A chosen segment holds one of the 50000. -/
theorem chosen_lt (k : Fin 32) : (chosen L k).val < 1600 := by
  obtain ⟨l, hl⟩ := wide_at L (chosen L k)
  have hne := segMax_ne_bot L hL (chosen L k) (by rw [chosen_rank]; exact k.isLt)
  by_contra h
  refine hne (hl.symm.trans (wide_bot L _ ?_))
  show 50000 ≤ 32 * (chosen L k).val + l.val
  omega

/-- A candidate of rank below 32 among the candidates is of that rank among all. -/
theorem cand_rank (c : Fin 32 × Fin 32) (hc : rank (cand L) (candKey L) c < 32) :
    rank (wide L) key (chosen L c.1, c.2) = rank (cand L) (candKey L) c :=
  two_level (wide L) (segMax L) (wide_le L) (wide_at L) (chosen L) (chosen_rank L) c hc

/-- A candidate of rank below 32 is not the least extended real. -/
theorem cand_ne_bot (c : Fin 32 × Fin 32) (hc : rank (cand L) (candKey L) c < 32) : cand L c ≠ ⊥ :=
  wide_ne_bot L hL _ (by rw [cand_rank L hL c hc]; exact hc)

/-- The candidate of rank `k` is the element of rank `k`. -/
theorem cand_of_rank (i : Fin 50000) (k : Fin 32) (h : rank L Fin.val i = k.val) :
    ∃ c, rank (cand L) (candKey L) c = k.val ∧ candKey L c = i.val := by
  obtain ⟨c, hc⟩ := exists_rank (v := cand L) (candKey_inj L) (r := k.val) (by have := k.isLt; simp; omega)
  refine ⟨c, hc, ?_⟩
  have h1 := cand_rank L hL c (by rw [hc]; exact k.isLt)
  have h2 := rank_place (wide L) L hL (wide_place L) (wide_bot L) i
  have e := rank_inj key_inj (h1.trans (hc.trans (h.symm.trans h2.symm)))
  show key (chosen L c.1, c.2) = i.val
  rw [e, key_place]

end Cert.Proof.KMath

namespace Cert.Proof.KSc

open Cert.KernelIdeal Cert.KernelIdeal.Gen
open Idealize.ShloMosaic

/-- The number of a row and a column of 64. -/
def segEquiv : Fin 32 × Fin 64 ≃ Fin 2048 where
  toFun x := ⟨64 * x.1.val + x.2.val, by have := x.1.isLt; have := x.2.isLt; omega⟩
  invFun t := (⟨t.val / 64, by omega⟩, ⟨t.val % 64, by omega⟩)
  left_inv x := by ext <;> simp <;> omega
  right_inv t := by ext; simp; omega

/-- The number of a chosen segment and a lane. -/
def laneEquiv : Fin 1024 ≃ Fin 32 × Fin 32 where
  toFun t := (⟨t.val / 32, by omega⟩, ⟨t.val % 32, by omega⟩)
  invFun x := ⟨32 * x.1.val + x.2.val, by have := x.1.isLt; have := x.2.isLt; omega⟩
  left_inv t := by ext; simp; omega
  right_inv x := by ext <;> simp <;> omega

variable (L : Fin 50000 → EReal) (hL : ∀ i, L i ≠ ⊥)
include hL

/-- The first loop, from the segments' maxima, leaves the chosen segments. -/
theorem seg_at (x : Vec Ideal S32x128x64 .f32) (m : Fin 128) (hx : ∀ e, fam x m e = KMath.segMax L (segEquiv e)) (k : Fin 32) :
    (sel0 x).2 (ix2 m k) = BitVec.ofNat 32 (KMath.chosen L k).val := by
  have hr : ∀ e, KMath.rank (fam x m) skey e = KMath.rank (KMath.segMax L) Fin.val (segEquiv e) := fun e => by
    rw [show fam x m = fun e => KMath.segMax L (segEquiv e) from funext hx]
    exact KMath.rank_equiv segEquiv (KMath.segMax L) Fin.val e
  have h := sel0_at x m (fun e he => by rw [hx]; exact KMath.segMax_ne_bot L hL _ (by rw [← hr]; exact he)) (segEquiv.symm (KMath.chosen L k)) k
    (by rw [hr, Equiv.apply_symm_apply]; exact KMath.chosen_rank L k)
  rw [h]
  exact congrArg (fun t : Fin 2048 => BitVec.ofNat 32 t.val) (segEquiv.apply_symm_apply (KMath.chosen L k))

/-- The second loop, from the chosen segments' elements with their positions, leaves the positions of the 32 greatest. -/
theorem pick_at (x : Vec Ideal S1x128x1024 .f32) (n : Vec Ideal S1x128x1024 .i32) (m : Fin 128)
    (hx : ∀ l, x (ix3 0 m l) = KMath.cand L (laneEquiv l)) (hn : ∀ l, n (ix3 0 m l) = BitVec.ofNat 32 (KMath.candKey L (laneEquiv l)))
    (hpos : ∀ m l, ckey n m l < 2 ^ 31)
    (i : Fin 50000) (k : Fin 32) (h : KMath.rank L Fin.val i = k.val) : (sel2 x n).2 (ix2 m k) = BitVec.ofNat 32 i.val := by
  have hk : ∀ l, ckey n m l = KMath.candKey L (laneEquiv l) := fun l => by
    unfold ckey
    rw [hn, BitVec.toNat_ofNat]
    have := KMath.candKey_lt L (laneEquiv l)
    omega
  have hr : ∀ l, KMath.rank (cfam x m) (ckey n m) l = KMath.rank (KMath.cand L) (KMath.candKey L) (laneEquiv l) := fun l => by
    rw [show cfam x m = fun l => KMath.cand L (laneEquiv l) from funext hx, show ckey n m = fun l => KMath.candKey L (laneEquiv l) from funext hk]
    exact KMath.rank_equiv laneEquiv (KMath.cand L) (KMath.candKey L) l
  obtain ⟨c, hc, hi⟩ := KMath.cand_of_rank L hL i k h
  have e := sel2_at x n hpos m (fun a b hab => laneEquiv.injective (KMath.candKey_inj L (by rw [← hk, ← hk, hab])))
    (fun l hl => by
      show x (ix3 0 m l) ≠ ⊥
      rw [hx]; exact KMath.cand_ne_bot L hL _ (by rw [← hr]; exact hl))
    (laneEquiv.symm c) k (by rw [hr, Equiv.apply_symm_apply]; exact hc)
  rw [e, hn, Equiv.apply_symm_apply, hi]

end Cert.Proof.KSc

end
-- ==== Proof.KBound.lean ====
/-
  WHAT THE EXTRACTION LOOPS NEVER TAKE, whatever the values: an element beyond the valid ones, all of them the least
  extended real, is never the least-numbered of the maximal ones. So the segments taken are below 1563 (50000 elements in
  segments of 32) and the numbers taken are below 50000, on every argument, the infinite ones included.
-/
module

public import proofs.«01_k».proof.Proof.KSelect

@[expose] public section

noncomputable section

namespace Cert.Proof.KSc

open Cert.KernelIdeal Cert.KernelIdeal.Gen

open Idealize.ShloMosaic
open Idealize.SL.Sem

/-- Among the elements that attain the maximum of a finite family there is one of least key. -/
theorem exists_first {ι : Type} [Fintype ι] [Nonempty ι] (v : ι → EReal) (n : ι → ℕ) :
    ∃ e, (∀ y, v y ≤ v e) ∧ ∀ y, v y = v e → n e ≤ n y := by
  classical
  obtain ⟨a, -, ha⟩ := Finset.exists_max_image Finset.univ v Finset.univ_nonempty
  obtain ⟨e, he, hm⟩ := Finset.exists_min_image (Finset.univ.filter fun y => v y = v a) n ⟨a, by simp⟩
  have hea : v e = v a := (Finset.mem_filter.mp he).2
  exact ⟨e, fun y => (ha y (Finset.mem_univ y)).trans_eq hea.symm,
    fun y hy => hm y (Finset.mem_filter.mpr ⟨Finset.mem_univ y, hy.trans hea⟩)⟩

/-- If the elements with keys from `B` on are the least extended real and there is a key below `B`, that element's key is below `B`. -/
theorem first_lt {ι : Type} (v : ι → EReal) (n : ι → ℕ) (B : ℕ) (hb : ∀ y, B ≤ n y → v y = ⊥) (h0 : ∃ y, n y < B) (e : ι)
    (hle : ∀ y, v y ≤ v e) (hmin : ∀ y, v y = v e → n e ≤ n y) : n e < B := by
  by_contra h
  obtain ⟨y, hy⟩ := h0
  have he := hb e (by omega)
  have := hmin y ((le_bot_iff.mp ((hle y).trans_eq he)).trans he.symm)
  omega

/-- The first loop takes segments below 1563, where those from 1563 on have the least extended real for maximum. -/
theorem sel0_bound (x : Vec Ideal S32x128x64 .f32) (m : Fin 128) (hx : ∀ y, 1563 ≤ skey y → fam x m y = ⊥) (k : Fin 32) :
    ∃ s, s < 1563 ∧ (sel0 x).2 (ix2 m k) = BitVec.ofNat 32 s := by
  refine (foldl_inv (n := k0_t1_loop.trips) _ (x, k0_pay6)
    (fun r acc => (∀ y, 1563 ≤ skey y → fam acc.1 m y = ⊥)
      ∧ ∀ (k : Fin 32), k.val < r → ∃ s, s < 1563 ∧ acc.2 (ix2 m k) = BitVec.ofNat 32 s) ?_ ?_).2 k k.isLt
  · exact ⟨hx, fun k h => absurd h (Nat.not_lt_zero _)⟩
  · rintro r ⟨z, o⟩ ⟨hz, ho⟩
    obtain ⟨e, hle, hmin⟩ := exists_first (fam z m) skey
    have hlt := first_lt (fam z m) skey 1563 hz ⟨(0, 0), by unfold skey; simp⟩ e hle hmin
    have h7 : k0_pay7 (F := Ideal) z (ix3 0 m 0) = BitVec.ofNat 32 (skey e) := pay7_at z m e (fun t s => hle (t, s)) (fun t s h => hmin (t, s) h)
    refine ⟨fun y hy => ?_, fun k hk => ?_⟩
    · refine (pay8_at z y.1 m y.2).trans ?_
      split
      · rfl
      · exact hz y hy
    · have h9 := pay9_at r z o m k
      by_cases hkr : k.val = r.val
      · exact ⟨skey e, hlt, h9.trans ((if_pos hkr).trans h7)⟩
      · obtain ⟨s, hs, e'⟩ := ho k (by omega)
        exact ⟨s, hs, h9.trans ((if_neg hkr).trans e')⟩

set_option maxRecDepth 8192 in
/-- The second loop takes numbers below a bound, where the candidates numbered from it on are the least extended real. -/
theorem sel2_bound (x : Vec Ideal S1x128x1024 .f32) (n : Vec Ideal S1x128x1024 .i32) (hn : ∀ m l, ckey n m l < 2 ^ 31) (m : Fin 128)
    (B : ℕ) (hx : ∀ l, B ≤ ckey n m l → cfam x m l = ⊥) (h0 : ∃ l, ckey n m l < B) (k : Fin 32) :
    ((sel2 x n).2 (ix2 m k)).toNat < B := by
  refine (foldl_inv (n := k2_t1_loop.trips) _ (k2_pay1 (F := Ideal) x, k2_pay3)
    (fun r acc => (∀ l, B ≤ ckey n m l → acc.1 (ix2 m l) = (⊥ : EReal))
      ∧ ∀ (k : Fin 32), k.val < r → (acc.2 (ix2 m k)).toNat < B) ?_ ?_).2 k k.isLt
  · exact ⟨fun l hl => (k2_pay1_at x m l).trans (hx l hl), fun k h => absurd h (Nat.not_lt_zero _)⟩
  · rintro r ⟨z, o⟩ ⟨hz, ho⟩
    have hne : Nonempty (Fin 1024) := ⟨h0.choose⟩
    obtain ⟨e, hle, hmin⟩ := exists_first (fun l : Fin 1024 => (z (ix2 m l) : EReal)) (ckey n m)
    have hlt := first_lt (fun l : Fin 1024 => (z (ix2 m l) : EReal)) (ckey n m) B hz h0 e hle hmin
    have h7 : k2_pay4 (F := Ideal) n z (ix2 m 0) = n (ix3 0 m e) := k2_pay4_at z n hn m e hle hmin
    refine ⟨fun l hl => ?_, fun k hk => ?_⟩
    · dsimp only
      have h5 := k2_pay5_at z n m l
      rw [show z (ix2 m l) = (⊥ : EReal) from hz l hl, ite_self] at h5
      exact h5
    · have h9 := k2_pay6_at r z n o m k
      by_cases hkr : k.val = r.val
      · exact lt_of_eq_of_lt (congrArg BitVec.toNat (h9.trans ((if_pos hkr).trans h7))) hlt
      · exact lt_of_eq_of_lt (congrArg BitVec.toNat (h9.trans (if_neg hkr))) (ho k (by omega))

end Cert.Proof.KSc

end
-- ==== Proof.KFinite.lean ====
/-
  WHAT IS SELECTED: for a batch and a query, the positions of the 32 greatest of 50000 scores, in order (`Picks`). And
  FINITE ARGUMENTS: where every element is below plus infinity in absolute value it is a real, a score of such elements
  is a real, so no score is the least or the greatest extended real.
-/
module

public import proofs.«01_k».proof.Proof.KLogits
public import proofs.«01_k».proof.Proof.KMath
public import proofs.«01_k».proof.Proof.Gen.Pre_finite
public import Idealize.ShloMosaic.Lib.ReduceAll

@[expose] public section

noncomputable section

namespace Cert.Proof.KSc

open Cert.KernelIdeal
open Idealize.ShloMosaic

/-- The extended real is a real. -/
def IsReal (x : EReal) : Prop := ∃ r : ℝ, x = (r : EReal)

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A finite sum of reals is a real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
/-- A real is not minus infinity. -/
theorem IsReal.ne_bot {x : EReal} (hx : IsReal x) : x ≠ ⊥ := by obtain ⟨a, rfl⟩ := hx; exact EReal.coe_ne_bot a
/-- A real is not plus infinity. -/
theorem IsReal.ne_top {x : EReal} (hx : IsReal x) : x ≠ ⊤ := by obtain ⟨a, rfl⟩ := hx; exact EReal.coe_ne_top a

/-- The score of reals is a real. -/
theorem score_real (E : S128x64.Idx → EReal) (m : Fin 128) (x y : Fin 32 → EReal) (hE : ∀ j, IsReal (E j)) (hx : ∀ k, IsReal (x k)) (hy : ∀ k, IsReal (y k)) :
    IsReal (score E m x y) :=
  (IsReal.sum _ _ fun k _ => (hE _).mul (hx k)).add (IsReal.sum _ _ fun k _ => (hE _).mul (hy k))

/-- The word of plus infinity is the greatest extended real. -/
theorem pos_inf : Ideal.ofBits .f32 0x7F800000#32 = ⊤ := by simp [Ideal.ofBits, Ideal.ieee]

/-- An extended real whose absolute value compares below plus infinity is a real. -/
theorem real_of_below (x : EReal) (h : BitVec.ofBool (decide (max x (-x) < Ideal.ofBits .f32 0x7F800000#32)) = 1#1) : IsReal x := by
  have ofBool_eq_one (p : Bool) : (BitVec.ofBool p = 1#1) ↔ p = true := by cases p <;> decide
  rw [pos_inf, ofBool_eq_one, decide_eq_true_eq, max_lt_iff] at h
  induction x with
  | bot => exact absurd h.2 (by simp)
  | top => exact absurd h.1 (by simp)
  | coe a => exact ⟨a, rfl⟩

/-- The precondition makes every element of the three arguments a real. -/
theorem finite_of_pre (x y : Cert.Pre_finite.S4x50000x32.Idx → Elt Ideal .f32) (E : Cert.Pre_finite.S128x64.Idx → Elt Ideal .f32)
    (h : Cert.Pre_finite.fn (F := Ideal) x y E = fun _ => 1#1) :
    (∀ j, IsReal (x j)) ∧ (∀ j, IsReal (y j)) ∧ ∀ j, IsReal (E j) := by
  have : Subsingleton Cert.Pre_finite.S_.Idx := ⟨fun a b => funext fun i => i.elim0⟩
  dsimp only [Cert.Pre_finite.fn] at h
  have h0 := congrFun h (fun i => i.elim0)
  obtain ⟨h01, h2⟩ := IntOp.andi_eq_one.1 h0
  obtain ⟨h0, h1⟩ := IntOp.andi_eq_one.1 h01
  exact ⟨fun j => real_of_below _ (Host.reduce_andi_all _ _ _ _ _ h0 j), fun j => real_of_below _ (Host.reduce_andi_all _ _ _ _ _ h1 j),
    fun j => real_of_below _ (Host.reduce_andi_all _ _ _ _ _ h2 j)⟩

/-! ## The selection -/

/-- The score of node `i` of batch `b` for query `q`. -/
def lg (X Y : S4x50000x32.Idx → EReal) (E : S128x64.Idx → EReal) (b : Fin 4) (q : Fin 128) (i : Fin 50000) : EReal :=
  score E q (fun k => X (ix3 b i k)) (fun k => Y (ix3 b i k))

/-- On real arguments every score is a real. -/
theorem lg_real (X Y : S4x50000x32.Idx → EReal) (E : S128x64.Idx → EReal) (hX : ∀ j, IsReal (X j)) (hY : ∀ j, IsReal (Y j)) (hE : ∀ j, IsReal (E j))
    (b : Fin 4) (q : Fin 128) (i : Fin 50000) : IsReal (lg X Y E b q i) :=
  score_real _ _ _ _ hE (fun _ => hX _) (fun _ => hY _)

/-- Entry `(b, q, k)` is the node with the `k`-th greatest score for query `q` in batch `b`, the earlier node first among equals. -/
def Picks (X Y : S4x50000x32.Idx → EReal) (E : S128x64.Idx → EReal) (ix : S4x128x32.Idx → BitVec 32) : Prop :=
  ∀ (b : Fin 4) (q : Fin 128) (k : Fin 32) (i : Fin 50000), KMath.rank (lg X Y E b q) Fin.val i = k.val → ix (ix3 b q k) = BitVec.ofNat 32 i.val

/-- Some node has the `k`-th greatest score. -/
theorem exists_pick (X Y : S4x50000x32.Idx → EReal) (E : S128x64.Idx → EReal) (b : Fin 4) (q : Fin 128) (k : Fin 32) :
    ∃ i, KMath.rank (lg X Y E b q) Fin.val i = k.val :=
  KMath.exists_rank Fin.val_injective (by have := k.isLt; simp; omega)

/-- There is one such array. -/
theorem Picks.unique {X Y : S4x50000x32.Idx → EReal} {E : S128x64.Idx → EReal} {ix ix' : S4x128x32.Idx → BitVec 32} (h : Picks X Y E ix) (h' : Picks X Y E ix') : ix = ix' := by
  funext j
  rw [eq_ix3 j]
  obtain ⟨i, hi⟩ := exists_pick X Y E (j 0) (j 1) (j 2)
  exact (h _ _ _ i hi).trans (h' _ _ _ i hi).symm

/-- Its entries are nodes. -/
theorem Picks.lt {X Y : S4x50000x32.Idx → EReal} {E : S128x64.Idx → EReal} {ix : S4x128x32.Idx → BitVec 32} (h : Picks X Y E ix) (j : S4x128x32.Idx) : (ix j).toNat < 50000 := by
  rw [eq_ix3 j]
  obtain ⟨i, hi⟩ := exists_pick X Y E (j 0) (j 1) (j 2)
  refine lt_of_eq_of_lt (congrArg BitVec.toNat (h (j 0) (j 1) (j 2) i hi)) ?_
  have := i.isLt
  rw [BitVec.toNat_ofNat]; omega

end Cert.Proof.KSc

end
-- ==== Proof.KIndex.lean ====
/-
  THE WHOLE KERNEL'S INDICES: on every argument the row numbers of both SparseCore calls are in range, and the second
  TensorCore call reads the chosen segments' scores with their numbers; on finite arguments what it leaves is the
  selection (`Picks`).
-/
module

public import proofs.«01_k».proof.Proof.KSeg
public import proofs.«01_k».proof.Proof.KPick
public import proofs.«01_k».proof.Proof.KBound
public import proofs.«01_k».proof.Proof.KFinite

@[expose] public section

noncomputable section

namespace Cert.Proof.KSc

open Cert.KernelIdeal Cert.KernelIdeal.Gen

open Idealize.ShloMosaic
open Idealize.ShloMosaic.StableHlo
open Idealize.SL.Sem

variable (m : (ℓ : Loc nD τ sig) → Buf (Elt Ideal) ℓ)

/-- The first table. -/
abbrev A0 (d : Dev nD) : S4x50000x32.Idx → Elt Ideal .f32 := m ((d.tc : Thread nD τ).loc main_arg0)
/-- The second table. -/
abbrev A1 (d : Dev nD) : S4x50000x32.Idx → Elt Ideal .f32 := m ((d.tc : Thread nD τ).loc main_arg1)
/-- The query embeddings. -/
abbrev A2 (d : Dev nD) : S128x64.Idx → Elt Ideal .f32 := m ((d.tc : Thread nD τ).loc main_arg2)

/-- Every element of the arguments is a real. -/
def AllReal : Prop := ∀ d : Dev nD, (∀ j, IsReal (A0 m d j)) ∧ (∀ j, IsReal (A1 m d j)) ∧ ∀ j, IsReal (A2 m d j)

/-- The scores of batch `b` and query `q`. -/
abbrev lgs (d : Dev nD) (b : Fin 4) (q : Fin 128) : Fin 50000 → EReal := lg (A0 m d) (A1 m d) (A2 m d) b q

/-- On real arguments no score is the least extended real. -/
theorem lgs_ne_bot (h : AllReal m) (d : Dev nD) (b : Fin 4) (q : Fin 128) (i : Fin 50000) : lgs m d b q i ≠ ⊥ :=
  (lg_real _ _ _ (h d).1 (h d).2.1 (h d).2.2 b q i).ne_bot

/-! ## The first TensorCore call -/

/-- The weight that the first call computes at a position is the score there, the least extended real past the last node. -/
theorem wgt_eq (d : Dev nD) (b : Fin 4) (q : Fin 128) (x : Fin 2048 × Fin 32) (n : ℕ) (hn : n = KMath.key x) :
    R0.wgt (atTc (U0 m)) d b q n = KMath.wide (lgs m d b q) x := by
  subst hn; rfl

/-- The scratch array after the 25 tiles holds the segments' maxima. -/
theorem rows_eq (d : Dev nD) (b : Fin 4) (q : Fin 128) (e : Fin 32 × Fin 64) :
    fam (R0.rows (atTc (U0 m)) d b 25) q e = KMath.segMax (lgs m d b q) (segEquiv e) := by
  show (if e.1.val < 25 then R0.top (atTc (U0 m)) d b q e.1.val e.2.val else (⊥ : EReal)) = _
  by_cases h : e.1.val < 25
  · rw [if_pos h]
    unfold R0.top KMath.segMax
    refine Finset.fold_congr fun l _ => wgt_eq m d b q _ _ ?_
    show 2048 * e.1.val + (e.2.val * 32 + l.val) = 32 * (64 * e.1.val + e.2.val) + l.val
    omega
  · rw [if_neg h]
    unfold KMath.segMax
    refine (fold_max_eq _ _ (fun l => ?_) ⟨0, ?_⟩).symm
    all_goals
      have hb : ∀ l : Fin 32, KMath.wide (lgs m d b q) (segEquiv e, l) = ⊥ := fun l => KMath.wide_bot _ _ (by
        show 50000 ≤ 32 * (64 * e.1.val + e.2.val) + l.val
        omega)
    · exact (hb l).le
    · exact hb 0

/-- On real arguments the segments that the first call leaves are the chosen ones. -/
theorem sgs_at (h : AllReal m) (d : Dev nD) (b : Fin 4) (q : Fin 128) (k : Fin 32) :
    sgs m d (ix3 b q k) = BitVec.ofNat 32 (KMath.chosen (lgs m d b q) k).val :=
  (R0.segs_at (atTc (U0 m)) d b q k).trans (seg_at _ (lgs_ne_bot m h d b q) _ q (rows_eq m d b q) k)

/-! ## The first SparseCore call -/

/-- On every argument the chosen segments are below 1563. -/
theorem sgs_bound (d : Dev nD) (b : Fin 4) (q : Fin 128) (k : Fin 32) : ∃ s, s < 1563 ∧ sgs m d (ix3 b q k) = BitVec.ofNat 32 s := by
  obtain ⟨s, hs, e⟩ := sel0_bound (R0.rows (atTc (U0 m)) d b 25) q (fun y hy => by
    rw [rows_eq]
    unfold KMath.segMax
    have hb : ∀ l : Fin 32, KMath.wide (lgs m d b q) (segEquiv y, l) = ⊥ := fun l => KMath.wide_bot _ _ (by
      show 50000 ≤ 32 * (64 * y.1.val + y.2.val) + l.val
      unfold skey at hy
      omega)
    exact fold_max_eq _ _ (fun l => (hb l).le) ⟨0, hb 0⟩) k
  exact ⟨s, hs, (R0.segs_at (atTc (U0 m)) d b q k).trans e⟩

/-- The row of the table of scores that segment `s` is. -/
theorem rowA_of (d : Dev nD) (b : Fin 4) (q : Fin 128) (k : Fin 32) (s : ℕ) (hs : s < 2048) (h : sgs m d (ix3 b q k) = BitVec.ofNat 32 s) :
    (rowA (sgs m d) (ix3 b q k)).toNat = ((b.val * 25 + s / 64) * 128 + q.val) * 64 + s % 64 := by
  have hb := b.isLt; have hq := q.isLt
  show (((BitVec.ofNat 32 b.val * 25#32 + quotA (sgs m d) (ix3 b q k)) * 128#32 + BitVec.ofNat 32 q.val) * 64#32 + remA (sgs m d) (ix3 b q k)).toNat = _
  rw [quotA_at _ _ _ hs h, remA_at _ _ _ hs h]
  simp only [BitVec.toNat_add, BitVec.toNat_mul, BitVec.toNat_ofNat]
  omega

/-- The entry of the list for `(b, q, k)` is number `4096 b + 32 q + k`. -/
theorem flat_at {α : Type} (f : S4x128x32.Idx → α) (b : Fin 4) (q : Fin 128) (k : Fin 32) (r : Fin 16384) (hr : r.val = 4096 * b.val + 32 * q.val + k.val) :
    shapeCast S16384 f shapeCasts_S4x128x32_S16384 (ix1 r) = f (ix3 b q k) := by
  refine shapeCast_apply _ _ _ _ ?_
  simp [Shape.rowMajor_val_one, Shape.rowMajor_val_three]
  omega

/-- Every entry of the list is one of these. -/
theorem flat_at' {α : Type} (f : S4x128x32.Idx → α) (j : S16384.Idx) :
    ∃ b q k, shapeCast S16384 f shapeCasts_S4x128x32_S16384 j = f (ix3 b q k) := by
  have hj : (j 0).val < 16384 := (j 0).isLt
  refine ⟨⟨(j 0).val / 4096, by omega⟩, ⟨(j 0).val / 32 % 128, by omega⟩, ⟨(j 0).val % 32, by omega⟩, ?_⟩
  refine (congrArg (shapeCast S16384 f shapeCasts_S4x128x32_S16384) (eq_ix1 j)).trans (flat_at f _ _ _ (j 0) ?_)
  show (j 0).val = 4096 * ((j 0).val / 4096) + 32 * ((j 0).val / 32 % 128) + (j 0).val % 32
  omega

/-- The first list is in range, on every argument. -/
theorem range1 : G1.InRange (U6 m) := by
  intro d j
  rw [U6_list]
  obtain ⟨b, q, k, e⟩ := flat_at' (rowA (sgs m d)) j
  obtain ⟨s, hs, hw⟩ := sgs_bound m d b q k
  have hb := b.isLt; have hq := q.isLt
  refine lt_of_eq_of_lt ((congrArg BitVec.toNat e).trans (rowA_of m d b q k s (by omega) hw)) ?_
  omega

/-- Row `((25 b + j) 128 + q) 64 + s`, column `l < 32`, of the padded table is score `32 s + l` of tile `j`. -/
theorem table_at {α : Type} (a : S4x25x128x2048.Idx → α) (v : S_.Idx → α) (b : Fin 4) (j : Fin 25) (q : Fin 128) (p : Fin 2048) (r : Fin 819200) (c : Fin 128)
    (s l : ℕ) (hl : l < 32) (hr : r.val = ((b.val * 25 + j.val) * 128 + q.val) * 64 + s) (hc : c.val = l) (hp : p.val = 32 * s + l) :
    pad S819200x128 ![0, 0] ![0, 96] ![0, 0] (shapeCast S819200x32 a shapeCasts_S4x25x128x2048_S819200x32) v
      pads_S819200x32_S819200x128_000_0960 h_S_ (ix2 r c) = a (ix4 b j q p) := by
  unfold pad
  have hin : ∀ t : Fin 2, (![0, 0] : Fin 2 → ℕ) t ≤ ((ix2 r c) (t.cast rfl)).val
      ∧ (((ix2 r c) (t.cast rfl)).val - (![0, 0] : Fin 2 → ℕ) t) % ((![0, 0] : Fin 2 → ℕ) t + 1) = 0
      ∧ (((ix2 r c) (t.cast rfl)).val - (![0, 0] : Fin 2 → ℕ) t) / ((![0, 0] : Fin 2 → ℕ) t + 1) < S819200x32.size t := by
    intro t
    match t with
    | 0 => simpa [Nat.mod_one] using r.isLt
    | 1 =>
      have e : ((ix2 r c) 1).val = c.val := rfl
      simp [Nat.mod_one]; omega
  rw [dif_pos hin]
  refine shapeCast_apply _ _ _ _ ?_
  simp [Shape.rowMajor_val_two, Shape.rowMajor_val_four]
  omega

/-! ## The second TensorCore call -/

/-- A lane's segment and its place in the segment. -/
theorem lane_split (l : Fin 1024) : (laneEquiv l).1.val = l.val / 32 ∧ (laneEquiv l).2.val = l.val % 32 := ⟨rfl, rfl⟩

/-- The candidates are the chosen segments' scores. -/
theorem cand_of (d : Dev nD) (b : Fin 4) (q : Fin 128) (g : Fin 32 → Fin 2048) (hg : ∀ k, (g k).val < 1600)
    (h : ∀ k, sgs m d (ix3 b q k) = BitVec.ofNat 32 (g k).val) (l : Fin 1024) :
    R2.vals (atTc (U8 m)) d b (ix3 0 q l) = KMath.wide (lgs m d b q) (g (laneEquiv l).1, (laneEquiv l).2) := by
  have hb := b.isLt; have hq := q.isLt; have hl := l.isLt
  have hs := hg (laneEquiv l).1
  have hrow := rowA_of m d b q (laneEquiv l).1 _ (by omega) (h (laneEquiv l).1)
  obtain ⟨h1, h2⟩ := lane_split l
  have hr : 4096 * b.val + 32 * q.val + (laneEquiv l).1.val < 16384 := by omega
  have hflat := flat_at (rowA (sgs m d)) b q (laneEquiv l).1 ⟨_, hr⟩ rfl
  show U8 m d (Proc.devRef .tc main_v23) (ix3 b q l) = _
  rw [U8_v23]
  rw [shapeCast_apply (s := S16384x32) (t := S4x128x1024) _ _ (ix3 b q l) (ix2 (n0 := 16384) (n1 := 32) ⟨4096 * b.val + 32 * q.val + (laneEquiv l).1.val, hr⟩ (laneEquiv l).2)
    (by simp [Shape.rowMajor_val_two, Shape.rowMajor_val_three]; omega)]
  have hin : ((laneEquiv l).2.val) < 128 := by omega
  refine Eq.trans (b := G1.gP (U6 m) d (ix2 ⟨4096 * b.val + 32 * q.val + (laneEquiv l).1.val, hr⟩ ⟨(laneEquiv l).2.val, hin⟩)) ?_ ?_
  · unfold extractStridedSlice
    refine congrArg _ (funext fun a => ?_)
    match a with
    | ⟨0, _⟩ => exact Fin.ext (by simp)
    | ⟨1, _⟩ => exact Fin.ext (by simp)
  · unfold G1.gP
    rw [U6_list, U6_table]
    refine (table_at (R0.logits (atTc (U0 m)) d) _ b ⟨(g (laneEquiv l).1).val / 64, by omega⟩ q
      ⟨32 * ((g (laneEquiv l).1).val % 64) + (laneEquiv l).2.val, by omega⟩ _ _ ((g (laneEquiv l).1).val % 64) (laneEquiv l).2.val (by omega) ?_ rfl rfl).trans ?_
    · refine (congrArg (fun w : BitVec 32 => w.toNat % 819200) hflat).trans ?_
      show (rowA (sgs m d) (ix3 b q (laneEquiv l).1)).toNat % 819200 = _
      rw [hrow]
      exact Nat.mod_eq_of_lt (by omega)
    · rw [R0.logits_at]
      refine wgt_eq m d b q (g (laneEquiv l).1, (laneEquiv l).2) _ ?_
      unfold KMath.key
      simp only
      omega

/-- The numbers are their positions. -/
theorem num_of (d : Dev nD) (b : Fin 4) (q : Fin 128) (g : Fin 32 → Fin 2048)
    (h : ∀ k, sgs m d (ix3 b q k) = BitVec.ofNat 32 (g k).val) (l : Fin 1024) :
    R2.words (atTc (U8 m)) d b (ix3 0 q l) = BitVec.ofNat 32 (KMath.key (g (laneEquiv l).1, (laneEquiv l).2)) := by
  have hb := b.isLt; have hq := q.isLt; have hl := l.isLt
  obtain ⟨h1, h2⟩ := lane_split l
  show U8 m d (Proc.devRef .tc main_v32) (ix3 b q l) = _
  rw [U8_v32]
  rw [shapeCast_apply (s := S4x128x32x32) (t := S4x128x1024) _ _ (ix3 b q l) (ix4 (n0 := 4) (n1 := 128) (n2 := 32) (n3 := 32) b q (laneEquiv l).1 (laneEquiv l).2)
    (by simp [Shape.rowMajor_val_four, Shape.rowMajor_val_three]; omega)]
  show sgs m d (ix3 b q (laneEquiv l).1) * 32#32 + BitVec.ofNat 32 (laneEquiv l).2.val = _
  rw [h]
  show _ = BitVec.ofNat 32 (32 * (g (laneEquiv l).1).val + (laneEquiv l).2.val)
  apply BitVec.eq_of_toNat_eq
  simp only [BitVec.toNat_add, BitVec.toNat_mul, BitVec.toNat_ofNat]
  omega

/-- On real arguments the candidates are those of the chosen segments. -/
theorem cand_at (h : AllReal m) (d : Dev nD) (b : Fin 4) (q : Fin 128) (l : Fin 1024) :
    R2.vals (atTc (U8 m)) d b (ix3 0 q l) = KMath.cand (lgs m d b q) (laneEquiv l) :=
  cand_of m d b q (KMath.chosen (lgs m d b q)) (KMath.chosen_lt _ (lgs_ne_bot m h d b q)) (sgs_at m h d b q) l

/-- And the numbers are theirs. -/
theorem num_at (h : AllReal m) (d : Dev nD) (b : Fin 4) (q : Fin 128) (l : Fin 1024) :
    R2.words (atTc (U8 m)) d b (ix3 0 q l) = BitVec.ofNat 32 (KMath.candKey (lgs m d b q) (laneEquiv l)) :=
  num_of m d b q (KMath.chosen (lgs m d b q)) (sgs_at m h d b q) l

/-- THE INDICES are the selection. -/
theorem inds_picks (h : AllReal m) (d : Dev nD) : Picks (A0 m d) (A1 m d) (A2 m d) (inds m d) := by
  intro b q k i hi
  refine (R2.indices_at (atTc (U8 m)) d b q k).trans (pick_at (lgs m d b q) (lgs_ne_bot m h d b q) _ _ q (cand_at m h d b q) (num_at m h d b q) (fun q' l => ?_) i k hi)
  unfold ckey
  rw [num_at m h, BitVec.toNat_ofNat]
  have := KMath.candKey_lt (lgs m d b q') (laneEquiv l)
  omega

/-- On every argument there are segments below 1563 that the chosen ones are. -/
theorem exists_segs (d : Dev nD) (b : Fin 4) (q : Fin 128) :
    ∃ g : Fin 32 → Fin 2048, (∀ k, (g k).val < 1563) ∧ ∀ k, sgs m d (ix3 b q k) = BitVec.ofNat 32 (g k).val := by
  choose s hs e using sgs_bound m d b q
  exact ⟨fun k => ⟨s k, by have := hs k; omega⟩, hs, e⟩

/-- A candidate's number. -/
theorem ckey_of (d : Dev nD) (b : Fin 4) (q : Fin 128) (g : Fin 32 → Fin 2048)
    (h : ∀ k, sgs m d (ix3 b q k) = BitVec.ofNat 32 (g k).val) (l : Fin 1024) :
    ckey (R2.words (atTc (U8 m)) d b) q l = KMath.key (g (laneEquiv l).1, (laneEquiv l).2) := by
  have hk : KMath.key (g (laneEquiv l).1, (laneEquiv l).2) < 2 ^ 32 := by
    have h1 := (g (laneEquiv l).1).isLt; have h2 := (laneEquiv l).2.isLt
    show 32 * (g (laneEquiv l).1).val + (laneEquiv l).2.val < 2 ^ 32
    omega
  unfold ckey
  rw [num_of m d b q g h, BitVec.toNat_ofNat, Nat.mod_eq_of_lt hk]

/-- On every argument the indices are below 50000. -/
theorem inds_lt (d : Dev nD) (j : S4x128x32.Idx) : (inds m d j).toNat < 50000 := by
  rw [eq_ix3 j]
  obtain ⟨g, hg, h⟩ := exists_segs m d (j 0) (j 1)
  refine lt_of_eq_of_lt (congrArg BitVec.toNat (R2.indices_at (atTc (U8 m)) d (j 0) (j 1) (j 2))) (sel2_bound _ _ (fun q l => ?_) (j 1) 50000 (fun l hl => ?_) ⟨0, ?_⟩ (j 2))
  · obtain ⟨g', hg', h'⟩ := exists_segs m d (j 0) q
    rw [ckey_of m d (j 0) q g' h']
    have h1 := hg' (laneEquiv l).1; have h2 := (laneEquiv l).2.isLt
    show 32 * (g' (laneEquiv l).1).val + (laneEquiv l).2.val < 2 ^ 31
    omega
  · refine (cand_of m d (j 0) (j 1) g (fun k => by have := hg k; omega) h l).trans (KMath.wide_bot _ _ ?_)
    rwa [← ckey_of m d (j 0) (j 1) g h l]
  · rw [ckey_of m d (j 0) (j 1) g h]
    have h1 := hg (laneEquiv 0).1
    have h2 : (laneEquiv 0).2.val = 0 := rfl
    show 32 * (g (laneEquiv 0).1).val + (laneEquiv 0).2.val < 50000
    omega

/-- The row number of an index in range. -/
theorem flatA_toNat (ix : S4x128x32.Idx → BitVec 32) (j : S4x128x32.Idx) (h : (ix j).toNat < 50000) :
    (flatA ix j).toNat = 50000 * (j 0).val + (ix j).toNat := by
  have h0 : (j 0).val < 4 := (j 0).isLt
  unfold flatA
  rw [BitVec.toNat_add, BitVec.toNat_mul, BitVec.toNat_ofNat, BitVec.toNat_ofNat]
  omega

/-- The second list is in range, on every argument. -/
theorem range2 : G2.InRange (U10 m) := by
  intro d j
  rw [U10_list]
  obtain ⟨b, q, k, e⟩ := flat_at' (flatA (inds m d)) j
  have hi := inds_lt m d (ix3 b q k)
  have hb := b.isLt
  refine lt_of_eq_of_lt ((congrArg BitVec.toNat e).trans (flatA_toNat _ _ hi)) ?_
  show 50000 * b.val + (inds m d (ix3 b q k)).toNat < 200000
  omega

end Cert.Proof.KSc

end
-- ==== Proof.KTopK.lean ====
/-
  THE REFERENCE'S INDICES: the positions of the 32 greatest softmax values of each row are the positions of the 32
  greatest scores (`Picks`), since on real scores the softmax of a row is strictly increasing in the score.
-/
module

public import proofs.«01_k».proof.Proof.KFinite
public import proofs.«01_k».proof.Proof.Gen.ReferenceIdeal.Run
public import Idealize.ShloMosaic.Lib.KernelVsHost

@[expose] public section

noncomputable section

namespace Cert.Proof.KRef

open Cert.ReferenceIdeal Cert.ReferenceIdeal.Gen
open Idealize.ShloMosaic
open Cert.Proof.KSc (lg score IsReal lg_real Picks neg_inf)

/-! ## The scores -/

/-- The reference's scores: the product with the two node vectors side by side. -/
def scores (X Y : S4x50000x32.Idx → Elt Ideal .f32) (E : S128x64.Idx → Elt Ideal .f32) : FVec Ideal S4x128x50000 .f32 :=
  transpose S4x128x50000 [1, 0, 2] (Host.dotGeneral (F := Ideal) (φ₁ := .f32) (φ₂ := .f32) dot_S128x64_S4x64x50000_S128x4x50000_1_1_0_02_n_n none E
    (transpose S4x64x50000 [0, 2, 1] (concatenate S4x50000x64 2 [⟨S4x50000x32, X⟩, ⟨S4x50000x32, Y⟩] concatenates_S4x50000x32_S4x50000x32_S4x50000x64_d2) transposes_S4x50000x64_S4x64x50000_0_2_1))
    transposes_S128x4x50000_S4x128x50000_1_0_2

/-- Each is the score of the node, its sum over 64 split into the two halves. -/
theorem scores_at (X Y : S4x50000x32.Idx → Elt Ideal .f32) (E : S128x64.Idx → Elt Ideal .f32) (b : Fin 4) (q : Fin 128) (i : Fin 50000) :
    scores X Y E (ix3 b q i) = lg X Y E b q i := by
  pointwise [scores]
  rfl

/-! ## The softmax -/

variable (L : FVec Ideal S4x128x50000 .f32)

/-- The greatest score of each row. -/
def rowTop : FVec Ideal S4x128 .f32 :=
  maximumf (broadcastInDim S4x128 ![] bcast_S_S4x128 (constant S_ .f32 0xFF800000#32)) (Host.reduce FloatOps.maximumf L (constant S_ .f32 0xFF800000#32) reducesTo_S4x128x50000_S4x128_d2 h_S_)
/-- The exponentials of the scores less the greatest. -/
def expo : FVec Ideal S4x128x50000 .f32 :=
  Host.exp (subf L (broadcastInDim S4x128x50000 ![0, 1, 2] bcast_S4x128x1_S4x128x50000_0_1_2 (broadcastInDim S4x128x1 ![0, 1] bcast_S4x128_S4x128x1_0_1 (rowTop L))))
/-- The softmax. -/
def soft : FVec Ideal S4x128x50000 .f32 :=
  Host.divf (expo L) (broadcastInDim S4x128x50000 ![0, 1, 2] bcast_S4x128x1_S4x128x50000_0_1_2 (broadcastInDim S4x128x1 ![0, 1] bcast_S4x128_S4x128x1_0_1
    (Host.reduceAdd (expo L) (constant S_ .f32 0x00000000#32) reducesTo_S4x128x50000_S4x128_d2 h_S_)))

/-- A host maximum along the last axis, whatever that axis's length. -/
theorem rowMax_at {n : ℕ} (x : FVec Ideal ⟨3, ![4, 128, n]⟩ .f32) (h : (⟨3, ![4, 128, n]⟩ : Shape).ReducesTo [2] S4x128) (b : Fin 4) (q : Fin 128) :
    Host.reduce FloatOps.maximumf x (constant S_ .f32 0xFF800000#32) h h_S_ (ix2 b q) = Finset.univ.fold max ⊥ fun i : Fin n => x (ix3 b q i) := by
  pointwise [neg_inf]

/-- A row's maximum. -/
theorem rowTop_at (b : Fin 4) (q : Fin 128) : rowTop L (ix2 b q) = Finset.univ.fold max ⊥ fun i : Fin 50000 => L (ix3 b q i) := by
  have hm : ∀ (A B : FVec Ideal S4x128 .f32), A (ix2 b q) = ⊥ → maximumf A B (ix2 b q) = B (ix2 b q) := fun A B h =>
    (congrArg (fun z : EReal => max z (B (ix2 b q))) h).trans (bot_sup_eq _)
  unfold rowTop
  refine (hm _ _ neg_inf).trans ?_
  exact rowMax_at L _ b q

/-- The exponential of a score less its row's maximum. -/
theorem expo_at (b : Fin 4) (q : Fin 128) (i : Fin 50000) : expo L (ix3 b q i) = Ideal.exp (L (ix3 b q i) - rowTop L (ix2 b q)) := by
  pointwise [expo]

/-- The softmax: an exponential over the sum of its row's. -/
theorem soft_at (b : Fin 4) (q : Fin 128) (i : Fin 50000) : soft L (ix3 b q i) = Ideal.div (expo L (ix3 b q i)) (∑ x, expo L (ix3 b q x)) := by
  pointwise [soft]

/-- The maximum of reals, at least one of them, is a real. -/
theorem fold_real {n : ℕ} (f : Fin n → EReal) (hf : ∀ i, IsReal (f i)) (h : 0 < n) : IsReal (Finset.univ.fold max ⊥ f) := by
  obtain ⟨a, -, ha⟩ := Finset.exists_max_image Finset.univ f ⟨⟨0, h⟩, Finset.mem_univ _⟩
  rw [KSc.fold_max_eq f (f a) (fun i => ha i (Finset.mem_univ i)) ⟨a, rfl⟩]
  exact hf a

/-- A sum of reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The softmax of real scores is ordered as they are. -/
theorem soft_lt (h : ∀ j, IsReal (L j)) (b : Fin 4) (q : Fin 128) (i j : Fin 50000) :
    soft L (ix3 b q i) < soft L (ix3 b q j) ↔ L (ix3 b q i) < L (ix3 b q j) := by
  obtain ⟨M, hM⟩ : IsReal (rowTop L (ix2 b q)) := by rw [rowTop_at]; exact fold_real _ (fun _ => h _) (by norm_num)
  choose l hl using fun i : Fin 50000 => h (ix3 b q i)
  have he : ∀ i : Fin 50000, expo L (ix3 b q i) = ((Real.exp (l i - M) : ℝ) : EReal) := by
    intro i
    rw [expo_at, hM, hl, ← EReal.coe_sub]
    rfl
  have hs : (∑ x : Fin 50000, expo L (ix3 b q x)) = ((∑ x : Fin 50000, Real.exp (l x - M) : ℝ) : EReal) :=
    (Finset.sum_congr rfl fun x _ => he x).trans (coe_sum _ _)
  have hp : 0 < ∑ x : Fin 50000, Real.exp (l x - M) := Finset.sum_pos (fun x _ => Real.exp_pos _) ⟨i, Finset.mem_univ _⟩
  generalize (∑ x : Fin 50000, Real.exp (l x - M)) = S at hs hp
  have hv : ∀ i : Fin 50000, soft L (ix3 b q i) = ((Real.exp (l i - M) * S⁻¹ : ℝ) : EReal) := by
    intro i
    rw [soft_at, he, hs, Ideal.div, if_neg (by simpa using hp.ne'), ← EReal.coe_inv, ← EReal.coe_mul]
  rw [hv, hv, hl, hl, EReal.coe_lt_coe_iff, EReal.coe_lt_coe_iff, mul_lt_mul_iff_left₀ (inv_pos.mpr hp), Real.exp_lt_exp]
  exact sub_lt_sub_iff_right M

/-! ## The selection -/

/-- What a stable sort of two operands leaves in the second: the elements at the sorted positions. -/
theorem sort2_snd {α β : Type} (s : Shape) (d : Fin s.rank) (cmp : α × β → α × β → BitVec 1) (x : s.Idx → α) (y : s.Idx → β) (j : s.Idx) :
    (Host.sort2 s d.val cmp x y).2 j = y (j.along d (sortedFrom (fun k k' => cmp (x (j.along d k), y (j.along d k)) (x (j.along d k'), y (j.along d k')) == 1#1) (j d))) := by
  unfold Host.sort2
  rw [dif_pos d.isLt]

/-- The positions of the greatest elements of each row, whatever the row's length. -/
theorem topK_at {n : ℕ} (hn : 32 ≤ n) (x : FVec Ideal ⟨3, ![4, 128, n]⟩ .f32) (h : (⟨3, ![4, 128, n]⟩ : Shape).Slices (fun _ => 0) S4x128x32)
    (b : Fin 4) (q : Fin 128) (k : Fin 32) :
    ∃ R : Fin n → Fin n → Bool, (∀ i j, R i j = true ↔ x (ix3 b q j) < x (ix3 b q i)) ∧
      (Host.topK S4x128x32 2 (FloatOps.cmpfTotal (F := Ideal) (φ := .f32) .gt) x h).2 (ix3 b q k) = BitVec.ofNat 32 (sortedFrom R ⟨k.val, lt_of_lt_of_le k.isLt hn⟩).val := by
  have hk : k.val < n := lt_of_lt_of_le k.isLt hn
  let j0 : (⟨3, ![4, 128, n]⟩ : Shape).Idx := ix3 b q (⟨k.val, hk⟩ : Fin n)
  have hal : ∀ i : Fin n, Shape.Idx.along (s := ⟨3, ![4, 128, n]⟩) j0 (2 : Fin 3) i = ix3 b q i := by
    intro i
    funext a
    match a with
    | ⟨0, _⟩ => rfl
    | ⟨1, _⟩ => rfl
    | ⟨2, _⟩ => rfl
  have hR : (fun i j : Fin n => Ideal.cmp .ogt (x (Shape.Idx.along j0 (2 : Fin 3) i)) (x (Shape.Idx.along j0 (2 : Fin 3) j)) == 1#1)
      = fun i j => Ideal.cmp .ogt (x (ix3 b q i)) (x (ix3 b q j)) == 1#1 := funext fun i => funext fun j => by
    have ei := congrArg x (hal i)
    have ej := congrArg x (hal j)
    simp only [ei, ej]
  refine ⟨fun i j => Ideal.cmp .ogt (x (ix3 b q i)) (x (ix3 b q j)) == 1#1, fun i j => ?_, ?_⟩
  · show (BitVec.ofBool (decide (x (ix3 b q j) < x (ix3 b q i))) == 1#1) = true ↔ _
    by_cases h : x (ix3 b q j) < x (ix3 b q i) <;> simp [h]
  · have hj : ∀ (y : (⟨3, ![4, 128, n]⟩ : Shape).Idx → BitVec 32), extractStridedSlice S4x128x32 (fun _ => 0) y h (ix3 b q k) = y j0 := fun y => by
      unfold extractStridedSlice
      refine congrArg y (funext fun a => ?_)
      match a with
      | ⟨0, _⟩ => exact Fin.ext (Nat.zero_add _)
      | ⟨1, _⟩ => exact Fin.ext (Nat.zero_add _)
      | ⟨2, _⟩ => exact Fin.ext (Nat.zero_add _)
    let idx : (⟨3, ![4, 128, n]⟩ : Shape).Idx → BitVec 32 := fun i =>
      if hd : 2 < (⟨3, ![4, 128, n]⟩ : Shape).rank then iotaInDim ⟨3, ![4, 128, n]⟩ 32 ⟨2, hd⟩ i else 0#32
    show extractStridedSlice S4x128x32 (fun _ => 0) (Host.sort2 ⟨3, ![4, 128, n]⟩ (2 : Fin 3).val
      (fun l r : EReal × BitVec 32 => FloatOps.cmpfTotal (F := Ideal) (φ := .f32) .gt l.1 r.1) x idx).2 h (ix3 b q k) = _
    refine (hj _).trans ((sort2_snd ⟨3, ![4, 128, n]⟩ (2 : Fin 3) _ _ _ j0).trans ?_)
    rw [← hR]
    rfl

/-- The reference's indices. -/
def refInds (X Y : S4x50000x32.Idx → Elt Ideal .f32) (E : S128x64.Idx → Elt Ideal .f32) : S4x128x32.Idx → BitVec 32 :=
  (Host.topK S4x128x32 2 (FloatOps.cmpfTotal .gt) (soft (scores X Y E)) sliceFits_S4x128x50000_S4x128x32).2

/-- They are the selection. -/
theorem ref_picks (X Y : S4x50000x32.Idx → Elt Ideal .f32) (E : S128x64.Idx → Elt Ideal .f32) (hX : ∀ j, IsReal (X j)) (hY : ∀ j, IsReal (Y j)) (hE : ∀ j, IsReal (E j)) :
    Picks X Y E (refInds X Y E) := by
  intro b q k i hi
  obtain ⟨R, hR, e⟩ := topK_at (by norm_num) (soft (scores X Y E)) sliceFits_S4x128x50000_S4x128x32 b q k
  refine e.trans (congrArg (fun j : Fin 50000 => BitVec.ofNat 32 j.val) ?_)
  have hreal : ∀ j, IsReal (scores X Y E j) := by
    intro j
    rw [eq_ix3 j]
    refine (congrArg IsReal (scores_at X Y E (j 0) (j 1) (j 2))).mpr (lg_real X Y E hX hY hE _ _ _)
  refine KMath.rank_inj (v := fun i : Fin 50000 => soft (scores X Y E) (ix3 b q i)) (n := Fin.val) Fin.val_injective ?_
  rw [KMath.sorted_rank _ R hR]
  refine (hi.symm.trans (KMath.rank_congr (fun i j => ?_) i).symm)
  rw [soft_lt _ hreal, scores_at, scores_at]

end Cert.Proof.KRef

end
-- ==== Proof.KEnd.lean ====
/-
  HOW THE WHOLE KERNEL AND ITS REFERENCE END: each leaves its indices, the rows of the two tables at them, and the batch
  numbers; the kernel's arguments are unchanged and its semaphores read zero. (On finite arguments the indices of both
  are the selection.)
-/
module

public import proofs.«01_k».proof.Proof.KRun
public import proofs.«01_k».proof.Proof.KIndex
public import proofs.«01_k».proof.Proof.KTopK
public import proofs.«01_k».proof.Proof.RowsValue

@[expose] public section

noncomputable section

namespace Cert.Proof.KSc

open Idealize.ShloMosaic
open Idealize.ShloMosaic.StableHlo
open Idealize.SL.Sem

section Kernel

open Cert.KernelIdeal Cert.KernelIdeal.Gen

variable (m : (ℓ : Loc nD τ sig) → Buf (Elt Ideal) ℓ)

/-- The kernel's first result is the rows of the first table at the selected indices. -/
theorem end_v48 (d : Dev nD) : U12 m d (Proc.devRef .tc main_v48) = RowsSc.rowsOf (A0 m d) (inds m d) := by
  rw [U12_v48]
  unfold G2.gP
  rw [U10_list, U10_a]
  exact RowsSc.picked_rows (F := Ideal) (A0 m d) _ (inds m d) (inds_lt m d)

/-- The kernel's second result is the rows of the second table at them. -/
theorem end_v49 (d : Dev nD) : U12 m d (Proc.devRef .tc main_v49) = RowsSc.rowsOf (A1 m d) (inds m d) := by
  rw [U12_v49]
  unfold G2.gQ
  rw [U10_list, U10_b]
  exact RowsSc.picked_rows (F := Ideal) (A1 m d) _ (inds m d) (inds_lt m d)

/-- The kernel's third result is the batch numbers. -/
theorem end_v52 (d : Dev nD) : U12 m d (Proc.devRef .tc main_v52) = RowsSc.batchOf := (U12_v52 m d).trans rfl

/-- An unscoped buffer of the TensorCore is one the run's end speaks of. -/
theorem mem_uc (b : Ref sig .tc) (h : b.isScoped = false) : Proc.devRef (τ := τ) .tc b ∈ Pipeline.ucRefs τ sig :=
  Finset.mem_filter.mpr ⟨devRef_mem_tcRefs b, by rw [Proc.isScoped_devRef, h]; exact Bool.false_ne_true⟩

/-- The kernel's end: the four results and the arguments, and every semaphore at zero. -/
def Ends : PUnit × MemSt nD τ sig (Elt Ideal) → Prop := fun r =>
  (∀ c : Dev nD,
    r.2.mem ((c.tc : Thread nD τ).loc main_v48) = RowsSc.rowsOf (A0 m c) (inds m c)
    ∧ r.2.mem ((c.tc : Thread nD τ).loc main_v49) = RowsSc.rowsOf (A1 m c) (inds m c)
    ∧ r.2.mem ((c.tc : Thread nD τ).loc main_v52) = RowsSc.batchOf
    ∧ r.2.mem ((c.tc : Thread nD τ).loc main_v33) = inds m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

/-- The kernel runs to that end. -/
theorem run_value (ρ : Dev nD → PrngReg) :
    θ_run (Cert.KernelIdeal.defs (F := Ideal)) (Cert.KernelIdeal.threads (F := Ideal)) ⟨m, fun _ => 0, ρ⟩ (Ends m) :=
  (θ_run (Cert.KernelIdeal.defs (F := Ideal)) _ _).mono (fun _ hq => ⟨fun c =>
    ⟨(hq.1 c _ (mem_uc main_v48 rfl)).trans (end_v48 m c), (hq.1 c _ (mem_uc main_v49 rfl)).trans (end_v49 m c),
      (hq.1 c _ (mem_uc main_v52 rfl)).trans (end_v52 m c), (hq.1 c _ (mem_uc main_v33 rfl)).trans (U12_v33 m c),
      (hq.1 c _ (mem_uc main_arg0 rfl)).trans (U12_arg0 m c), (hq.1 c _ (mem_uc main_arg1 rfl)).trans (U12_arg1 m c),
      (hq.1 c _ (mem_uc main_arg2 rfl)).trans (U12_arg2 m c)⟩, hq.2⟩)
    (run_main m ρ (range1 m) (range2 m))

end Kernel

section Reference

open Cert.ReferenceIdeal Cert.ReferenceIdeal.Gen

variable (m : (ℓ : Loc nD τ sig) → Buf (Elt Ideal) ℓ) (c : Dev nD)

/-- The indices the reference computes from its own arguments. -/
abbrev refAt : S4x128x32.Idx → BitVec 32 :=
  KRef.refInds (m ((c.tc : Thread nD τ).loc main_arg0)) (m ((c.tc : Thread nD τ).loc main_arg1)) (m ((c.tc : Thread nD τ).loc main_arg2))

/-- The reference's first result is the rows of the first table at them. -/
theorem ref_v31 (h : ∀ j, (refAt m c j).toNat < 50000) :
    Value.res_main_v31 m c = RowsSc.rowsOf (m ((c.tc : Thread nD τ).loc main_arg0) : S4x50000x32.Idx → Elt Ideal .f32) (refAt m c) := by
  refine Eq.trans ?_ (RowsSc.ref_rows _ (refAt m c) h)
  unfold Value.res_main_v31
  rfl

/-- The reference's second result is the rows of the second table at them. -/
theorem ref_v45 (h : ∀ j, (refAt m c j).toNat < 50000) :
    Value.res_main_v45 m c = RowsSc.rowsOf (m ((c.tc : Thread nD τ).loc main_arg1) : S4x50000x32.Idx → Elt Ideal .f32) (refAt m c) := by
  refine Eq.trans ?_ (RowsSc.ref_rows _ (refAt m c) h)
  unfold Value.res_main_v45
  rfl

/-- The reference's end: the four results and the arguments. -/
theorem ref_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = Value.res_main_v31 m c
      ∧ r.2.mem ((c.tc : Thread nD τ).loc main_v45) = Value.res_main_v45 m c
      ∧ r.2.mem ((c.tc : Thread nD τ).loc main_v17) = RowsSc.batchOf
      ∧ r.2.mem ((c.tc : Thread nD τ).loc main_indices) = refAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ hr c => by
    obtain ⟨h0, h1, h2, h3, h4⟩ := hr c
    exact ⟨h0, h1, h2.trans rfl, h3.trans rfl, h4⟩) (Value.run (F := Ideal) m ρ)

end Reference

end Cert.Proof.KSc

end
-- ==== Proof.lean ====
module

public import proofs.«01_k».proof.Defs
public import proofs.«01_k».proof.Proof.Gen.Rows
public import proofs.«01_k».proof.Proof.Gen.RowsIdeal
public import proofs.«01_k».proof.Proof.Gen.RowsRefIdeal
public import proofs.«01_k».proof.Proof.Gen.RowsRefIdeal.Run
public import proofs.«01_k».proof.Proof.Gen.Pre_indices_in_rows
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init
public import Idealize.ShloMosaic.Lib.Quiescent
public import proofs.«01_k».proof.Proof.RowsValue
public import proofs.«01_k».proof.Proof.KEnd

@[expose] public section

noncomputable section

namespace Cert.Proof

open Idealize.ShloMosaic Idealize.SL.Sem

attribute [local instance] Cert.KernelIdeal.Gen.facts Cert.ReferenceIdeal.Gen.facts Cert.Pre_finite.Gen.facts
attribute [local instance] Cert.Rows.Gen.facts Cert.RowsIdeal.Gen.facts Cert.RowsRefIdeal.Gen.facts Cert.Pre_indices_in_rows.Gen.facts

/-- The row gather as printed runs, leaves its arguments unchanged and every semaphore at zero. -/
theorem frame_rows : Cert.quiescent_Rows := fun m ρ h =>
  (θ_run (Cert.RowsIdeal.defs (F := Bits)) _ _).mono (fun _ hr => ⟨fun c => ⟨(hr.1 c).2.2.2.1, (hr.1 c).2.2.2.2.1, (hr.1 c).2.2.2.2.2⟩, hr.2⟩)
    (RowsSc.run_value (F := Bits) m ρ (fun d j => RowsSc.below_of_pre _ _ _ (h d) j))

/-- The idealized row gather runs, leaves its arguments unchanged and every semaphore at zero. -/
theorem frame_rowsIdeal : Cert.quiescent_RowsIdeal := fun m ρ h =>
  (θ_run (Cert.RowsIdeal.defs (F := Ideal)) _ _).mono (fun _ hr => ⟨fun c => ⟨(hr.1 c).2.2.2.1, (hr.1 c).2.2.2.2.1, (hr.1 c).2.2.2.2.2⟩, hr.2⟩)
    (RowsSc.run_value (F := Ideal) m ρ (fun d j => RowsSc.below_of_pre _ _ _ (h d) j))

/-- The reference runs, leaves its arguments unchanged; it has no semaphore. -/
theorem frame_rowsRef : Cert.quiescent_RowsRefIdeal := fun m ρ _ =>
  (θ_run (Cert.RowsRefIdeal.defs (F := Ideal)) _ _).mono
    (fun _ hr => ⟨fun c => ⟨(hr c).2.2.2.1, (hr c).2.2.2.2.1, (hr c).2.2.2.2.2⟩, sem_eq_zero_of_no_sems rfl _⟩)
    (Cert.RowsRefIdeal.Value.run (F := Ideal) m ρ)

/-- Over the extended reals the row gather and its reference end with the same three arrays. -/
theorem equal_rows : Cert.algebraic_RowsIdeal_RowsRefIdeal := by
  intro m g m' g' hpre hagree
  have hin : RowsSc.InRows m := fun d j => RowsSc.below_of_pre _ _ _ (hpre d) j
  refine ⟨fun c => RowsSc.rowsOf (RowsSc.A0 m c) (RowsSc.A2 m c), fun c => RowsSc.rowsOf (RowsSc.A1 m c) (RowsSc.A2 m c),
    fun _ => RowsSc.batchOf, ?_, ?_⟩
  · exact (θ_run (Cert.RowsIdeal.defs (F := Ideal)) _ _).mono (fun _ hr => hr.1) (RowsSc.run_value (F := Ideal) m g hin)
  · refine (θ_run (Cert.RowsRefIdeal.defs (F := Ideal)) _ _).mono (fun _ hr c => ?_) (Cert.RowsRefIdeal.Value.run (F := Ideal) m' g')
    obtain ⟨h0, h1, h2, h3⟩ := hr c
    obtain ⟨a0, a1, a2⟩ := hagree c
    refine ⟨h0.trans ?_, h1.trans ?_, h2.trans rfl, h3⟩
    · rw [a0, a2]
      exact RowsSc.ref_rows _ _ (hin c)
    · rw [a1, a2]
      exact RowsSc.ref_rows _ _ (hin c)

/-- The whole kernel over the extended reals runs, leaves its arguments unchanged and every semaphore at zero. -/
theorem frame_kernelIdeal : Cert.quiescent_KernelIdeal := fun m ρ _ =>
  (θ_run (Cert.KernelIdeal.defs (F := Ideal)) _ _).mono
    (fun _ hr => ⟨fun c => ⟨(hr.1 c).2.2.2.2.1, (hr.1 c).2.2.2.2.2.1, (hr.1 c).2.2.2.2.2.2⟩, hr.2⟩)
    (KSc.run_value m ρ)

/-- Its reference runs, leaves its arguments unchanged; it has no semaphore. -/
theorem frame_referenceIdeal : Cert.quiescent_ReferenceIdeal := fun m ρ _ =>
  (θ_run (Cert.ReferenceIdeal.defs (F := Ideal)) _ _).mono
    (fun _ hr => ⟨fun c => ⟨(hr c).2.2.2.2.1, (hr c).2.2.2.2.2.1, (hr c).2.2.2.2.2.2⟩, sem_eq_zero_of_no_sems rfl _⟩)
    (KSc.ref_run m ρ)

/-- On finite arguments, over the extended reals, the whole kernel and the reference end with the same four arrays. -/
theorem equal_kernel : Cert.algebraic_KernelIdeal_ReferenceIdeal_pre_finite := by
  intro m g m' g' hpre hagree
  have h : KSc.AllReal m := fun d => KSc.finite_of_pre _ _ _ (hpre d)
  refine ⟨fun c => RowsSc.rowsOf (KSc.A0 m c) (KSc.inds m c), fun c => RowsSc.rowsOf (KSc.A1 m c) (KSc.inds m c),
    fun _ => RowsSc.batchOf, fun c => KSc.inds m c, ?_, ?_⟩
  · exact (θ_run (Cert.KernelIdeal.defs (F := Ideal)) _ _).mono (fun _ hr => hr.1) (KSc.run_value m g)
  · refine (θ_run (Cert.ReferenceIdeal.defs (F := Ideal)) _ _).mono (fun _ hr c => ?_) (KSc.ref_run m' g')
    obtain ⟨h0, h1, h2, h3, h4⟩ := hr c
    obtain ⟨a0, a1, a2⟩ := hagree c
    have e : KSc.refAt m' c = KSc.inds m c := by
      unfold KSc.refAt
      rw [a0, a1, a2]
      exact (KRef.ref_picks _ _ _ (h c).1 (h c).2.1 (h c).2.2).unique (KSc.inds_picks m h c)
    have hlt : ∀ j, (KSc.refAt m' c j).toNat < 50000 := fun j => by rw [e]; exact KSc.inds_lt m c j
    refine ⟨h0.trans ((KSc.ref_v31 m' c hlt).trans ?_), h1.trans ((KSc.ref_v45 m' c hlt).trans ?_), h2, h3.trans e, h4⟩
    · rw [a0, e]
    · rw [a1, e]

/-- The claims of the whole kernel and of the row gather. -/
theorem claim : Cert.Claim :=
  ⟨Cert.KernelIdeal.Gen.facts, Cert.ReferenceIdeal.Gen.facts, Cert.Rows.Gen.facts, Cert.RowsIdeal.Gen.facts, Cert.RowsRefIdeal.Gen.facts,
    Cert.Pre_finite.Gen.facts, Cert.Pre_indices_in_rows.Gen.facts,
    frame_kernelIdeal, fun m ρ _ => frame_kernelIdeal m ρ trivial, frame_referenceIdeal, fun m ρ _ => frame_referenceIdeal m ρ trivial, frame_rows, frame_rowsIdeal, frame_rowsRef, equal_kernel, trivial, equal_rows⟩

end Cert.Proof

end
